-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 256, 4, 64]⟩ ⟨4, ![2, 256, 128, 64]⟩ 2 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 256, 4, 64]⟩ ⟨4, ![2, 256, 128, 64]⟩ 2 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v33) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x512 : Shape := ⟨3, ![2, 256, 512]⟩
abbrev S512x8192 : Shape := ⟨2, ![512, 8192]⟩
abbrev S2x256x4x64 : Shape := ⟨4, ![2, 256, 4, 64]⟩
abbrev S8192x512 : Shape := ⟨2, ![8192, 512]⟩
abbrev S512x256 : Shape := ⟨2, ![512, 256]⟩
abbrev S256x512 : Shape := ⟨2, ![256, 512]⟩
abbrev S512x512 : Shape := ⟨2, ![512, 512]⟩
abbrev S32x16x512 : Shape := ⟨3, ![32, 16, 512]⟩
abbrev S2 : Shape := ⟨1, ![2]⟩
abbrev S2x32 : Shape := ⟨2, ![2, 32]⟩
abbrev S1 : Shape := ⟨1, ![1]⟩
abbrev S_ : Shape := ⟨0, ![]⟩
abbrev S256x256 : Shape := ⟨2, ![256, 256]⟩
abbrev S256x64 : Shape := ⟨2, ![256, 64]⟩
abbrev S1x256x1x64 : Shape := ⟨4, ![1, 256, 1, 64]⟩
abbrev S256 : Shape := ⟨1, ![256]⟩
abbrev S256x1 : Shape := ⟨2, ![256, 1]⟩
abbrev S16x512 : Shape := ⟨2, ![16, 512]⟩
abbrev S1x16x512 : Shape := ⟨3, ![1, 16, 512]⟩
abbrev S1x1 : Shape := ⟨2, ![1, 1]⟩
abbrev S1x16x256 : Shape := ⟨3, ![1, 16, 256]⟩
abbrev S16x256 : Shape := ⟨2, ![16, 256]⟩
abbrev S32x16x256 : Shape := ⟨3, ![32, 16, 256]⟩

abbrev nBuf : Space → Nat
  | .hbm => 6
  | .vmem => 9
  | .smem => 0
  | _ => 0

abbrev bufTy : (tb : Table) → Fin (tcTables nBuf tb) → BufTy
  | .hbm, ⟨0, _⟩ => ⟨S2x256x512, .f32⟩
  | .hbm, ⟨1, _⟩ => ⟨S512x8192, .f32⟩
  | .hbm, ⟨2, _⟩ => ⟨S2x256x4x64, .f32⟩
  | .hbm, ⟨3, _⟩ => ⟨S2x256x4x64, .f32⟩
  | .hbm, ⟨4, _⟩ => ⟨S8192x512, .f32⟩
  | .hbm, ⟨5, _⟩ => ⟨S2x256x512, .f32⟩
  | .local _ .vmem, ⟨0, _⟩ => ⟨S2x256x512, .f32⟩
  | .local _ .vmem, ⟨1, _⟩ => ⟨S2x256x4x64, .f32⟩
  | .local _ .vmem, ⟨2, _⟩ => ⟨S2x256x4x64, .f32⟩
  | .local _ .vmem, ⟨3, _⟩ => ⟨S2x256x512, .f32⟩
  | .local _ .vmem, ⟨4, _⟩ => ⟨S512x256, .f32⟩
  | .local _ .vmem, ⟨5, _⟩ => ⟨S256x512, .f32⟩
  | .local _ .vmem, ⟨6, _⟩ => ⟨S512x512, .bf16⟩
  | .local _ .vmem, ⟨7, _⟩ => ⟨S32x16x512, .bf16⟩
  | .local _ .vmem, ⟨8, _⟩ => ⟨S32x16x512, .bf16⟩
  | _, _ => ⟨S2x256x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | _ => false

abbrev dmaSemScopedAt (i : Nat) : Bool := match i / 128 with
  | 0 => dmaSemScopedAt0_0 i
  | 1 => dmaSemScopedAt0_1 i
  | 2 => dmaSemScopedAt0_2 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 262 → Bool
  | ⟨i, _⟩ => dmaSemScopedAt i

abbrev sig : RefSig :=
  (ofTc nBuf bufTy 1 262 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_off1 (d0 : Dev nD) : Fin 2 → Nat :=
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32 : BitVec 32 := 256#32
  let v3 : BitVec 32 := Scalar.muli v2 c256_i32
  ![0, v3.toNat]
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_0 : BitVec 32 := 256#32
  let v4 : BitVec 32 := Scalar.muli v2 c256_i32_0
  let c0_i32_3 : BitVec 32 := 0#32
  ![v4.toNat, 0]
def k0_dev1 (d0 : Dev nD) : Nat :=
  let c0_i32_12 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v12 : BitVec 32 := Scalar.addi v2 c16_i32
  let c32_i32_4 : BitVec 32 := 32#32
  let c0_i32_5 : BitVec 32 := 0#32
  let v13 : BitVec 1 := Scalar.cmpi .eq c32_i32_4 c0_i32_5
  let c1_i32_6 : BitVec 32 := 1#32
  let v14 : BitVec 32 := Scalar.select v13 c1_i32_6 c32_i32_4
  let v15 : BitVec 32 := Scalar.remsi v12 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let c1_i32_11 : BitVec 32 := 1#32
  let v23 : BitVec 32 := Scalar.muli v22 c1_i32_11
  let v24 : BitVec 32 := Scalar.addi c0_i32_12 v23
  v24.toNat
def k0_dev2 (d0 : Dev nD) : Nat :=
  let c0_i32_21 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v25 : BitVec 32 := Scalar.addi v2 c15_i32
  let c32_i32_13 : BitVec 32 := 32#32
  let c0_i32_14 : BitVec 32 := 0#32
  let v26 : BitVec 1 := Scalar.cmpi .eq c32_i32_13 c0_i32_14
  let c1_i32_15 : BitVec 32 := 1#32
  let v27 : BitVec 32 := Scalar.select v26 c1_i32_15 c32_i32_13
  let v28 : BitVec 32 := Scalar.remsi v25 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let c1_i32_20 : BitVec 32 := 1#32
  let v36 : BitVec 32 := Scalar.muli v35 c1_i32_20
  let v37 : BitVec 32 := Scalar.addi c0_i32_21 v36
  v37.toNat
def k0_dev3 (d0 : Dev nD) : Nat :=
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v38 : BitVec 32 := Scalar.addi v2 c17_i32
  let c32_i32_22 : BitVec 32 := 32#32
  let c0_i32_23 : BitVec 32 := 0#32
  let v39 : BitVec 1 := Scalar.cmpi .eq c32_i32_22 c0_i32_23
  let c1_i32_24 : BitVec 32 := 1#32
  let v40 : BitVec 32 := Scalar.select v39 c1_i32_24 c32_i32_22
  let v41 : BitVec 32 := Scalar.remsi v38 v40
  let c0_i32_26 : BitVec 32 := 0#32
  let v43 : BitVec 1 := Scalar.cmpi .slt v41 c0_i32_26
  let c0_i32_27 : BitVec 32 := 0#32
  let v44 : BitVec 1 := Scalar.cmpi .slt v40 c0_i32_27
  let v45 : BitVec 1 := Scalar.xori v43 v44
  let c0_i32_25 : BitVec 32 := 0#32
  let v42 : BitVec 1 := Scalar.cmpi .ne v41 c0_i32_25
  let v46 : BitVec 1 := Scalar.andi v45 v42
  let v47 : BitVec 32 := Scalar.addi v41 v40
  let v48 : BitVec 32 := Scalar.select v46 v47 v41
  let c1_i32_29 : BitVec 32 := 1#32
  let v49 : BitVec 32 := Scalar.muli v48 c1_i32_29
  let v50 : BitVec 32 := Scalar.addi c0_i32_30 v49
  v50.toNat
def k0_dev4 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v51 : BitVec 32 := Scalar.addi v2 c14_i32
  let c32_i32_31 : BitVec 32 := 32#32
  let c0_i32_32 : BitVec 32 := 0#32
  let v52 : BitVec 1 := Scalar.cmpi .eq c32_i32_31 c0_i32_32
  let c1_i32_33 : BitVec 32 := 1#32
  let v53 : BitVec 32 := Scalar.select v52 c1_i32_33 c32_i32_31
  let v54 : BitVec 32 := Scalar.remsi v51 v53
  let c0_i32_35 : BitVec 32 := 0#32
  let v56 : BitVec 1 := Scalar.cmpi .slt v54 c0_i32_35
  let c0_i32_36 : BitVec 32 := 0#32
  let v57 : BitVec 1 := Scalar.cmpi .slt v53 c0_i32_36
  let v58 : BitVec 1 := Scalar.xori v56 v57
  let c0_i32_34 : BitVec 32 := 0#32
  let v55 : BitVec 1 := Scalar.cmpi .ne v54 c0_i32_34
  let v59 : BitVec 1 := Scalar.andi v58 v55
  let v60 : BitVec 32 := Scalar.addi v54 v53
  let v61 : BitVec 32 := Scalar.select v59 v60 v54
  let c1_i32_38 : BitVec 32 := 1#32
  let v62 : BitVec 32 := Scalar.muli v61 c1_i32_38
  let v63 : BitVec 32 := Scalar.addi c0_i32_39 v62
  v63.toNat
def k0_dev5 (d0 : Dev nD) : Nat :=
  let c0_i32_48 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v64 : BitVec 32 := Scalar.addi v2 c18_i32
  let c32_i32_40 : BitVec 32 := 32#32
  let c0_i32_41 : BitVec 32 := 0#32
  let v65 : BitVec 1 := Scalar.cmpi .eq c32_i32_40 c0_i32_41
  let c1_i32_42 : BitVec 32 := 1#32
  let v66 : BitVec 32 := Scalar.select v65 c1_i32_42 c32_i32_40
  let v67 : BitVec 32 := Scalar.remsi v64 v66
  let c0_i32_44 : BitVec 32 := 0#32
  let v69 : BitVec 1 := Scalar.cmpi .slt v67 c0_i32_44
  let c0_i32_45 : BitVec 32 := 0#32
  let v70 : BitVec 1 := Scalar.cmpi .slt v66 c0_i32_45
  let v71 : BitVec 1 := Scalar.xori v69 v70
  let c0_i32_43 : BitVec 32 := 0#32
  let v68 : BitVec 1 := Scalar.cmpi .ne v67 c0_i32_43
  let v72 : BitVec 1 := Scalar.andi v71 v68
  let v73 : BitVec 32 := Scalar.addi v67 v66
  let v74 : BitVec 32 := Scalar.select v72 v73 v67
  let c1_i32_47 : BitVec 32 := 1#32
  let v75 : BitVec 32 := Scalar.muli v74 c1_i32_47
  let v76 : BitVec 32 := Scalar.addi c0_i32_48 v75
  v76.toNat
def k0_dev6 (d0 : Dev nD) : Nat :=
  let c0_i32_57 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v77 : BitVec 32 := Scalar.addi v2 c13_i32
  let c32_i32_49 : BitVec 32 := 32#32
  let c0_i32_50 : BitVec 32 := 0#32
  let v78 : BitVec 1 := Scalar.cmpi .eq c32_i32_49 c0_i32_50
  let c1_i32_51 : BitVec 32 := 1#32
  let v79 : BitVec 32 := Scalar.select v78 c1_i32_51 c32_i32_49
  let v80 : BitVec 32 := Scalar.remsi v77 v79
  let c0_i32_53 : BitVec 32 := 0#32
  let v82 : BitVec 1 := Scalar.cmpi .slt v80 c0_i32_53
  let c0_i32_54 : BitVec 32 := 0#32
  let v83 : BitVec 1 := Scalar.cmpi .slt v79 c0_i32_54
  let v84 : BitVec 1 := Scalar.xori v82 v83
  let c0_i32_52 : BitVec 32 := 0#32
  let v81 : BitVec 1 := Scalar.cmpi .ne v80 c0_i32_52
  let v85 : BitVec 1 := Scalar.andi v84 v81
  let v86 : BitVec 32 := Scalar.addi v80 v79
  let v87 : BitVec 32 := Scalar.select v85 v86 v80
  let c1_i32_56 : BitVec 32 := 1#32
  let v88 : BitVec 32 := Scalar.muli v87 c1_i32_56
  let v89 : BitVec 32 := Scalar.addi c0_i32_57 v88
  v89.toNat
def k0_dev7 (d0 : Dev nD) : Nat :=
  let c0_i32_66 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v90 : BitVec 32 := Scalar.addi v2 c19_i32
  let c32_i32_58 : BitVec 32 := 32#32
  let c0_i32_59 : BitVec 32 := 0#32
  let v91 : BitVec 1 := Scalar.cmpi .eq c32_i32_58 c0_i32_59
  let c1_i32_60 : BitVec 32 := 1#32
  let v92 : BitVec 32 := Scalar.select v91 c1_i32_60 c32_i32_58
  let v93 : BitVec 32 := Scalar.remsi v90 v92
  let c0_i32_62 : BitVec 32 := 0#32
  let v95 : BitVec 1 := Scalar.cmpi .slt v93 c0_i32_62
  let c0_i32_63 : BitVec 32 := 0#32
  let v96 : BitVec 1 := Scalar.cmpi .slt v92 c0_i32_63
  let v97 : BitVec 1 := Scalar.xori v95 v96
  let c0_i32_61 : BitVec 32 := 0#32
  let v94 : BitVec 1 := Scalar.cmpi .ne v93 c0_i32_61
  let v98 : BitVec 1 := Scalar.andi v97 v94
  let v99 : BitVec 32 := Scalar.addi v93 v92
  let v100 : BitVec 32 := Scalar.select v98 v99 v93
  let c1_i32_65 : BitVec 32 := 1#32
  let v101 : BitVec 32 := Scalar.muli v100 c1_i32_65
  let v102 : BitVec 32 := Scalar.addi c0_i32_66 v101
  v102.toNat
def k0_dev8 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v103 : BitVec 32 := Scalar.addi v2 c12_i32
  let c32_i32_67 : BitVec 32 := 32#32
  let c0_i32_68 : BitVec 32 := 0#32
  let v104 : BitVec 1 := Scalar.cmpi .eq c32_i32_67 c0_i32_68
  let c1_i32_69 : BitVec 32 := 1#32
  let v105 : BitVec 32 := Scalar.select v104 c1_i32_69 c32_i32_67
  let v106 : BitVec 32 := Scalar.remsi v103 v105
  let c0_i32_71 : BitVec 32 := 0#32
  let v108 : BitVec 1 := Scalar.cmpi .slt v106 c0_i32_71
  let c0_i32_72 : BitVec 32 := 0#32
  let v109 : BitVec 1 := Scalar.cmpi .slt v105 c0_i32_72
  let v110 : BitVec 1 := Scalar.xori v108 v109
  let c0_i32_70 : BitVec 32 := 0#32
  let v107 : BitVec 1 := Scalar.cmpi .ne v106 c0_i32_70
  let v111 : BitVec 1 := Scalar.andi v110 v107
  let v112 : BitVec 32 := Scalar.addi v106 v105
  let v113 : BitVec 32 := Scalar.select v111 v112 v106
  let c1_i32_74 : BitVec 32 := 1#32
  let v114 : BitVec 32 := Scalar.muli v113 c1_i32_74
  let v115 : BitVec 32 := Scalar.addi c0_i32_75 v114
  v115.toNat
def k0_dev9 (d0 : Dev nD) : Nat :=
  let c0_i32_84 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v116 : BitVec 32 := Scalar.addi v2 c20_i32
  let c32_i32_76 : BitVec 32 := 32#32
  let c0_i32_77 : BitVec 32 := 0#32
  let v117 : BitVec 1 := Scalar.cmpi .eq c32_i32_76 c0_i32_77
  let c1_i32_78 : BitVec 32 := 1#32
  let v118 : BitVec 32 := Scalar.select v117 c1_i32_78 c32_i32_76
  let v119 : BitVec 32 := Scalar.remsi v116 v118
  let c0_i32_80 : BitVec 32 := 0#32
  let v121 : BitVec 1 := Scalar.cmpi .slt v119 c0_i32_80
  let c0_i32_81 : BitVec 32 := 0#32
  let v122 : BitVec 1 := Scalar.cmpi .slt v118 c0_i32_81
  let v123 : BitVec 1 := Scalar.xori v121 v122
  let c0_i32_79 : BitVec 32 := 0#32
  let v120 : BitVec 1 := Scalar.cmpi .ne v119 c0_i32_79
  let v124 : BitVec 1 := Scalar.andi v123 v120
  let v125 : BitVec 32 := Scalar.addi v119 v118
  let v126 : BitVec 32 := Scalar.select v124 v125 v119
  let c1_i32_83 : BitVec 32 := 1#32
  let v127 : BitVec 32 := Scalar.muli v126 c1_i32_83
  let v128 : BitVec 32 := Scalar.addi c0_i32_84 v127
  v128.toNat
def k0_dev10 (d0 : Dev nD) : Nat :=
  let c0_i32_93 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v129 : BitVec 32 := Scalar.addi v2 c11_i32
  let c32_i32_85 : BitVec 32 := 32#32
  let c0_i32_86 : BitVec 32 := 0#32
  let v130 : BitVec 1 := Scalar.cmpi .eq c32_i32_85 c0_i32_86
  let c1_i32_87 : BitVec 32 := 1#32
  let v131 : BitVec 32 := Scalar.select v130 c1_i32_87 c32_i32_85
  let v132 : BitVec 32 := Scalar.remsi v129 v131
  let c0_i32_89 : BitVec 32 := 0#32
  let v134 : BitVec 1 := Scalar.cmpi .slt v132 c0_i32_89
  let c0_i32_90 : BitVec 32 := 0#32
  let v135 : BitVec 1 := Scalar.cmpi .slt v131 c0_i32_90
  let v136 : BitVec 1 := Scalar.xori v134 v135
  let c0_i32_88 : BitVec 32 := 0#32
  let v133 : BitVec 1 := Scalar.cmpi .ne v132 c0_i32_88
  let v137 : BitVec 1 := Scalar.andi v136 v133
  let v138 : BitVec 32 := Scalar.addi v132 v131
  let v139 : BitVec 32 := Scalar.select v137 v138 v132
  let c1_i32_92 : BitVec 32 := 1#32
  let v140 : BitVec 32 := Scalar.muli v139 c1_i32_92
  let v141 : BitVec 32 := Scalar.addi c0_i32_93 v140
  v141.toNat
def k0_dev11 (d0 : Dev nD) : Nat :=
  let c0_i32_102 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v142 : BitVec 32 := Scalar.addi v2 c21_i32
  let c32_i32_94 : BitVec 32 := 32#32
  let c0_i32_95 : BitVec 32 := 0#32
  let v143 : BitVec 1 := Scalar.cmpi .eq c32_i32_94 c0_i32_95
  let c1_i32_96 : BitVec 32 := 1#32
  let v144 : BitVec 32 := Scalar.select v143 c1_i32_96 c32_i32_94
  let v145 : BitVec 32 := Scalar.remsi v142 v144
  let c0_i32_98 : BitVec 32 := 0#32
  let v147 : BitVec 1 := Scalar.cmpi .slt v145 c0_i32_98
  let c0_i32_99 : BitVec 32 := 0#32
  let v148 : BitVec 1 := Scalar.cmpi .slt v144 c0_i32_99
  let v149 : BitVec 1 := Scalar.xori v147 v148
  let c0_i32_97 : BitVec 32 := 0#32
  let v146 : BitVec 1 := Scalar.cmpi .ne v145 c0_i32_97
  let v150 : BitVec 1 := Scalar.andi v149 v146
  let v151 : BitVec 32 := Scalar.addi v145 v144
  let v152 : BitVec 32 := Scalar.select v150 v151 v145
  let c1_i32_101 : BitVec 32 := 1#32
  let v153 : BitVec 32 := Scalar.muli v152 c1_i32_101
  let v154 : BitVec 32 := Scalar.addi c0_i32_102 v153
  v154.toNat
def k0_dev12 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v155 : BitVec 32 := Scalar.addi v2 c10_i32
  let c32_i32_103 : BitVec 32 := 32#32
  let c0_i32_104 : BitVec 32 := 0#32
  let v156 : BitVec 1 := Scalar.cmpi .eq c32_i32_103 c0_i32_104
  let c1_i32_105 : BitVec 32 := 1#32
  let v157 : BitVec 32 := Scalar.select v156 c1_i32_105 c32_i32_103
  let v158 : BitVec 32 := Scalar.remsi v155 v157
  let c0_i32_107 : BitVec 32 := 0#32
  let v160 : BitVec 1 := Scalar.cmpi .slt v158 c0_i32_107
  let c0_i32_108 : BitVec 32 := 0#32
  let v161 : BitVec 1 := Scalar.cmpi .slt v157 c0_i32_108
  let v162 : BitVec 1 := Scalar.xori v160 v161
  let c0_i32_106 : BitVec 32 := 0#32
  let v159 : BitVec 1 := Scalar.cmpi .ne v158 c0_i32_106
  let v163 : BitVec 1 := Scalar.andi v162 v159
  let v164 : BitVec 32 := Scalar.addi v158 v157
  let v165 : BitVec 32 := Scalar.select v163 v164 v158
  let c1_i32_110 : BitVec 32 := 1#32
  let v166 : BitVec 32 := Scalar.muli v165 c1_i32_110
  let v167 : BitVec 32 := Scalar.addi c0_i32_111 v166
  v167.toNat
def k0_dev13 (d0 : Dev nD) : Nat :=
  let c0_i32_120 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v168 : BitVec 32 := Scalar.addi v2 c22_i32
  let c32_i32_112 : BitVec 32 := 32#32
  let c0_i32_113 : BitVec 32 := 0#32
  let v169 : BitVec 1 := Scalar.cmpi .eq c32_i32_112 c0_i32_113
  let c1_i32_114 : BitVec 32 := 1#32
  let v170 : BitVec 32 := Scalar.select v169 c1_i32_114 c32_i32_112
  let v171 : BitVec 32 := Scalar.remsi v168 v170
  let c0_i32_116 : BitVec 32 := 0#32
  let v173 : BitVec 1 := Scalar.cmpi .slt v171 c0_i32_116
  let c0_i32_117 : BitVec 32 := 0#32
  let v174 : BitVec 1 := Scalar.cmpi .slt v170 c0_i32_117
  let v175 : BitVec 1 := Scalar.xori v173 v174
  let c0_i32_115 : BitVec 32 := 0#32
  let v172 : BitVec 1 := Scalar.cmpi .ne v171 c0_i32_115
  let v176 : BitVec 1 := Scalar.andi v175 v172
  let v177 : BitVec 32 := Scalar.addi v171 v170
  let v178 : BitVec 32 := Scalar.select v176 v177 v171
  let c1_i32_119 : BitVec 32 := 1#32
  let v179 : BitVec 32 := Scalar.muli v178 c1_i32_119
  let v180 : BitVec 32 := Scalar.addi c0_i32_120 v179
  v180.toNat
def k0_dev14 (d0 : Dev nD) : Nat :=
  let c0_i32_129 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v181 : BitVec 32 := Scalar.addi v2 c9_i32
  let c32_i32_121 : BitVec 32 := 32#32
  let c0_i32_122 : BitVec 32 := 0#32
  let v182 : BitVec 1 := Scalar.cmpi .eq c32_i32_121 c0_i32_122
  let c1_i32_123 : BitVec 32 := 1#32
  let v183 : BitVec 32 := Scalar.select v182 c1_i32_123 c32_i32_121
  let v184 : BitVec 32 := Scalar.remsi v181 v183
  let c0_i32_125 : BitVec 32 := 0#32
  let v186 : BitVec 1 := Scalar.cmpi .slt v184 c0_i32_125
  let c0_i32_126 : BitVec 32 := 0#32
  let v187 : BitVec 1 := Scalar.cmpi .slt v183 c0_i32_126
  let v188 : BitVec 1 := Scalar.xori v186 v187
  let c0_i32_124 : BitVec 32 := 0#32
  let v185 : BitVec 1 := Scalar.cmpi .ne v184 c0_i32_124
  let v189 : BitVec 1 := Scalar.andi v188 v185
  let v190 : BitVec 32 := Scalar.addi v184 v183
  let v191 : BitVec 32 := Scalar.select v189 v190 v184
  let c1_i32_128 : BitVec 32 := 1#32
  let v192 : BitVec 32 := Scalar.muli v191 c1_i32_128
  let v193 : BitVec 32 := Scalar.addi c0_i32_129 v192
  v193.toNat
def k0_dev15 (d0 : Dev nD) : Nat :=
  let c0_i32_138 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v194 : BitVec 32 := Scalar.addi v2 c23_i32
  let c32_i32_130 : BitVec 32 := 32#32
  let c0_i32_131 : BitVec 32 := 0#32
  let v195 : BitVec 1 := Scalar.cmpi .eq c32_i32_130 c0_i32_131
  let c1_i32_132 : BitVec 32 := 1#32
  let v196 : BitVec 32 := Scalar.select v195 c1_i32_132 c32_i32_130
  let v197 : BitVec 32 := Scalar.remsi v194 v196
  let c0_i32_134 : BitVec 32 := 0#32
  let v199 : BitVec 1 := Scalar.cmpi .slt v197 c0_i32_134
  let c0_i32_135 : BitVec 32 := 0#32
  let v200 : BitVec 1 := Scalar.cmpi .slt v196 c0_i32_135
  let v201 : BitVec 1 := Scalar.xori v199 v200
  let c0_i32_133 : BitVec 32 := 0#32
  let v198 : BitVec 1 := Scalar.cmpi .ne v197 c0_i32_133
  let v202 : BitVec 1 := Scalar.andi v201 v198
  let v203 : BitVec 32 := Scalar.addi v197 v196
  let v204 : BitVec 32 := Scalar.select v202 v203 v197
  let c1_i32_137 : BitVec 32 := 1#32
  let v205 : BitVec 32 := Scalar.muli v204 c1_i32_137
  let v206 : BitVec 32 := Scalar.addi c0_i32_138 v205
  v206.toNat
def k0_dev16 (d0 : Dev nD) : Nat :=
  let c0_i32_147 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v207 : BitVec 32 := Scalar.addi v2 c8_i32
  let c32_i32_139 : BitVec 32 := 32#32
  let c0_i32_140 : BitVec 32 := 0#32
  let v208 : BitVec 1 := Scalar.cmpi .eq c32_i32_139 c0_i32_140
  let c1_i32_141 : BitVec 32 := 1#32
  let v209 : BitVec 32 := Scalar.select v208 c1_i32_141 c32_i32_139
  let v210 : BitVec 32 := Scalar.remsi v207 v209
  let c0_i32_143 : BitVec 32 := 0#32
  let v212 : BitVec 1 := Scalar.cmpi .slt v210 c0_i32_143
  let c0_i32_144 : BitVec 32 := 0#32
  let v213 : BitVec 1 := Scalar.cmpi .slt v209 c0_i32_144
  let v214 : BitVec 1 := Scalar.xori v212 v213
  let c0_i32_142 : BitVec 32 := 0#32
  let v211 : BitVec 1 := Scalar.cmpi .ne v210 c0_i32_142
  let v215 : BitVec 1 := Scalar.andi v214 v211
  let v216 : BitVec 32 := Scalar.addi v210 v209
  let v217 : BitVec 32 := Scalar.select v215 v216 v210
  let c1_i32_146 : BitVec 32 := 1#32
  let v218 : BitVec 32 := Scalar.muli v217 c1_i32_146
  let v219 : BitVec 32 := Scalar.addi c0_i32_147 v218
  v219.toNat
def k0_dev17 (d0 : Dev nD) : Nat :=
  let c0_i32_156 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v220 : BitVec 32 := Scalar.addi v2 c24_i32
  let c32_i32_148 : BitVec 32 := 32#32
  let c0_i32_149 : BitVec 32 := 0#32
  let v221 : BitVec 1 := Scalar.cmpi .eq c32_i32_148 c0_i32_149
  let c1_i32_150 : BitVec 32 := 1#32
  let v222 : BitVec 32 := Scalar.select v221 c1_i32_150 c32_i32_148
  let v223 : BitVec 32 := Scalar.remsi v220 v222
  let c0_i32_152 : BitVec 32 := 0#32
  let v225 : BitVec 1 := Scalar.cmpi .slt v223 c0_i32_152
  let c0_i32_153 : BitVec 32 := 0#32
  let v226 : BitVec 1 := Scalar.cmpi .slt v222 c0_i32_153
  let v227 : BitVec 1 := Scalar.xori v225 v226
  let c0_i32_151 : BitVec 32 := 0#32
  let v224 : BitVec 1 := Scalar.cmpi .ne v223 c0_i32_151
  let v228 : BitVec 1 := Scalar.andi v227 v224
  let v229 : BitVec 32 := Scalar.addi v223 v222
  let v230 : BitVec 32 := Scalar.select v228 v229 v223
  let c1_i32_155 : BitVec 32 := 1#32
  let v231 : BitVec 32 := Scalar.muli v230 c1_i32_155
  let v232 : BitVec 32 := Scalar.addi c0_i32_156 v231
  v232.toNat
def k0_dev18 (d0 : Dev nD) : Nat :=
  let c0_i32_165 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v233 : BitVec 32 := Scalar.addi v2 c7_i32
  let c32_i32_157 : BitVec 32 := 32#32
  let c0_i32_158 : BitVec 32 := 0#32
  let v234 : BitVec 1 := Scalar.cmpi .eq c32_i32_157 c0_i32_158
  let c1_i32_159 : BitVec 32 := 1#32
  let v235 : BitVec 32 := Scalar.select v234 c1_i32_159 c32_i32_157
  let v236 : BitVec 32 := Scalar.remsi v233 v235
  let c0_i32_161 : BitVec 32 := 0#32
  let v238 : BitVec 1 := Scalar.cmpi .slt v236 c0_i32_161
  let c0_i32_162 : BitVec 32 := 0#32
  let v239 : BitVec 1 := Scalar.cmpi .slt v235 c0_i32_162
  let v240 : BitVec 1 := Scalar.xori v238 v239
  let c0_i32_160 : BitVec 32 := 0#32
  let v237 : BitVec 1 := Scalar.cmpi .ne v236 c0_i32_160
  let v241 : BitVec 1 := Scalar.andi v240 v237
  let v242 : BitVec 32 := Scalar.addi v236 v235
  let v243 : BitVec 32 := Scalar.select v241 v242 v236
  let c1_i32_164 : BitVec 32 := 1#32
  let v244 : BitVec 32 := Scalar.muli v243 c1_i32_164
  let v245 : BitVec 32 := Scalar.addi c0_i32_165 v244
  v245.toNat
def k0_dev19 (d0 : Dev nD) : Nat :=
  let c0_i32_174 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v246 : BitVec 32 := Scalar.addi v2 c25_i32
  let c32_i32_166 : BitVec 32 := 32#32
  let c0_i32_167 : BitVec 32 := 0#32
  let v247 : BitVec 1 := Scalar.cmpi .eq c32_i32_166 c0_i32_167
  let c1_i32_168 : BitVec 32 := 1#32
  let v248 : BitVec 32 := Scalar.select v247 c1_i32_168 c32_i32_166
  let v249 : BitVec 32 := Scalar.remsi v246 v248
  let c0_i32_170 : BitVec 32 := 0#32
  let v251 : BitVec 1 := Scalar.cmpi .slt v249 c0_i32_170
  let c0_i32_171 : BitVec 32 := 0#32
  let v252 : BitVec 1 := Scalar.cmpi .slt v248 c0_i32_171
  let v253 : BitVec 1 := Scalar.xori v251 v252
  let c0_i32_169 : BitVec 32 := 0#32
  let v250 : BitVec 1 := Scalar.cmpi .ne v249 c0_i32_169
  let v254 : BitVec 1 := Scalar.andi v253 v250
  let v255 : BitVec 32 := Scalar.addi v249 v248
  let v256 : BitVec 32 := Scalar.select v254 v255 v249
  let c1_i32_173 : BitVec 32 := 1#32
  let v257 : BitVec 32 := Scalar.muli v256 c1_i32_173
  let v258 : BitVec 32 := Scalar.addi c0_i32_174 v257
  v258.toNat
def k0_dev20 (d0 : Dev nD) : Nat :=
  let c0_i32_183 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v259 : BitVec 32 := Scalar.addi v2 c6_i32
  let c32_i32_175 : BitVec 32 := 32#32
  let c0_i32_176 : BitVec 32 := 0#32
  let v260 : BitVec 1 := Scalar.cmpi .eq c32_i32_175 c0_i32_176
  let c1_i32_177 : BitVec 32 := 1#32
  let v261 : BitVec 32 := Scalar.select v260 c1_i32_177 c32_i32_175
  let v262 : BitVec 32 := Scalar.remsi v259 v261
  let c0_i32_179 : BitVec 32 := 0#32
  let v264 : BitVec 1 := Scalar.cmpi .slt v262 c0_i32_179
  let c0_i32_180 : BitVec 32 := 0#32
  let v265 : BitVec 1 := Scalar.cmpi .slt v261 c0_i32_180
  let v266 : BitVec 1 := Scalar.xori v264 v265
  let c0_i32_178 : BitVec 32 := 0#32
  let v263 : BitVec 1 := Scalar.cmpi .ne v262 c0_i32_178
  let v267 : BitVec 1 := Scalar.andi v266 v263
  let v268 : BitVec 32 := Scalar.addi v262 v261
  let v269 : BitVec 32 := Scalar.select v267 v268 v262
  let c1_i32_182 : BitVec 32 := 1#32
  let v270 : BitVec 32 := Scalar.muli v269 c1_i32_182
  let v271 : BitVec 32 := Scalar.addi c0_i32_183 v270
  v271.toNat
def k0_dev21 (d0 : Dev nD) : Nat :=
  let c0_i32_192 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v272 : BitVec 32 := Scalar.addi v2 c26_i32
  let c32_i32_184 : BitVec 32 := 32#32
  let c0_i32_185 : BitVec 32 := 0#32
  let v273 : BitVec 1 := Scalar.cmpi .eq c32_i32_184 c0_i32_185
  let c1_i32_186 : BitVec 32 := 1#32
  let v274 : BitVec 32 := Scalar.select v273 c1_i32_186 c32_i32_184
  let v275 : BitVec 32 := Scalar.remsi v272 v274
  let c0_i32_188 : BitVec 32 := 0#32
  let v277 : BitVec 1 := Scalar.cmpi .slt v275 c0_i32_188
  let c0_i32_189 : BitVec 32 := 0#32
  let v278 : BitVec 1 := Scalar.cmpi .slt v274 c0_i32_189
  let v279 : BitVec 1 := Scalar.xori v277 v278
  let c0_i32_187 : BitVec 32 := 0#32
  let v276 : BitVec 1 := Scalar.cmpi .ne v275 c0_i32_187
  let v280 : BitVec 1 := Scalar.andi v279 v276
  let v281 : BitVec 32 := Scalar.addi v275 v274
  let v282 : BitVec 32 := Scalar.select v280 v281 v275
  let c1_i32_191 : BitVec 32 := 1#32
  let v283 : BitVec 32 := Scalar.muli v282 c1_i32_191
  let v284 : BitVec 32 := Scalar.addi c0_i32_192 v283
  v284.toNat
def k0_dev22 (d0 : Dev nD) : Nat :=
  let c0_i32_201 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v285 : BitVec 32 := Scalar.addi v2 c5_i32
  let c32_i32_193 : BitVec 32 := 32#32
  let c0_i32_194 : BitVec 32 := 0#32
  let v286 : BitVec 1 := Scalar.cmpi .eq c32_i32_193 c0_i32_194
  let c1_i32_195 : BitVec 32 := 1#32
  let v287 : BitVec 32 := Scalar.select v286 c1_i32_195 c32_i32_193
  let v288 : BitVec 32 := Scalar.remsi v285 v287
  let c0_i32_197 : BitVec 32 := 0#32
  let v290 : BitVec 1 := Scalar.cmpi .slt v288 c0_i32_197
  let c0_i32_198 : BitVec 32 := 0#32
  let v291 : BitVec 1 := Scalar.cmpi .slt v287 c0_i32_198
  let v292 : BitVec 1 := Scalar.xori v290 v291
  let c0_i32_196 : BitVec 32 := 0#32
  let v289 : BitVec 1 := Scalar.cmpi .ne v288 c0_i32_196
  let v293 : BitVec 1 := Scalar.andi v292 v289
  let v294 : BitVec 32 := Scalar.addi v288 v287
  let v295 : BitVec 32 := Scalar.select v293 v294 v288
  let c1_i32_200 : BitVec 32 := 1#32
  let v296 : BitVec 32 := Scalar.muli v295 c1_i32_200
  let v297 : BitVec 32 := Scalar.addi c0_i32_201 v296
  v297.toNat
def k0_dev23 (d0 : Dev nD) : Nat :=
  let c0_i32_210 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v298 : BitVec 32 := Scalar.addi v2 c27_i32
  let c32_i32_202 : BitVec 32 := 32#32
  let c0_i32_203 : BitVec 32 := 0#32
  let v299 : BitVec 1 := Scalar.cmpi .eq c32_i32_202 c0_i32_203
  let c1_i32_204 : BitVec 32 := 1#32
  let v300 : BitVec 32 := Scalar.select v299 c1_i32_204 c32_i32_202
  let v301 : BitVec 32 := Scalar.remsi v298 v300
  let c0_i32_206 : BitVec 32 := 0#32
  let v303 : BitVec 1 := Scalar.cmpi .slt v301 c0_i32_206
  let c0_i32_207 : BitVec 32 := 0#32
  let v304 : BitVec 1 := Scalar.cmpi .slt v300 c0_i32_207
  let v305 : BitVec 1 := Scalar.xori v303 v304
  let c0_i32_205 : BitVec 32 := 0#32
  let v302 : BitVec 1 := Scalar.cmpi .ne v301 c0_i32_205
  let v306 : BitVec 1 := Scalar.andi v305 v302
  let v307 : BitVec 32 := Scalar.addi v301 v300
  let v308 : BitVec 32 := Scalar.select v306 v307 v301
  let c1_i32_209 : BitVec 32 := 1#32
  let v309 : BitVec 32 := Scalar.muli v308 c1_i32_209
  let v310 : BitVec 32 := Scalar.addi c0_i32_210 v309
  v310.toNat
def k0_dev24 (d0 : Dev nD) : Nat :=
  let c0_i32_219 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v311 : BitVec 32 := Scalar.addi v2 c4_i32
  let c32_i32_211 : BitVec 32 := 32#32
  let c0_i32_212 : BitVec 32 := 0#32
  let v312 : BitVec 1 := Scalar.cmpi .eq c32_i32_211 c0_i32_212
  let c1_i32_213 : BitVec 32 := 1#32
  let v313 : BitVec 32 := Scalar.select v312 c1_i32_213 c32_i32_211
  let v314 : BitVec 32 := Scalar.remsi v311 v313
  let c0_i32_215 : BitVec 32 := 0#32
  let v316 : BitVec 1 := Scalar.cmpi .slt v314 c0_i32_215
  let c0_i32_216 : BitVec 32 := 0#32
  let v317 : BitVec 1 := Scalar.cmpi .slt v313 c0_i32_216
  let v318 : BitVec 1 := Scalar.xori v316 v317
  let c0_i32_214 : BitVec 32 := 0#32
  let v315 : BitVec 1 := Scalar.cmpi .ne v314 c0_i32_214
  let v319 : BitVec 1 := Scalar.andi v318 v315
  let v320 : BitVec 32 := Scalar.addi v314 v313
  let v321 : BitVec 32 := Scalar.select v319 v320 v314
  let c1_i32_218 : BitVec 32 := 1#32
  let v322 : BitVec 32 := Scalar.muli v321 c1_i32_218
  let v323 : BitVec 32 := Scalar.addi c0_i32_219 v322
  v323.toNat
def k0_dev25 (d0 : Dev nD) : Nat :=
  let c0_i32_228 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v324 : BitVec 32 := Scalar.addi v2 c28_i32
  let c32_i32_220 : BitVec 32 := 32#32
  let c0_i32_221 : BitVec 32 := 0#32
  let v325 : BitVec 1 := Scalar.cmpi .eq c32_i32_220 c0_i32_221
  let c1_i32_222 : BitVec 32 := 1#32
  let v326 : BitVec 32 := Scalar.select v325 c1_i32_222 c32_i32_220
  let v327 : BitVec 32 := Scalar.remsi v324 v326
  let c0_i32_224 : BitVec 32 := 0#32
  let v329 : BitVec 1 := Scalar.cmpi .slt v327 c0_i32_224
  let c0_i32_225 : BitVec 32 := 0#32
  let v330 : BitVec 1 := Scalar.cmpi .slt v326 c0_i32_225
  let v331 : BitVec 1 := Scalar.xori v329 v330
  let c0_i32_223 : BitVec 32 := 0#32
  let v328 : BitVec 1 := Scalar.cmpi .ne v327 c0_i32_223
  let v332 : BitVec 1 := Scalar.andi v331 v328
  let v333 : BitVec 32 := Scalar.addi v327 v326
  let v334 : BitVec 32 := Scalar.select v332 v333 v327
  let c1_i32_227 : BitVec 32 := 1#32
  let v335 : BitVec 32 := Scalar.muli v334 c1_i32_227
  let v336 : BitVec 32 := Scalar.addi c0_i32_228 v335
  v336.toNat
def k0_dev26 (d0 : Dev nD) : Nat :=
  let c0_i32_237 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v337 : BitVec 32 := Scalar.addi v2 c3_i32
  let c32_i32_229 : BitVec 32 := 32#32
  let c0_i32_230 : BitVec 32 := 0#32
  let v338 : BitVec 1 := Scalar.cmpi .eq c32_i32_229 c0_i32_230
  let c1_i32_231 : BitVec 32 := 1#32
  let v339 : BitVec 32 := Scalar.select v338 c1_i32_231 c32_i32_229
  let v340 : BitVec 32 := Scalar.remsi v337 v339
  let c0_i32_233 : BitVec 32 := 0#32
  let v342 : BitVec 1 := Scalar.cmpi .slt v340 c0_i32_233
  let c0_i32_234 : BitVec 32 := 0#32
  let v343 : BitVec 1 := Scalar.cmpi .slt v339 c0_i32_234
  let v344 : BitVec 1 := Scalar.xori v342 v343
  let c0_i32_232 : BitVec 32 := 0#32
  let v341 : BitVec 1 := Scalar.cmpi .ne v340 c0_i32_232
  let v345 : BitVec 1 := Scalar.andi v344 v341
  let v346 : BitVec 32 := Scalar.addi v340 v339
  let v347 : BitVec 32 := Scalar.select v345 v346 v340
  let c1_i32_236 : BitVec 32 := 1#32
  let v348 : BitVec 32 := Scalar.muli v347 c1_i32_236
  let v349 : BitVec 32 := Scalar.addi c0_i32_237 v348
  v349.toNat
def k0_dev27 (d0 : Dev nD) : Nat :=
  let c0_i32_246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v350 : BitVec 32 := Scalar.addi v2 c29_i32
  let c32_i32_238 : BitVec 32 := 32#32
  let c0_i32_239 : BitVec 32 := 0#32
  let v351 : BitVec 1 := Scalar.cmpi .eq c32_i32_238 c0_i32_239
  let c1_i32_240 : BitVec 32 := 1#32
  let v352 : BitVec 32 := Scalar.select v351 c1_i32_240 c32_i32_238
  let v353 : BitVec 32 := Scalar.remsi v350 v352
  let c0_i32_242 : BitVec 32 := 0#32
  let v355 : BitVec 1 := Scalar.cmpi .slt v353 c0_i32_242
  let c0_i32_243 : BitVec 32 := 0#32
  let v356 : BitVec 1 := Scalar.cmpi .slt v352 c0_i32_243
  let v357 : BitVec 1 := Scalar.xori v355 v356
  let c0_i32_241 : BitVec 32 := 0#32
  let v354 : BitVec 1 := Scalar.cmpi .ne v353 c0_i32_241
  let v358 : BitVec 1 := Scalar.andi v357 v354
  let v359 : BitVec 32 := Scalar.addi v353 v352
  let v360 : BitVec 32 := Scalar.select v358 v359 v353
  let c1_i32_245 : BitVec 32 := 1#32
  let v361 : BitVec 32 := Scalar.muli v360 c1_i32_245
  let v362 : BitVec 32 := Scalar.addi c0_i32_246 v361
  v362.toNat
def k0_dev28 (d0 : Dev nD) : Nat :=
  let c0_i32_255 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v363 : BitVec 32 := Scalar.addi v2 c2_i32
  let c32_i32_247 : BitVec 32 := 32#32
  let c0_i32_248 : BitVec 32 := 0#32
  let v364 : BitVec 1 := Scalar.cmpi .eq c32_i32_247 c0_i32_248
  let c1_i32_249 : BitVec 32 := 1#32
  let v365 : BitVec 32 := Scalar.select v364 c1_i32_249 c32_i32_247
  let v366 : BitVec 32 := Scalar.remsi v363 v365
  let c0_i32_251 : BitVec 32 := 0#32
  let v368 : BitVec 1 := Scalar.cmpi .slt v366 c0_i32_251
  let c0_i32_252 : BitVec 32 := 0#32
  let v369 : BitVec 1 := Scalar.cmpi .slt v365 c0_i32_252
  let v370 : BitVec 1 := Scalar.xori v368 v369
  let c0_i32_250 : BitVec 32 := 0#32
  let v367 : BitVec 1 := Scalar.cmpi .ne v366 c0_i32_250
  let v371 : BitVec 1 := Scalar.andi v370 v367
  let v372 : BitVec 32 := Scalar.addi v366 v365
  let v373 : BitVec 32 := Scalar.select v371 v372 v366
  let c1_i32_254 : BitVec 32 := 1#32
  let v374 : BitVec 32 := Scalar.muli v373 c1_i32_254
  let v375 : BitVec 32 := Scalar.addi c0_i32_255 v374
  v375.toNat
def k0_dev29 (d0 : Dev nD) : Nat :=
  let c0_i32_264 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v376 : BitVec 32 := Scalar.addi v2 c30_i32
  let c32_i32_256 : BitVec 32 := 32#32
  let c0_i32_257 : BitVec 32 := 0#32
  let v377 : BitVec 1 := Scalar.cmpi .eq c32_i32_256 c0_i32_257
  let c1_i32_258 : BitVec 32 := 1#32
  let v378 : BitVec 32 := Scalar.select v377 c1_i32_258 c32_i32_256
  let v379 : BitVec 32 := Scalar.remsi v376 v378
  let c0_i32_260 : BitVec 32 := 0#32
  let v381 : BitVec 1 := Scalar.cmpi .slt v379 c0_i32_260
  let c0_i32_261 : BitVec 32 := 0#32
  let v382 : BitVec 1 := Scalar.cmpi .slt v378 c0_i32_261
  let v383 : BitVec 1 := Scalar.xori v381 v382
  let c0_i32_259 : BitVec 32 := 0#32
  let v380 : BitVec 1 := Scalar.cmpi .ne v379 c0_i32_259
  let v384 : BitVec 1 := Scalar.andi v383 v380
  let v385 : BitVec 32 := Scalar.addi v379 v378
  let v386 : BitVec 32 := Scalar.select v384 v385 v379
  let c1_i32_263 : BitVec 32 := 1#32
  let v387 : BitVec 32 := Scalar.muli v386 c1_i32_263
  let v388 : BitVec 32 := Scalar.addi c0_i32_264 v387
  v388.toNat
def k0_dev30 (d0 : Dev nD) : Nat :=
  let c0_i32_274 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_265 : BitVec 32 := 1#32
  let v389 : BitVec 32 := Scalar.addi v2 c1_i32_265
  let c32_i32_266 : BitVec 32 := 32#32
  let c0_i32_267 : BitVec 32 := 0#32
  let v390 : BitVec 1 := Scalar.cmpi .eq c32_i32_266 c0_i32_267
  let c1_i32_268 : BitVec 32 := 1#32
  let v391 : BitVec 32 := Scalar.select v390 c1_i32_268 c32_i32_266
  let v392 : BitVec 32 := Scalar.remsi v389 v391
  let c0_i32_270 : BitVec 32 := 0#32
  let v394 : BitVec 1 := Scalar.cmpi .slt v392 c0_i32_270
  let c0_i32_271 : BitVec 32 := 0#32
  let v395 : BitVec 1 := Scalar.cmpi .slt v391 c0_i32_271
  let v396 : BitVec 1 := Scalar.xori v394 v395
  let c0_i32_269 : BitVec 32 := 0#32
  let v393 : BitVec 1 := Scalar.cmpi .ne v392 c0_i32_269
  let v397 : BitVec 1 := Scalar.andi v396 v393
  let v398 : BitVec 32 := Scalar.addi v392 v391
  let v399 : BitVec 32 := Scalar.select v397 v398 v392
  let c1_i32_273 : BitVec 32 := 1#32
  let v400 : BitVec 32 := Scalar.muli v399 c1_i32_273
  let v401 : BitVec 32 := Scalar.addi c0_i32_274 v400
  v401.toNat
def k0_dev31 (d0 : Dev nD) : Nat :=
  let c0_i32_283 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v402 : BitVec 32 := Scalar.addi v2 c31_i32
  let c32_i32_275 : BitVec 32 := 32#32
  let c0_i32_276 : BitVec 32 := 0#32
  let v403 : BitVec 1 := Scalar.cmpi .eq c32_i32_275 c0_i32_276
  let c1_i32_277 : BitVec 32 := 1#32
  let v404 : BitVec 32 := Scalar.select v403 c1_i32_277 c32_i32_275
  let v405 : BitVec 32 := Scalar.remsi v402 v404
  let c0_i32_279 : BitVec 32 := 0#32
  let v407 : BitVec 1 := Scalar.cmpi .slt v405 c0_i32_279
  let c0_i32_280 : BitVec 32 := 0#32
  let v408 : BitVec 1 := Scalar.cmpi .slt v404 c0_i32_280
  let v409 : BitVec 1 := Scalar.xori v407 v408
  let c0_i32_278 : BitVec 32 := 0#32
  let v406 : BitVec 1 := Scalar.cmpi .ne v405 c0_i32_278
  let v410 : BitVec 1 := Scalar.andi v409 v406
  let v411 : BitVec 32 := Scalar.addi v405 v404
  let v412 : BitVec 32 := Scalar.select v410 v411 v405
  let c1_i32_282 : BitVec 32 := 1#32
  let v413 : BitVec 32 := Scalar.muli v412 c1_i32_282
  let v414 : BitVec 32 := Scalar.addi c0_i32_283 v413
  v414.toNat
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_412 : BitVec 32 := 16#32
  let v668 : BitVec 32 := Scalar.muli v2 c16_i32_412
  let v669 : Index := Scalar.indexCast v668
  let c0_413 : Index := 0#32
  ![v669.toNat, 0]
def k0_off4 (d0 : Dev nD) (c16_i32_418 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v675 : BitVec 32 := Scalar.addi v2 c16_i32_418
  let c32_i32_419 : BitVec 32 := 32#32
  let c0_i32_420 : BitVec 32 := 0#32
  let v676 : BitVec 1 := Scalar.cmpi .eq c32_i32_419 c0_i32_420
  let c1_i32_421 : BitVec 32 := 1#32
  let v677 : BitVec 32 := Scalar.select v676 c1_i32_421 c32_i32_419
  let v678 : BitVec 32 := Scalar.remsi v675 v677
  let c0_i32_423 : BitVec 32 := 0#32
  let v680 : BitVec 1 := Scalar.cmpi .slt v678 c0_i32_423
  let c0_i32_424 : BitVec 32 := 0#32
  let v681 : BitVec 1 := Scalar.cmpi .slt v677 c0_i32_424
  let v682 : BitVec 1 := Scalar.xori v680 v681
  let c0_i32_422 : BitVec 32 := 0#32
  let v679 : BitVec 1 := Scalar.cmpi .ne v678 c0_i32_422
  let v683 : BitVec 1 := Scalar.andi v682 v679
  let v684 : BitVec 32 := Scalar.addi v678 v677
  let v685 : BitVec 32 := Scalar.select v683 v684 v678
  let c16_i32_425 : BitVec 32 := 16#32
  let v686 : BitVec 32 := Scalar.muli v685 c16_i32_425
  let c0_i32_435 : BitVec 32 := 0#32
  ![v686.toNat, 0]
def k0_dev32 (d0 : Dev nD) : Nat :=
  let c0_i32_432 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_418 : BitVec 32 := 16#32
  let v675 : BitVec 32 := Scalar.addi v2 c16_i32_418
  let c32_i32_419 : BitVec 32 := 32#32
  let c0_i32_420 : BitVec 32 := 0#32
  let v676 : BitVec 1 := Scalar.cmpi .eq c32_i32_419 c0_i32_420
  let c1_i32_421 : BitVec 32 := 1#32
  let v677 : BitVec 32 := Scalar.select v676 c1_i32_421 c32_i32_419
  let v678 : BitVec 32 := Scalar.remsi v675 v677
  let c0_i32_423 : BitVec 32 := 0#32
  let v680 : BitVec 1 := Scalar.cmpi .slt v678 c0_i32_423
  let c0_i32_424 : BitVec 32 := 0#32
  let v681 : BitVec 1 := Scalar.cmpi .slt v677 c0_i32_424
  let v682 : BitVec 1 := Scalar.xori v680 v681
  let c0_i32_422 : BitVec 32 := 0#32
  let v679 : BitVec 1 := Scalar.cmpi .ne v678 c0_i32_422
  let v683 : BitVec 1 := Scalar.andi v682 v679
  let v684 : BitVec 32 := Scalar.addi v678 v677
  let v685 : BitVec 32 := Scalar.select v683 v684 v678
  let c1_i32_431 : BitVec 32 := 1#32
  let v687 : BitVec 32 := Scalar.muli v685 c1_i32_431
  let v688 : BitVec 32 := Scalar.addi c0_i32_432 v687
  v688.toNat
def k0_dev33 (d0 : Dev nD) : Nat :=
  let c0_i32_450 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_436 : BitVec 32 := 15#32
  let v696 : BitVec 32 := Scalar.addi v2 c15_i32_436
  let c32_i32_437 : BitVec 32 := 32#32
  let c0_i32_438 : BitVec 32 := 0#32
  let v697 : BitVec 1 := Scalar.cmpi .eq c32_i32_437 c0_i32_438
  let c1_i32_439 : BitVec 32 := 1#32
  let v698 : BitVec 32 := Scalar.select v697 c1_i32_439 c32_i32_437
  let v699 : BitVec 32 := Scalar.remsi v696 v698
  let c0_i32_441 : BitVec 32 := 0#32
  let v701 : BitVec 1 := Scalar.cmpi .slt v699 c0_i32_441
  let c0_i32_442 : BitVec 32 := 0#32
  let v702 : BitVec 1 := Scalar.cmpi .slt v698 c0_i32_442
  let v703 : BitVec 1 := Scalar.xori v701 v702
  let c0_i32_440 : BitVec 32 := 0#32
  let v700 : BitVec 1 := Scalar.cmpi .ne v699 c0_i32_440
  let v704 : BitVec 1 := Scalar.andi v703 v700
  let v705 : BitVec 32 := Scalar.addi v699 v698
  let v706 : BitVec 32 := Scalar.select v704 v705 v699
  let c1_i32_449 : BitVec 32 := 1#32
  let v708 : BitVec 32 := Scalar.muli v706 c1_i32_449
  let v709 : BitVec 32 := Scalar.addi c0_i32_450 v708
  v709.toNat
def k0_dev34 (d0 : Dev nD) : Nat :=
  let c0_i32_468 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_454 : BitVec 32 := 17#32
  let v717 : BitVec 32 := Scalar.addi v2 c17_i32_454
  let c32_i32_455 : BitVec 32 := 32#32
  let c0_i32_456 : BitVec 32 := 0#32
  let v718 : BitVec 1 := Scalar.cmpi .eq c32_i32_455 c0_i32_456
  let c1_i32_457 : BitVec 32 := 1#32
  let v719 : BitVec 32 := Scalar.select v718 c1_i32_457 c32_i32_455
  let v720 : BitVec 32 := Scalar.remsi v717 v719
  let c0_i32_459 : BitVec 32 := 0#32
  let v722 : BitVec 1 := Scalar.cmpi .slt v720 c0_i32_459
  let c0_i32_460 : BitVec 32 := 0#32
  let v723 : BitVec 1 := Scalar.cmpi .slt v719 c0_i32_460
  let v724 : BitVec 1 := Scalar.xori v722 v723
  let c0_i32_458 : BitVec 32 := 0#32
  let v721 : BitVec 1 := Scalar.cmpi .ne v720 c0_i32_458
  let v725 : BitVec 1 := Scalar.andi v724 v721
  let v726 : BitVec 32 := Scalar.addi v720 v719
  let v727 : BitVec 32 := Scalar.select v725 v726 v720
  let c1_i32_467 : BitVec 32 := 1#32
  let v729 : BitVec 32 := Scalar.muli v727 c1_i32_467
  let v730 : BitVec 32 := Scalar.addi c0_i32_468 v729
  v730.toNat
def k0_dev35 (d0 : Dev nD) : Nat :=
  let c0_i32_486 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_472 : BitVec 32 := 14#32
  let v738 : BitVec 32 := Scalar.addi v2 c14_i32_472
  let c32_i32_473 : BitVec 32 := 32#32
  let c0_i32_474 : BitVec 32 := 0#32
  let v739 : BitVec 1 := Scalar.cmpi .eq c32_i32_473 c0_i32_474
  let c1_i32_475 : BitVec 32 := 1#32
  let v740 : BitVec 32 := Scalar.select v739 c1_i32_475 c32_i32_473
  let v741 : BitVec 32 := Scalar.remsi v738 v740
  let c0_i32_477 : BitVec 32 := 0#32
  let v743 : BitVec 1 := Scalar.cmpi .slt v741 c0_i32_477
  let c0_i32_478 : BitVec 32 := 0#32
  let v744 : BitVec 1 := Scalar.cmpi .slt v740 c0_i32_478
  let v745 : BitVec 1 := Scalar.xori v743 v744
  let c0_i32_476 : BitVec 32 := 0#32
  let v742 : BitVec 1 := Scalar.cmpi .ne v741 c0_i32_476
  let v746 : BitVec 1 := Scalar.andi v745 v742
  let v747 : BitVec 32 := Scalar.addi v741 v740
  let v748 : BitVec 32 := Scalar.select v746 v747 v741
  let c1_i32_485 : BitVec 32 := 1#32
  let v750 : BitVec 32 := Scalar.muli v748 c1_i32_485
  let v751 : BitVec 32 := Scalar.addi c0_i32_486 v750
  v751.toNat
def k0_dev36 (d0 : Dev nD) : Nat :=
  let c0_i32_504 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_490 : BitVec 32 := 18#32
  let v759 : BitVec 32 := Scalar.addi v2 c18_i32_490
  let c32_i32_491 : BitVec 32 := 32#32
  let c0_i32_492 : BitVec 32 := 0#32
  let v760 : BitVec 1 := Scalar.cmpi .eq c32_i32_491 c0_i32_492
  let c1_i32_493 : BitVec 32 := 1#32
  let v761 : BitVec 32 := Scalar.select v760 c1_i32_493 c32_i32_491
  let v762 : BitVec 32 := Scalar.remsi v759 v761
  let c0_i32_495 : BitVec 32 := 0#32
  let v764 : BitVec 1 := Scalar.cmpi .slt v762 c0_i32_495
  let c0_i32_496 : BitVec 32 := 0#32
  let v765 : BitVec 1 := Scalar.cmpi .slt v761 c0_i32_496
  let v766 : BitVec 1 := Scalar.xori v764 v765
  let c0_i32_494 : BitVec 32 := 0#32
  let v763 : BitVec 1 := Scalar.cmpi .ne v762 c0_i32_494
  let v767 : BitVec 1 := Scalar.andi v766 v763
  let v768 : BitVec 32 := Scalar.addi v762 v761
  let v769 : BitVec 32 := Scalar.select v767 v768 v762
  let c1_i32_503 : BitVec 32 := 1#32
  let v771 : BitVec 32 := Scalar.muli v769 c1_i32_503
  let v772 : BitVec 32 := Scalar.addi c0_i32_504 v771
  v772.toNat
def k0_dev37 (d0 : Dev nD) : Nat :=
  let c0_i32_522 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_508 : BitVec 32 := 13#32
  let v780 : BitVec 32 := Scalar.addi v2 c13_i32_508
  let c32_i32_509 : BitVec 32 := 32#32
  let c0_i32_510 : BitVec 32 := 0#32
  let v781 : BitVec 1 := Scalar.cmpi .eq c32_i32_509 c0_i32_510
  let c1_i32_511 : BitVec 32 := 1#32
  let v782 : BitVec 32 := Scalar.select v781 c1_i32_511 c32_i32_509
  let v783 : BitVec 32 := Scalar.remsi v780 v782
  let c0_i32_513 : BitVec 32 := 0#32
  let v785 : BitVec 1 := Scalar.cmpi .slt v783 c0_i32_513
  let c0_i32_514 : BitVec 32 := 0#32
  let v786 : BitVec 1 := Scalar.cmpi .slt v782 c0_i32_514
  let v787 : BitVec 1 := Scalar.xori v785 v786
  let c0_i32_512 : BitVec 32 := 0#32
  let v784 : BitVec 1 := Scalar.cmpi .ne v783 c0_i32_512
  let v788 : BitVec 1 := Scalar.andi v787 v784
  let v789 : BitVec 32 := Scalar.addi v783 v782
  let v790 : BitVec 32 := Scalar.select v788 v789 v783
  let c1_i32_521 : BitVec 32 := 1#32
  let v792 : BitVec 32 := Scalar.muli v790 c1_i32_521
  let v793 : BitVec 32 := Scalar.addi c0_i32_522 v792
  v793.toNat
def k0_dev38 (d0 : Dev nD) : Nat :=
  let c0_i32_540 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_526 : BitVec 32 := 19#32
  let v801 : BitVec 32 := Scalar.addi v2 c19_i32_526
  let c32_i32_527 : BitVec 32 := 32#32
  let c0_i32_528 : BitVec 32 := 0#32
  let v802 : BitVec 1 := Scalar.cmpi .eq c32_i32_527 c0_i32_528
  let c1_i32_529 : BitVec 32 := 1#32
  let v803 : BitVec 32 := Scalar.select v802 c1_i32_529 c32_i32_527
  let v804 : BitVec 32 := Scalar.remsi v801 v803
  let c0_i32_531 : BitVec 32 := 0#32
  let v806 : BitVec 1 := Scalar.cmpi .slt v804 c0_i32_531
  let c0_i32_532 : BitVec 32 := 0#32
  let v807 : BitVec 1 := Scalar.cmpi .slt v803 c0_i32_532
  let v808 : BitVec 1 := Scalar.xori v806 v807
  let c0_i32_530 : BitVec 32 := 0#32
  let v805 : BitVec 1 := Scalar.cmpi .ne v804 c0_i32_530
  let v809 : BitVec 1 := Scalar.andi v808 v805
  let v810 : BitVec 32 := Scalar.addi v804 v803
  let v811 : BitVec 32 := Scalar.select v809 v810 v804
  let c1_i32_539 : BitVec 32 := 1#32
  let v813 : BitVec 32 := Scalar.muli v811 c1_i32_539
  let v814 : BitVec 32 := Scalar.addi c0_i32_540 v813
  v814.toNat
def k0_dev39 (d0 : Dev nD) : Nat :=
  let c0_i32_558 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_544 : BitVec 32 := 12#32
  let v822 : BitVec 32 := Scalar.addi v2 c12_i32_544
  let c32_i32_545 : BitVec 32 := 32#32
  let c0_i32_546 : BitVec 32 := 0#32
  let v823 : BitVec 1 := Scalar.cmpi .eq c32_i32_545 c0_i32_546
  let c1_i32_547 : BitVec 32 := 1#32
  let v824 : BitVec 32 := Scalar.select v823 c1_i32_547 c32_i32_545
  let v825 : BitVec 32 := Scalar.remsi v822 v824
  let c0_i32_549 : BitVec 32 := 0#32
  let v827 : BitVec 1 := Scalar.cmpi .slt v825 c0_i32_549
  let c0_i32_550 : BitVec 32 := 0#32
  let v828 : BitVec 1 := Scalar.cmpi .slt v824 c0_i32_550
  let v829 : BitVec 1 := Scalar.xori v827 v828
  let c0_i32_548 : BitVec 32 := 0#32
  let v826 : BitVec 1 := Scalar.cmpi .ne v825 c0_i32_548
  let v830 : BitVec 1 := Scalar.andi v829 v826
  let v831 : BitVec 32 := Scalar.addi v825 v824
  let v832 : BitVec 32 := Scalar.select v830 v831 v825
  let c1_i32_557 : BitVec 32 := 1#32
  let v834 : BitVec 32 := Scalar.muli v832 c1_i32_557
  let v835 : BitVec 32 := Scalar.addi c0_i32_558 v834
  v835.toNat
def k0_dev40 (d0 : Dev nD) : Nat :=
  let c0_i32_576 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_562 : BitVec 32 := 20#32
  let v843 : BitVec 32 := Scalar.addi v2 c20_i32_562
  let c32_i32_563 : BitVec 32 := 32#32
  let c0_i32_564 : BitVec 32 := 0#32
  let v844 : BitVec 1 := Scalar.cmpi .eq c32_i32_563 c0_i32_564
  let c1_i32_565 : BitVec 32 := 1#32
  let v845 : BitVec 32 := Scalar.select v844 c1_i32_565 c32_i32_563
  let v846 : BitVec 32 := Scalar.remsi v843 v845
  let c0_i32_567 : BitVec 32 := 0#32
  let v848 : BitVec 1 := Scalar.cmpi .slt v846 c0_i32_567
  let c0_i32_568 : BitVec 32 := 0#32
  let v849 : BitVec 1 := Scalar.cmpi .slt v845 c0_i32_568
  let v850 : BitVec 1 := Scalar.xori v848 v849
  let c0_i32_566 : BitVec 32 := 0#32
  let v847 : BitVec 1 := Scalar.cmpi .ne v846 c0_i32_566
  let v851 : BitVec 1 := Scalar.andi v850 v847
  let v852 : BitVec 32 := Scalar.addi v846 v845
  let v853 : BitVec 32 := Scalar.select v851 v852 v846
  let c1_i32_575 : BitVec 32 := 1#32
  let v855 : BitVec 32 := Scalar.muli v853 c1_i32_575
  let v856 : BitVec 32 := Scalar.addi c0_i32_576 v855
  v856.toNat
def k0_dev41 (d0 : Dev nD) : Nat :=
  let c0_i32_594 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_580 : BitVec 32 := 11#32
  let v864 : BitVec 32 := Scalar.addi v2 c11_i32_580
  let c32_i32_581 : BitVec 32 := 32#32
  let c0_i32_582 : BitVec 32 := 0#32
  let v865 : BitVec 1 := Scalar.cmpi .eq c32_i32_581 c0_i32_582
  let c1_i32_583 : BitVec 32 := 1#32
  let v866 : BitVec 32 := Scalar.select v865 c1_i32_583 c32_i32_581
  let v867 : BitVec 32 := Scalar.remsi v864 v866
  let c0_i32_585 : BitVec 32 := 0#32
  let v869 : BitVec 1 := Scalar.cmpi .slt v867 c0_i32_585
  let c0_i32_586 : BitVec 32 := 0#32
  let v870 : BitVec 1 := Scalar.cmpi .slt v866 c0_i32_586
  let v871 : BitVec 1 := Scalar.xori v869 v870
  let c0_i32_584 : BitVec 32 := 0#32
  let v868 : BitVec 1 := Scalar.cmpi .ne v867 c0_i32_584
  let v872 : BitVec 1 := Scalar.andi v871 v868
  let v873 : BitVec 32 := Scalar.addi v867 v866
  let v874 : BitVec 32 := Scalar.select v872 v873 v867
  let c1_i32_593 : BitVec 32 := 1#32
  let v876 : BitVec 32 := Scalar.muli v874 c1_i32_593
  let v877 : BitVec 32 := Scalar.addi c0_i32_594 v876
  v877.toNat
def k0_dev42 (d0 : Dev nD) : Nat :=
  let c0_i32_612 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_598 : BitVec 32 := 21#32
  let v885 : BitVec 32 := Scalar.addi v2 c21_i32_598
  let c32_i32_599 : BitVec 32 := 32#32
  let c0_i32_600 : BitVec 32 := 0#32
  let v886 : BitVec 1 := Scalar.cmpi .eq c32_i32_599 c0_i32_600
  let c1_i32_601 : BitVec 32 := 1#32
  let v887 : BitVec 32 := Scalar.select v886 c1_i32_601 c32_i32_599
  let v888 : BitVec 32 := Scalar.remsi v885 v887
  let c0_i32_603 : BitVec 32 := 0#32
  let v890 : BitVec 1 := Scalar.cmpi .slt v888 c0_i32_603
  let c0_i32_604 : BitVec 32 := 0#32
  let v891 : BitVec 1 := Scalar.cmpi .slt v887 c0_i32_604
  let v892 : BitVec 1 := Scalar.xori v890 v891
  let c0_i32_602 : BitVec 32 := 0#32
  let v889 : BitVec 1 := Scalar.cmpi .ne v888 c0_i32_602
  let v893 : BitVec 1 := Scalar.andi v892 v889
  let v894 : BitVec 32 := Scalar.addi v888 v887
  let v895 : BitVec 32 := Scalar.select v893 v894 v888
  let c1_i32_611 : BitVec 32 := 1#32
  let v897 : BitVec 32 := Scalar.muli v895 c1_i32_611
  let v898 : BitVec 32 := Scalar.addi c0_i32_612 v897
  v898.toNat
def k0_dev43 (d0 : Dev nD) : Nat :=
  let c0_i32_630 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_616 : BitVec 32 := 10#32
  let v906 : BitVec 32 := Scalar.addi v2 c10_i32_616
  let c32_i32_617 : BitVec 32 := 32#32
  let c0_i32_618 : BitVec 32 := 0#32
  let v907 : BitVec 1 := Scalar.cmpi .eq c32_i32_617 c0_i32_618
  let c1_i32_619 : BitVec 32 := 1#32
  let v908 : BitVec 32 := Scalar.select v907 c1_i32_619 c32_i32_617
  let v909 : BitVec 32 := Scalar.remsi v906 v908
  let c0_i32_621 : BitVec 32 := 0#32
  let v911 : BitVec 1 := Scalar.cmpi .slt v909 c0_i32_621
  let c0_i32_622 : BitVec 32 := 0#32
  let v912 : BitVec 1 := Scalar.cmpi .slt v908 c0_i32_622
  let v913 : BitVec 1 := Scalar.xori v911 v912
  let c0_i32_620 : BitVec 32 := 0#32
  let v910 : BitVec 1 := Scalar.cmpi .ne v909 c0_i32_620
  let v914 : BitVec 1 := Scalar.andi v913 v910
  let v915 : BitVec 32 := Scalar.addi v909 v908
  let v916 : BitVec 32 := Scalar.select v914 v915 v909
  let c1_i32_629 : BitVec 32 := 1#32
  let v918 : BitVec 32 := Scalar.muli v916 c1_i32_629
  let v919 : BitVec 32 := Scalar.addi c0_i32_630 v918
  v919.toNat
def k0_dev44 (d0 : Dev nD) : Nat :=
  let c0_i32_648 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_634 : BitVec 32 := 22#32
  let v927 : BitVec 32 := Scalar.addi v2 c22_i32_634
  let c32_i32_635 : BitVec 32 := 32#32
  let c0_i32_636 : BitVec 32 := 0#32
  let v928 : BitVec 1 := Scalar.cmpi .eq c32_i32_635 c0_i32_636
  let c1_i32_637 : BitVec 32 := 1#32
  let v929 : BitVec 32 := Scalar.select v928 c1_i32_637 c32_i32_635
  let v930 : BitVec 32 := Scalar.remsi v927 v929
  let c0_i32_639 : BitVec 32 := 0#32
  let v932 : BitVec 1 := Scalar.cmpi .slt v930 c0_i32_639
  let c0_i32_640 : BitVec 32 := 0#32
  let v933 : BitVec 1 := Scalar.cmpi .slt v929 c0_i32_640
  let v934 : BitVec 1 := Scalar.xori v932 v933
  let c0_i32_638 : BitVec 32 := 0#32
  let v931 : BitVec 1 := Scalar.cmpi .ne v930 c0_i32_638
  let v935 : BitVec 1 := Scalar.andi v934 v931
  let v936 : BitVec 32 := Scalar.addi v930 v929
  let v937 : BitVec 32 := Scalar.select v935 v936 v930
  let c1_i32_647 : BitVec 32 := 1#32
  let v939 : BitVec 32 := Scalar.muli v937 c1_i32_647
  let v940 : BitVec 32 := Scalar.addi c0_i32_648 v939
  v940.toNat
def k0_dev45 (d0 : Dev nD) : Nat :=
  let c0_i32_666 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_652 : BitVec 32 := 9#32
  let v948 : BitVec 32 := Scalar.addi v2 c9_i32_652
  let c32_i32_653 : BitVec 32 := 32#32
  let c0_i32_654 : BitVec 32 := 0#32
  let v949 : BitVec 1 := Scalar.cmpi .eq c32_i32_653 c0_i32_654
  let c1_i32_655 : BitVec 32 := 1#32
  let v950 : BitVec 32 := Scalar.select v949 c1_i32_655 c32_i32_653
  let v951 : BitVec 32 := Scalar.remsi v948 v950
  let c0_i32_657 : BitVec 32 := 0#32
  let v953 : BitVec 1 := Scalar.cmpi .slt v951 c0_i32_657
  let c0_i32_658 : BitVec 32 := 0#32
  let v954 : BitVec 1 := Scalar.cmpi .slt v950 c0_i32_658
  let v955 : BitVec 1 := Scalar.xori v953 v954
  let c0_i32_656 : BitVec 32 := 0#32
  let v952 : BitVec 1 := Scalar.cmpi .ne v951 c0_i32_656
  let v956 : BitVec 1 := Scalar.andi v955 v952
  let v957 : BitVec 32 := Scalar.addi v951 v950
  let v958 : BitVec 32 := Scalar.select v956 v957 v951
  let c1_i32_665 : BitVec 32 := 1#32
  let v960 : BitVec 32 := Scalar.muli v958 c1_i32_665
  let v961 : BitVec 32 := Scalar.addi c0_i32_666 v960
  v961.toNat
def k0_dev46 (d0 : Dev nD) : Nat :=
  let c0_i32_684 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_670 : BitVec 32 := 23#32
  let v969 : BitVec 32 := Scalar.addi v2 c23_i32_670
  let c32_i32_671 : BitVec 32 := 32#32
  let c0_i32_672 : BitVec 32 := 0#32
  let v970 : BitVec 1 := Scalar.cmpi .eq c32_i32_671 c0_i32_672
  let c1_i32_673 : BitVec 32 := 1#32
  let v971 : BitVec 32 := Scalar.select v970 c1_i32_673 c32_i32_671
  let v972 : BitVec 32 := Scalar.remsi v969 v971
  let c0_i32_675 : BitVec 32 := 0#32
  let v974 : BitVec 1 := Scalar.cmpi .slt v972 c0_i32_675
  let c0_i32_676 : BitVec 32 := 0#32
  let v975 : BitVec 1 := Scalar.cmpi .slt v971 c0_i32_676
  let v976 : BitVec 1 := Scalar.xori v974 v975
  let c0_i32_674 : BitVec 32 := 0#32
  let v973 : BitVec 1 := Scalar.cmpi .ne v972 c0_i32_674
  let v977 : BitVec 1 := Scalar.andi v976 v973
  let v978 : BitVec 32 := Scalar.addi v972 v971
  let v979 : BitVec 32 := Scalar.select v977 v978 v972
  let c1_i32_683 : BitVec 32 := 1#32
  let v981 : BitVec 32 := Scalar.muli v979 c1_i32_683
  let v982 : BitVec 32 := Scalar.addi c0_i32_684 v981
  v982.toNat
def k0_dev47 (d0 : Dev nD) : Nat :=
  let c0_i32_702 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_688 : BitVec 32 := 8#32
  let v990 : BitVec 32 := Scalar.addi v2 c8_i32_688
  let c32_i32_689 : BitVec 32 := 32#32
  let c0_i32_690 : BitVec 32 := 0#32
  let v991 : BitVec 1 := Scalar.cmpi .eq c32_i32_689 c0_i32_690
  let c1_i32_691 : BitVec 32 := 1#32
  let v992 : BitVec 32 := Scalar.select v991 c1_i32_691 c32_i32_689
  let v993 : BitVec 32 := Scalar.remsi v990 v992
  let c0_i32_693 : BitVec 32 := 0#32
  let v995 : BitVec 1 := Scalar.cmpi .slt v993 c0_i32_693
  let c0_i32_694 : BitVec 32 := 0#32
  let v996 : BitVec 1 := Scalar.cmpi .slt v992 c0_i32_694
  let v997 : BitVec 1 := Scalar.xori v995 v996
  let c0_i32_692 : BitVec 32 := 0#32
  let v994 : BitVec 1 := Scalar.cmpi .ne v993 c0_i32_692
  let v998 : BitVec 1 := Scalar.andi v997 v994
  let v999 : BitVec 32 := Scalar.addi v993 v992
  let v1000 : BitVec 32 := Scalar.select v998 v999 v993
  let c1_i32_701 : BitVec 32 := 1#32
  let v1002 : BitVec 32 := Scalar.muli v1000 c1_i32_701
  let v1003 : BitVec 32 := Scalar.addi c0_i32_702 v1002
  v1003.toNat
def k0_dev48 (d0 : Dev nD) : Nat :=
  let c0_i32_720 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_706 : BitVec 32 := 24#32
  let v1011 : BitVec 32 := Scalar.addi v2 c24_i32_706
  let c32_i32_707 : BitVec 32 := 32#32
  let c0_i32_708 : BitVec 32 := 0#32
  let v1012 : BitVec 1 := Scalar.cmpi .eq c32_i32_707 c0_i32_708
  let c1_i32_709 : BitVec 32 := 1#32
  let v1013 : BitVec 32 := Scalar.select v1012 c1_i32_709 c32_i32_707
  let v1014 : BitVec 32 := Scalar.remsi v1011 v1013
  let c0_i32_711 : BitVec 32 := 0#32
  let v1016 : BitVec 1 := Scalar.cmpi .slt v1014 c0_i32_711
  let c0_i32_712 : BitVec 32 := 0#32
  let v1017 : BitVec 1 := Scalar.cmpi .slt v1013 c0_i32_712
  let v1018 : BitVec 1 := Scalar.xori v1016 v1017
  let c0_i32_710 : BitVec 32 := 0#32
  let v1015 : BitVec 1 := Scalar.cmpi .ne v1014 c0_i32_710
  let v1019 : BitVec 1 := Scalar.andi v1018 v1015
  let v1020 : BitVec 32 := Scalar.addi v1014 v1013
  let v1021 : BitVec 32 := Scalar.select v1019 v1020 v1014
  let c1_i32_719 : BitVec 32 := 1#32
  let v1023 : BitVec 32 := Scalar.muli v1021 c1_i32_719
  let v1024 : BitVec 32 := Scalar.addi c0_i32_720 v1023
  v1024.toNat
def k0_dev49 (d0 : Dev nD) : Nat :=
  let c0_i32_738 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_724 : BitVec 32 := 7#32
  let v1032 : BitVec 32 := Scalar.addi v2 c7_i32_724
  let c32_i32_725 : BitVec 32 := 32#32
  let c0_i32_726 : BitVec 32 := 0#32
  let v1033 : BitVec 1 := Scalar.cmpi .eq c32_i32_725 c0_i32_726
  let c1_i32_727 : BitVec 32 := 1#32
  let v1034 : BitVec 32 := Scalar.select v1033 c1_i32_727 c32_i32_725
  let v1035 : BitVec 32 := Scalar.remsi v1032 v1034
  let c0_i32_729 : BitVec 32 := 0#32
  let v1037 : BitVec 1 := Scalar.cmpi .slt v1035 c0_i32_729
  let c0_i32_730 : BitVec 32 := 0#32
  let v1038 : BitVec 1 := Scalar.cmpi .slt v1034 c0_i32_730
  let v1039 : BitVec 1 := Scalar.xori v1037 v1038
  let c0_i32_728 : BitVec 32 := 0#32
  let v1036 : BitVec 1 := Scalar.cmpi .ne v1035 c0_i32_728
  let v1040 : BitVec 1 := Scalar.andi v1039 v1036
  let v1041 : BitVec 32 := Scalar.addi v1035 v1034
  let v1042 : BitVec 32 := Scalar.select v1040 v1041 v1035
  let c1_i32_737 : BitVec 32 := 1#32
  let v1044 : BitVec 32 := Scalar.muli v1042 c1_i32_737
  let v1045 : BitVec 32 := Scalar.addi c0_i32_738 v1044
  v1045.toNat
def k0_dev50 (d0 : Dev nD) : Nat :=
  let c0_i32_756 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_742 : BitVec 32 := 25#32
  let v1053 : BitVec 32 := Scalar.addi v2 c25_i32_742
  let c32_i32_743 : BitVec 32 := 32#32
  let c0_i32_744 : BitVec 32 := 0#32
  let v1054 : BitVec 1 := Scalar.cmpi .eq c32_i32_743 c0_i32_744
  let c1_i32_745 : BitVec 32 := 1#32
  let v1055 : BitVec 32 := Scalar.select v1054 c1_i32_745 c32_i32_743
  let v1056 : BitVec 32 := Scalar.remsi v1053 v1055
  let c0_i32_747 : BitVec 32 := 0#32
  let v1058 : BitVec 1 := Scalar.cmpi .slt v1056 c0_i32_747
  let c0_i32_748 : BitVec 32 := 0#32
  let v1059 : BitVec 1 := Scalar.cmpi .slt v1055 c0_i32_748
  let v1060 : BitVec 1 := Scalar.xori v1058 v1059
  let c0_i32_746 : BitVec 32 := 0#32
  let v1057 : BitVec 1 := Scalar.cmpi .ne v1056 c0_i32_746
  let v1061 : BitVec 1 := Scalar.andi v1060 v1057
  let v1062 : BitVec 32 := Scalar.addi v1056 v1055
  let v1063 : BitVec 32 := Scalar.select v1061 v1062 v1056
  let c1_i32_755 : BitVec 32 := 1#32
  let v1065 : BitVec 32 := Scalar.muli v1063 c1_i32_755
  let v1066 : BitVec 32 := Scalar.addi c0_i32_756 v1065
  v1066.toNat
def k0_dev51 (d0 : Dev nD) : Nat :=
  let c0_i32_774 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_760 : BitVec 32 := 6#32
  let v1074 : BitVec 32 := Scalar.addi v2 c6_i32_760
  let c32_i32_761 : BitVec 32 := 32#32
  let c0_i32_762 : BitVec 32 := 0#32
  let v1075 : BitVec 1 := Scalar.cmpi .eq c32_i32_761 c0_i32_762
  let c1_i32_763 : BitVec 32 := 1#32
  let v1076 : BitVec 32 := Scalar.select v1075 c1_i32_763 c32_i32_761
  let v1077 : BitVec 32 := Scalar.remsi v1074 v1076
  let c0_i32_765 : BitVec 32 := 0#32
  let v1079 : BitVec 1 := Scalar.cmpi .slt v1077 c0_i32_765
  let c0_i32_766 : BitVec 32 := 0#32
  let v1080 : BitVec 1 := Scalar.cmpi .slt v1076 c0_i32_766
  let v1081 : BitVec 1 := Scalar.xori v1079 v1080
  let c0_i32_764 : BitVec 32 := 0#32
  let v1078 : BitVec 1 := Scalar.cmpi .ne v1077 c0_i32_764
  let v1082 : BitVec 1 := Scalar.andi v1081 v1078
  let v1083 : BitVec 32 := Scalar.addi v1077 v1076
  let v1084 : BitVec 32 := Scalar.select v1082 v1083 v1077
  let c1_i32_773 : BitVec 32 := 1#32
  let v1086 : BitVec 32 := Scalar.muli v1084 c1_i32_773
  let v1087 : BitVec 32 := Scalar.addi c0_i32_774 v1086
  v1087.toNat
def k0_dev52 (d0 : Dev nD) : Nat :=
  let c0_i32_792 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_778 : BitVec 32 := 26#32
  let v1095 : BitVec 32 := Scalar.addi v2 c26_i32_778
  let c32_i32_779 : BitVec 32 := 32#32
  let c0_i32_780 : BitVec 32 := 0#32
  let v1096 : BitVec 1 := Scalar.cmpi .eq c32_i32_779 c0_i32_780
  let c1_i32_781 : BitVec 32 := 1#32
  let v1097 : BitVec 32 := Scalar.select v1096 c1_i32_781 c32_i32_779
  let v1098 : BitVec 32 := Scalar.remsi v1095 v1097
  let c0_i32_783 : BitVec 32 := 0#32
  let v1100 : BitVec 1 := Scalar.cmpi .slt v1098 c0_i32_783
  let c0_i32_784 : BitVec 32 := 0#32
  let v1101 : BitVec 1 := Scalar.cmpi .slt v1097 c0_i32_784
  let v1102 : BitVec 1 := Scalar.xori v1100 v1101
  let c0_i32_782 : BitVec 32 := 0#32
  let v1099 : BitVec 1 := Scalar.cmpi .ne v1098 c0_i32_782
  let v1103 : BitVec 1 := Scalar.andi v1102 v1099
  let v1104 : BitVec 32 := Scalar.addi v1098 v1097
  let v1105 : BitVec 32 := Scalar.select v1103 v1104 v1098
  let c1_i32_791 : BitVec 32 := 1#32
  let v1107 : BitVec 32 := Scalar.muli v1105 c1_i32_791
  let v1108 : BitVec 32 := Scalar.addi c0_i32_792 v1107
  v1108.toNat
def k0_dev53 (d0 : Dev nD) : Nat :=
  let c0_i32_810 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_796 : BitVec 32 := 5#32
  let v1116 : BitVec 32 := Scalar.addi v2 c5_i32_796
  let c32_i32_797 : BitVec 32 := 32#32
  let c0_i32_798 : BitVec 32 := 0#32
  let v1117 : BitVec 1 := Scalar.cmpi .eq c32_i32_797 c0_i32_798
  let c1_i32_799 : BitVec 32 := 1#32
  let v1118 : BitVec 32 := Scalar.select v1117 c1_i32_799 c32_i32_797
  let v1119 : BitVec 32 := Scalar.remsi v1116 v1118
  let c0_i32_801 : BitVec 32 := 0#32
  let v1121 : BitVec 1 := Scalar.cmpi .slt v1119 c0_i32_801
  let c0_i32_802 : BitVec 32 := 0#32
  let v1122 : BitVec 1 := Scalar.cmpi .slt v1118 c0_i32_802
  let v1123 : BitVec 1 := Scalar.xori v1121 v1122
  let c0_i32_800 : BitVec 32 := 0#32
  let v1120 : BitVec 1 := Scalar.cmpi .ne v1119 c0_i32_800
  let v1124 : BitVec 1 := Scalar.andi v1123 v1120
  let v1125 : BitVec 32 := Scalar.addi v1119 v1118
  let v1126 : BitVec 32 := Scalar.select v1124 v1125 v1119
  let c1_i32_809 : BitVec 32 := 1#32
  let v1128 : BitVec 32 := Scalar.muli v1126 c1_i32_809
  let v1129 : BitVec 32 := Scalar.addi c0_i32_810 v1128
  v1129.toNat
def k0_dev54 (d0 : Dev nD) : Nat :=
  let c0_i32_828 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_814 : BitVec 32 := 27#32
  let v1137 : BitVec 32 := Scalar.addi v2 c27_i32_814
  let c32_i32_815 : BitVec 32 := 32#32
  let c0_i32_816 : BitVec 32 := 0#32
  let v1138 : BitVec 1 := Scalar.cmpi .eq c32_i32_815 c0_i32_816
  let c1_i32_817 : BitVec 32 := 1#32
  let v1139 : BitVec 32 := Scalar.select v1138 c1_i32_817 c32_i32_815
  let v1140 : BitVec 32 := Scalar.remsi v1137 v1139
  let c0_i32_819 : BitVec 32 := 0#32
  let v1142 : BitVec 1 := Scalar.cmpi .slt v1140 c0_i32_819
  let c0_i32_820 : BitVec 32 := 0#32
  let v1143 : BitVec 1 := Scalar.cmpi .slt v1139 c0_i32_820
  let v1144 : BitVec 1 := Scalar.xori v1142 v1143
  let c0_i32_818 : BitVec 32 := 0#32
  let v1141 : BitVec 1 := Scalar.cmpi .ne v1140 c0_i32_818
  let v1145 : BitVec 1 := Scalar.andi v1144 v1141
  let v1146 : BitVec 32 := Scalar.addi v1140 v1139
  let v1147 : BitVec 32 := Scalar.select v1145 v1146 v1140
  let c1_i32_827 : BitVec 32 := 1#32
  let v1149 : BitVec 32 := Scalar.muli v1147 c1_i32_827
  let v1150 : BitVec 32 := Scalar.addi c0_i32_828 v1149
  v1150.toNat
def k0_dev55 (d0 : Dev nD) : Nat :=
  let c0_i32_846 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_832 : BitVec 32 := 4#32
  let v1158 : BitVec 32 := Scalar.addi v2 c4_i32_832
  let c32_i32_833 : BitVec 32 := 32#32
  let c0_i32_834 : BitVec 32 := 0#32
  let v1159 : BitVec 1 := Scalar.cmpi .eq c32_i32_833 c0_i32_834
  let c1_i32_835 : BitVec 32 := 1#32
  let v1160 : BitVec 32 := Scalar.select v1159 c1_i32_835 c32_i32_833
  let v1161 : BitVec 32 := Scalar.remsi v1158 v1160
  let c0_i32_837 : BitVec 32 := 0#32
  let v1163 : BitVec 1 := Scalar.cmpi .slt v1161 c0_i32_837
  let c0_i32_838 : BitVec 32 := 0#32
  let v1164 : BitVec 1 := Scalar.cmpi .slt v1160 c0_i32_838
  let v1165 : BitVec 1 := Scalar.xori v1163 v1164
  let c0_i32_836 : BitVec 32 := 0#32
  let v1162 : BitVec 1 := Scalar.cmpi .ne v1161 c0_i32_836
  let v1166 : BitVec 1 := Scalar.andi v1165 v1162
  let v1167 : BitVec 32 := Scalar.addi v1161 v1160
  let v1168 : BitVec 32 := Scalar.select v1166 v1167 v1161
  let c1_i32_845 : BitVec 32 := 1#32
  let v1170 : BitVec 32 := Scalar.muli v1168 c1_i32_845
  let v1171 : BitVec 32 := Scalar.addi c0_i32_846 v1170
  v1171.toNat
def k0_dev56 (d0 : Dev nD) : Nat :=
  let c0_i32_864 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_850 : BitVec 32 := 28#32
  let v1179 : BitVec 32 := Scalar.addi v2 c28_i32_850
  let c32_i32_851 : BitVec 32 := 32#32
  let c0_i32_852 : BitVec 32 := 0#32
  let v1180 : BitVec 1 := Scalar.cmpi .eq c32_i32_851 c0_i32_852
  let c1_i32_853 : BitVec 32 := 1#32
  let v1181 : BitVec 32 := Scalar.select v1180 c1_i32_853 c32_i32_851
  let v1182 : BitVec 32 := Scalar.remsi v1179 v1181
  let c0_i32_855 : BitVec 32 := 0#32
  let v1184 : BitVec 1 := Scalar.cmpi .slt v1182 c0_i32_855
  let c0_i32_856 : BitVec 32 := 0#32
  let v1185 : BitVec 1 := Scalar.cmpi .slt v1181 c0_i32_856
  let v1186 : BitVec 1 := Scalar.xori v1184 v1185
  let c0_i32_854 : BitVec 32 := 0#32
  let v1183 : BitVec 1 := Scalar.cmpi .ne v1182 c0_i32_854
  let v1187 : BitVec 1 := Scalar.andi v1186 v1183
  let v1188 : BitVec 32 := Scalar.addi v1182 v1181
  let v1189 : BitVec 32 := Scalar.select v1187 v1188 v1182
  let c1_i32_863 : BitVec 32 := 1#32
  let v1191 : BitVec 32 := Scalar.muli v1189 c1_i32_863
  let v1192 : BitVec 32 := Scalar.addi c0_i32_864 v1191
  v1192.toNat
def k0_dev57 (d0 : Dev nD) : Nat :=
  let c0_i32_882 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_868 : BitVec 32 := 3#32
  let v1200 : BitVec 32 := Scalar.addi v2 c3_i32_868
  let c32_i32_869 : BitVec 32 := 32#32
  let c0_i32_870 : BitVec 32 := 0#32
  let v1201 : BitVec 1 := Scalar.cmpi .eq c32_i32_869 c0_i32_870
  let c1_i32_871 : BitVec 32 := 1#32
  let v1202 : BitVec 32 := Scalar.select v1201 c1_i32_871 c32_i32_869
  let v1203 : BitVec 32 := Scalar.remsi v1200 v1202
  let c0_i32_873 : BitVec 32 := 0#32
  let v1205 : BitVec 1 := Scalar.cmpi .slt v1203 c0_i32_873
  let c0_i32_874 : BitVec 32 := 0#32
  let v1206 : BitVec 1 := Scalar.cmpi .slt v1202 c0_i32_874
  let v1207 : BitVec 1 := Scalar.xori v1205 v1206
  let c0_i32_872 : BitVec 32 := 0#32
  let v1204 : BitVec 1 := Scalar.cmpi .ne v1203 c0_i32_872
  let v1208 : BitVec 1 := Scalar.andi v1207 v1204
  let v1209 : BitVec 32 := Scalar.addi v1203 v1202
  let v1210 : BitVec 32 := Scalar.select v1208 v1209 v1203
  let c1_i32_881 : BitVec 32 := 1#32
  let v1212 : BitVec 32 := Scalar.muli v1210 c1_i32_881
  let v1213 : BitVec 32 := Scalar.addi c0_i32_882 v1212
  v1213.toNat
def k0_dev58 (d0 : Dev nD) : Nat :=
  let c0_i32_900 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_886 : BitVec 32 := 29#32
  let v1221 : BitVec 32 := Scalar.addi v2 c29_i32_886
  let c32_i32_887 : BitVec 32 := 32#32
  let c0_i32_888 : BitVec 32 := 0#32
  let v1222 : BitVec 1 := Scalar.cmpi .eq c32_i32_887 c0_i32_888
  let c1_i32_889 : BitVec 32 := 1#32
  let v1223 : BitVec 32 := Scalar.select v1222 c1_i32_889 c32_i32_887
  let v1224 : BitVec 32 := Scalar.remsi v1221 v1223
  let c0_i32_891 : BitVec 32 := 0#32
  let v1226 : BitVec 1 := Scalar.cmpi .slt v1224 c0_i32_891
  let c0_i32_892 : BitVec 32 := 0#32
  let v1227 : BitVec 1 := Scalar.cmpi .slt v1223 c0_i32_892
  let v1228 : BitVec 1 := Scalar.xori v1226 v1227
  let c0_i32_890 : BitVec 32 := 0#32
  let v1225 : BitVec 1 := Scalar.cmpi .ne v1224 c0_i32_890
  let v1229 : BitVec 1 := Scalar.andi v1228 v1225
  let v1230 : BitVec 32 := Scalar.addi v1224 v1223
  let v1231 : BitVec 32 := Scalar.select v1229 v1230 v1224
  let c1_i32_899 : BitVec 32 := 1#32
  let v1233 : BitVec 32 := Scalar.muli v1231 c1_i32_899
  let v1234 : BitVec 32 := Scalar.addi c0_i32_900 v1233
  v1234.toNat
def k0_dev59 (d0 : Dev nD) : Nat :=
  let c0_i32_918 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_904 : BitVec 32 := 2#32
  let v1242 : BitVec 32 := Scalar.addi v2 c2_i32_904
  let c32_i32_905 : BitVec 32 := 32#32
  let c0_i32_906 : BitVec 32 := 0#32
  let v1243 : BitVec 1 := Scalar.cmpi .eq c32_i32_905 c0_i32_906
  let c1_i32_907 : BitVec 32 := 1#32
  let v1244 : BitVec 32 := Scalar.select v1243 c1_i32_907 c32_i32_905
  let v1245 : BitVec 32 := Scalar.remsi v1242 v1244
  let c0_i32_909 : BitVec 32 := 0#32
  let v1247 : BitVec 1 := Scalar.cmpi .slt v1245 c0_i32_909
  let c0_i32_910 : BitVec 32 := 0#32
  let v1248 : BitVec 1 := Scalar.cmpi .slt v1244 c0_i32_910
  let v1249 : BitVec 1 := Scalar.xori v1247 v1248
  let c0_i32_908 : BitVec 32 := 0#32
  let v1246 : BitVec 1 := Scalar.cmpi .ne v1245 c0_i32_908
  let v1250 : BitVec 1 := Scalar.andi v1249 v1246
  let v1251 : BitVec 32 := Scalar.addi v1245 v1244
  let v1252 : BitVec 32 := Scalar.select v1250 v1251 v1245
  let c1_i32_917 : BitVec 32 := 1#32
  let v1254 : BitVec 32 := Scalar.muli v1252 c1_i32_917
  let v1255 : BitVec 32 := Scalar.addi c0_i32_918 v1254
  v1255.toNat
def k0_dev60 (d0 : Dev nD) : Nat :=
  let c0_i32_936 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_922 : BitVec 32 := 30#32
  let v1263 : BitVec 32 := Scalar.addi v2 c30_i32_922
  let c32_i32_923 : BitVec 32 := 32#32
  let c0_i32_924 : BitVec 32 := 0#32
  let v1264 : BitVec 1 := Scalar.cmpi .eq c32_i32_923 c0_i32_924
  let c1_i32_925 : BitVec 32 := 1#32
  let v1265 : BitVec 32 := Scalar.select v1264 c1_i32_925 c32_i32_923
  let v1266 : BitVec 32 := Scalar.remsi v1263 v1265
  let c0_i32_927 : BitVec 32 := 0#32
  let v1268 : BitVec 1 := Scalar.cmpi .slt v1266 c0_i32_927
  let c0_i32_928 : BitVec 32 := 0#32
  let v1269 : BitVec 1 := Scalar.cmpi .slt v1265 c0_i32_928
  let v1270 : BitVec 1 := Scalar.xori v1268 v1269
  let c0_i32_926 : BitVec 32 := 0#32
  let v1267 : BitVec 1 := Scalar.cmpi .ne v1266 c0_i32_926
  let v1271 : BitVec 1 := Scalar.andi v1270 v1267
  let v1272 : BitVec 32 := Scalar.addi v1266 v1265
  let v1273 : BitVec 32 := Scalar.select v1271 v1272 v1266
  let c1_i32_935 : BitVec 32 := 1#32
  let v1275 : BitVec 32 := Scalar.muli v1273 c1_i32_935
  let v1276 : BitVec 32 := Scalar.addi c0_i32_936 v1275
  v1276.toNat
def k0_dev61 (d0 : Dev nD) : Nat :=
  let c0_i32_954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_940 : BitVec 32 := 1#32
  let v1284 : BitVec 32 := Scalar.addi v2 c1_i32_940
  let c32_i32_941 : BitVec 32 := 32#32
  let c0_i32_942 : BitVec 32 := 0#32
  let v1285 : BitVec 1 := Scalar.cmpi .eq c32_i32_941 c0_i32_942
  let c1_i32_943 : BitVec 32 := 1#32
  let v1286 : BitVec 32 := Scalar.select v1285 c1_i32_943 c32_i32_941
  let v1287 : BitVec 32 := Scalar.remsi v1284 v1286
  let c0_i32_945 : BitVec 32 := 0#32
  let v1289 : BitVec 1 := Scalar.cmpi .slt v1287 c0_i32_945
  let c0_i32_946 : BitVec 32 := 0#32
  let v1290 : BitVec 1 := Scalar.cmpi .slt v1286 c0_i32_946
  let v1291 : BitVec 1 := Scalar.xori v1289 v1290
  let c0_i32_944 : BitVec 32 := 0#32
  let v1288 : BitVec 1 := Scalar.cmpi .ne v1287 c0_i32_944
  let v1292 : BitVec 1 := Scalar.andi v1291 v1288
  let v1293 : BitVec 32 := Scalar.addi v1287 v1286
  let v1294 : BitVec 32 := Scalar.select v1292 v1293 v1287
  let c1_i32_953 : BitVec 32 := 1#32
  let v1296 : BitVec 32 := Scalar.muli v1294 c1_i32_953
  let v1297 : BitVec 32 := Scalar.addi c0_i32_954 v1296
  v1297.toNat
def k0_dev62 (d0 : Dev nD) : Nat :=
  let c0_i32_972 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_958 : BitVec 32 := 31#32
  let v1305 : BitVec 32 := Scalar.addi v2 c31_i32_958
  let c32_i32_959 : BitVec 32 := 32#32
  let c0_i32_960 : BitVec 32 := 0#32
  let v1306 : BitVec 1 := Scalar.cmpi .eq c32_i32_959 c0_i32_960
  let c1_i32_961 : BitVec 32 := 1#32
  let v1307 : BitVec 32 := Scalar.select v1306 c1_i32_961 c32_i32_959
  let v1308 : BitVec 32 := Scalar.remsi v1305 v1307
  let c0_i32_963 : BitVec 32 := 0#32
  let v1310 : BitVec 1 := Scalar.cmpi .slt v1308 c0_i32_963
  let c0_i32_964 : BitVec 32 := 0#32
  let v1311 : BitVec 1 := Scalar.cmpi .slt v1307 c0_i32_964
  let v1312 : BitVec 1 := Scalar.xori v1310 v1311
  let c0_i32_962 : BitVec 32 := 0#32
  let v1309 : BitVec 1 := Scalar.cmpi .ne v1308 c0_i32_962
  let v1313 : BitVec 1 := Scalar.andi v1312 v1309
  let v1314 : BitVec 32 := Scalar.addi v1308 v1307
  let v1315 : BitVec 32 := Scalar.select v1313 v1314 v1308
  let c1_i32_971 : BitVec 32 := 1#32
  let v1317 : BitVec 32 := Scalar.muli v1315 c1_i32_971
  let v1318 : BitVec 32 := Scalar.addi c0_i32_972 v1317
  v1318.toNat
def k0_off5 (d0 : Dev nD) (c16_i32_976 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1326 : BitVec 32 := Scalar.addi v2 c16_i32_976
  let c32_i32_977 : BitVec 32 := 32#32
  let c0_i32_978 : BitVec 32 := 0#32
  let v1327 : BitVec 1 := Scalar.cmpi .eq c32_i32_977 c0_i32_978
  let c1_i32_979 : BitVec 32 := 1#32
  let v1328 : BitVec 32 := Scalar.select v1327 c1_i32_979 c32_i32_977
  let v1329 : BitVec 32 := Scalar.remsi v1326 v1328
  let c0_i32_981 : BitVec 32 := 0#32
  let v1331 : BitVec 1 := Scalar.cmpi .slt v1329 c0_i32_981
  let c0_i32_982 : BitVec 32 := 0#32
  let v1332 : BitVec 1 := Scalar.cmpi .slt v1328 c0_i32_982
  let v1333 : BitVec 1 := Scalar.xori v1331 v1332
  let c0_i32_980 : BitVec 32 := 0#32
  let v1330 : BitVec 1 := Scalar.cmpi .ne v1329 c0_i32_980
  let v1334 : BitVec 1 := Scalar.andi v1333 v1330
  let v1335 : BitVec 32 := Scalar.addi v1329 v1328
  let v1336 : BitVec 32 := Scalar.select v1334 v1335 v1329
  let c16_i32_983 : BitVec 32 := 16#32
  let v1337 : BitVec 32 := Scalar.muli v1336 c16_i32_983
  let c256_i32_993 : BitVec 32 := 256#32
  ![v1337.toNat, 256]
def k0_dev63 (d0 : Dev nD) : Nat :=
  let c0_i32_990 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_976 : BitVec 32 := 16#32
  let v1326 : BitVec 32 := Scalar.addi v2 c16_i32_976
  let c32_i32_977 : BitVec 32 := 32#32
  let c0_i32_978 : BitVec 32 := 0#32
  let v1327 : BitVec 1 := Scalar.cmpi .eq c32_i32_977 c0_i32_978
  let c1_i32_979 : BitVec 32 := 1#32
  let v1328 : BitVec 32 := Scalar.select v1327 c1_i32_979 c32_i32_977
  let v1329 : BitVec 32 := Scalar.remsi v1326 v1328
  let c0_i32_981 : BitVec 32 := 0#32
  let v1331 : BitVec 1 := Scalar.cmpi .slt v1329 c0_i32_981
  let c0_i32_982 : BitVec 32 := 0#32
  let v1332 : BitVec 1 := Scalar.cmpi .slt v1328 c0_i32_982
  let v1333 : BitVec 1 := Scalar.xori v1331 v1332
  let c0_i32_980 : BitVec 32 := 0#32
  let v1330 : BitVec 1 := Scalar.cmpi .ne v1329 c0_i32_980
  let v1334 : BitVec 1 := Scalar.andi v1333 v1330
  let v1335 : BitVec 32 := Scalar.addi v1329 v1328
  let v1336 : BitVec 32 := Scalar.select v1334 v1335 v1329
  let c1_i32_989 : BitVec 32 := 1#32
  let v1338 : BitVec 32 := Scalar.muli v1336 c1_i32_989
  let v1339 : BitVec 32 := Scalar.addi c0_i32_990 v1338
  v1339.toNat
def k0_dev64 (d0 : Dev nD) : Nat :=
  let c0_i32_1008 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_994 : BitVec 32 := 15#32
  let v1347 : BitVec 32 := Scalar.addi v2 c15_i32_994
  let c32_i32_995 : BitVec 32 := 32#32
  let c0_i32_996 : BitVec 32 := 0#32
  let v1348 : BitVec 1 := Scalar.cmpi .eq c32_i32_995 c0_i32_996
  let c1_i32_997 : BitVec 32 := 1#32
  let v1349 : BitVec 32 := Scalar.select v1348 c1_i32_997 c32_i32_995
  let v1350 : BitVec 32 := Scalar.remsi v1347 v1349
  let c0_i32_999 : BitVec 32 := 0#32
  let v1352 : BitVec 1 := Scalar.cmpi .slt v1350 c0_i32_999
  let c0_i32_1000 : BitVec 32 := 0#32
  let v1353 : BitVec 1 := Scalar.cmpi .slt v1349 c0_i32_1000
  let v1354 : BitVec 1 := Scalar.xori v1352 v1353
  let c0_i32_998 : BitVec 32 := 0#32
  let v1351 : BitVec 1 := Scalar.cmpi .ne v1350 c0_i32_998
  let v1355 : BitVec 1 := Scalar.andi v1354 v1351
  let v1356 : BitVec 32 := Scalar.addi v1350 v1349
  let v1357 : BitVec 32 := Scalar.select v1355 v1356 v1350
  let c1_i32_1007 : BitVec 32 := 1#32
  let v1359 : BitVec 32 := Scalar.muli v1357 c1_i32_1007
  let v1360 : BitVec 32 := Scalar.addi c0_i32_1008 v1359
  v1360.toNat
def k0_dev65 (d0 : Dev nD) : Nat :=
  let c0_i32_1026 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1012 : BitVec 32 := 17#32
  let v1368 : BitVec 32 := Scalar.addi v2 c17_i32_1012
  let c32_i32_1013 : BitVec 32 := 32#32
  let c0_i32_1014 : BitVec 32 := 0#32
  let v1369 : BitVec 1 := Scalar.cmpi .eq c32_i32_1013 c0_i32_1014
  let c1_i32_1015 : BitVec 32 := 1#32
  let v1370 : BitVec 32 := Scalar.select v1369 c1_i32_1015 c32_i32_1013
  let v1371 : BitVec 32 := Scalar.remsi v1368 v1370
  let c0_i32_1017 : BitVec 32 := 0#32
  let v1373 : BitVec 1 := Scalar.cmpi .slt v1371 c0_i32_1017
  let c0_i32_1018 : BitVec 32 := 0#32
  let v1374 : BitVec 1 := Scalar.cmpi .slt v1370 c0_i32_1018
  let v1375 : BitVec 1 := Scalar.xori v1373 v1374
  let c0_i32_1016 : BitVec 32 := 0#32
  let v1372 : BitVec 1 := Scalar.cmpi .ne v1371 c0_i32_1016
  let v1376 : BitVec 1 := Scalar.andi v1375 v1372
  let v1377 : BitVec 32 := Scalar.addi v1371 v1370
  let v1378 : BitVec 32 := Scalar.select v1376 v1377 v1371
  let c1_i32_1025 : BitVec 32 := 1#32
  let v1380 : BitVec 32 := Scalar.muli v1378 c1_i32_1025
  let v1381 : BitVec 32 := Scalar.addi c0_i32_1026 v1380
  v1381.toNat
def k0_dev66 (d0 : Dev nD) : Nat :=
  let c0_i32_1044 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1030 : BitVec 32 := 14#32
  let v1389 : BitVec 32 := Scalar.addi v2 c14_i32_1030
  let c32_i32_1031 : BitVec 32 := 32#32
  let c0_i32_1032 : BitVec 32 := 0#32
  let v1390 : BitVec 1 := Scalar.cmpi .eq c32_i32_1031 c0_i32_1032
  let c1_i32_1033 : BitVec 32 := 1#32
  let v1391 : BitVec 32 := Scalar.select v1390 c1_i32_1033 c32_i32_1031
  let v1392 : BitVec 32 := Scalar.remsi v1389 v1391
  let c0_i32_1035 : BitVec 32 := 0#32
  let v1394 : BitVec 1 := Scalar.cmpi .slt v1392 c0_i32_1035
  let c0_i32_1036 : BitVec 32 := 0#32
  let v1395 : BitVec 1 := Scalar.cmpi .slt v1391 c0_i32_1036
  let v1396 : BitVec 1 := Scalar.xori v1394 v1395
  let c0_i32_1034 : BitVec 32 := 0#32
  let v1393 : BitVec 1 := Scalar.cmpi .ne v1392 c0_i32_1034
  let v1397 : BitVec 1 := Scalar.andi v1396 v1393
  let v1398 : BitVec 32 := Scalar.addi v1392 v1391
  let v1399 : BitVec 32 := Scalar.select v1397 v1398 v1392
  let c1_i32_1043 : BitVec 32 := 1#32
  let v1401 : BitVec 32 := Scalar.muli v1399 c1_i32_1043
  let v1402 : BitVec 32 := Scalar.addi c0_i32_1044 v1401
  v1402.toNat
def k0_dev67 (d0 : Dev nD) : Nat :=
  let c0_i32_1062 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1048 : BitVec 32 := 18#32
  let v1410 : BitVec 32 := Scalar.addi v2 c18_i32_1048
  let c32_i32_1049 : BitVec 32 := 32#32
  let c0_i32_1050 : BitVec 32 := 0#32
  let v1411 : BitVec 1 := Scalar.cmpi .eq c32_i32_1049 c0_i32_1050
  let c1_i32_1051 : BitVec 32 := 1#32
  let v1412 : BitVec 32 := Scalar.select v1411 c1_i32_1051 c32_i32_1049
  let v1413 : BitVec 32 := Scalar.remsi v1410 v1412
  let c0_i32_1053 : BitVec 32 := 0#32
  let v1415 : BitVec 1 := Scalar.cmpi .slt v1413 c0_i32_1053
  let c0_i32_1054 : BitVec 32 := 0#32
  let v1416 : BitVec 1 := Scalar.cmpi .slt v1412 c0_i32_1054
  let v1417 : BitVec 1 := Scalar.xori v1415 v1416
  let c0_i32_1052 : BitVec 32 := 0#32
  let v1414 : BitVec 1 := Scalar.cmpi .ne v1413 c0_i32_1052
  let v1418 : BitVec 1 := Scalar.andi v1417 v1414
  let v1419 : BitVec 32 := Scalar.addi v1413 v1412
  let v1420 : BitVec 32 := Scalar.select v1418 v1419 v1413
  let c1_i32_1061 : BitVec 32 := 1#32
  let v1422 : BitVec 32 := Scalar.muli v1420 c1_i32_1061
  let v1423 : BitVec 32 := Scalar.addi c0_i32_1062 v1422
  v1423.toNat
def k0_dev68 (d0 : Dev nD) : Nat :=
  let c0_i32_1080 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1066 : BitVec 32 := 13#32
  let v1431 : BitVec 32 := Scalar.addi v2 c13_i32_1066
  let c32_i32_1067 : BitVec 32 := 32#32
  let c0_i32_1068 : BitVec 32 := 0#32
  let v1432 : BitVec 1 := Scalar.cmpi .eq c32_i32_1067 c0_i32_1068
  let c1_i32_1069 : BitVec 32 := 1#32
  let v1433 : BitVec 32 := Scalar.select v1432 c1_i32_1069 c32_i32_1067
  let v1434 : BitVec 32 := Scalar.remsi v1431 v1433
  let c0_i32_1071 : BitVec 32 := 0#32
  let v1436 : BitVec 1 := Scalar.cmpi .slt v1434 c0_i32_1071
  let c0_i32_1072 : BitVec 32 := 0#32
  let v1437 : BitVec 1 := Scalar.cmpi .slt v1433 c0_i32_1072
  let v1438 : BitVec 1 := Scalar.xori v1436 v1437
  let c0_i32_1070 : BitVec 32 := 0#32
  let v1435 : BitVec 1 := Scalar.cmpi .ne v1434 c0_i32_1070
  let v1439 : BitVec 1 := Scalar.andi v1438 v1435
  let v1440 : BitVec 32 := Scalar.addi v1434 v1433
  let v1441 : BitVec 32 := Scalar.select v1439 v1440 v1434
  let c1_i32_1079 : BitVec 32 := 1#32
  let v1443 : BitVec 32 := Scalar.muli v1441 c1_i32_1079
  let v1444 : BitVec 32 := Scalar.addi c0_i32_1080 v1443
  v1444.toNat
def k0_dev69 (d0 : Dev nD) : Nat :=
  let c0_i32_1098 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1084 : BitVec 32 := 19#32
  let v1452 : BitVec 32 := Scalar.addi v2 c19_i32_1084
  let c32_i32_1085 : BitVec 32 := 32#32
  let c0_i32_1086 : BitVec 32 := 0#32
  let v1453 : BitVec 1 := Scalar.cmpi .eq c32_i32_1085 c0_i32_1086
  let c1_i32_1087 : BitVec 32 := 1#32
  let v1454 : BitVec 32 := Scalar.select v1453 c1_i32_1087 c32_i32_1085
  let v1455 : BitVec 32 := Scalar.remsi v1452 v1454
  let c0_i32_1089 : BitVec 32 := 0#32
  let v1457 : BitVec 1 := Scalar.cmpi .slt v1455 c0_i32_1089
  let c0_i32_1090 : BitVec 32 := 0#32
  let v1458 : BitVec 1 := Scalar.cmpi .slt v1454 c0_i32_1090
  let v1459 : BitVec 1 := Scalar.xori v1457 v1458
  let c0_i32_1088 : BitVec 32 := 0#32
  let v1456 : BitVec 1 := Scalar.cmpi .ne v1455 c0_i32_1088
  let v1460 : BitVec 1 := Scalar.andi v1459 v1456
  let v1461 : BitVec 32 := Scalar.addi v1455 v1454
  let v1462 : BitVec 32 := Scalar.select v1460 v1461 v1455
  let c1_i32_1097 : BitVec 32 := 1#32
  let v1464 : BitVec 32 := Scalar.muli v1462 c1_i32_1097
  let v1465 : BitVec 32 := Scalar.addi c0_i32_1098 v1464
  v1465.toNat
def k0_dev70 (d0 : Dev nD) : Nat :=
  let c0_i32_1116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1102 : BitVec 32 := 12#32
  let v1473 : BitVec 32 := Scalar.addi v2 c12_i32_1102
  let c32_i32_1103 : BitVec 32 := 32#32
  let c0_i32_1104 : BitVec 32 := 0#32
  let v1474 : BitVec 1 := Scalar.cmpi .eq c32_i32_1103 c0_i32_1104
  let c1_i32_1105 : BitVec 32 := 1#32
  let v1475 : BitVec 32 := Scalar.select v1474 c1_i32_1105 c32_i32_1103
  let v1476 : BitVec 32 := Scalar.remsi v1473 v1475
  let c0_i32_1107 : BitVec 32 := 0#32
  let v1478 : BitVec 1 := Scalar.cmpi .slt v1476 c0_i32_1107
  let c0_i32_1108 : BitVec 32 := 0#32
  let v1479 : BitVec 1 := Scalar.cmpi .slt v1475 c0_i32_1108
  let v1480 : BitVec 1 := Scalar.xori v1478 v1479
  let c0_i32_1106 : BitVec 32 := 0#32
  let v1477 : BitVec 1 := Scalar.cmpi .ne v1476 c0_i32_1106
  let v1481 : BitVec 1 := Scalar.andi v1480 v1477
  let v1482 : BitVec 32 := Scalar.addi v1476 v1475
  let v1483 : BitVec 32 := Scalar.select v1481 v1482 v1476
  let c1_i32_1115 : BitVec 32 := 1#32
  let v1485 : BitVec 32 := Scalar.muli v1483 c1_i32_1115
  let v1486 : BitVec 32 := Scalar.addi c0_i32_1116 v1485
  v1486.toNat
def k0_dev71 (d0 : Dev nD) : Nat :=
  let c0_i32_1134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1120 : BitVec 32 := 20#32
  let v1494 : BitVec 32 := Scalar.addi v2 c20_i32_1120
  let c32_i32_1121 : BitVec 32 := 32#32
  let c0_i32_1122 : BitVec 32 := 0#32
  let v1495 : BitVec 1 := Scalar.cmpi .eq c32_i32_1121 c0_i32_1122
  let c1_i32_1123 : BitVec 32 := 1#32
  let v1496 : BitVec 32 := Scalar.select v1495 c1_i32_1123 c32_i32_1121
  let v1497 : BitVec 32 := Scalar.remsi v1494 v1496
  let c0_i32_1125 : BitVec 32 := 0#32
  let v1499 : BitVec 1 := Scalar.cmpi .slt v1497 c0_i32_1125
  let c0_i32_1126 : BitVec 32 := 0#32
  let v1500 : BitVec 1 := Scalar.cmpi .slt v1496 c0_i32_1126
  let v1501 : BitVec 1 := Scalar.xori v1499 v1500
  let c0_i32_1124 : BitVec 32 := 0#32
  let v1498 : BitVec 1 := Scalar.cmpi .ne v1497 c0_i32_1124
  let v1502 : BitVec 1 := Scalar.andi v1501 v1498
  let v1503 : BitVec 32 := Scalar.addi v1497 v1496
  let v1504 : BitVec 32 := Scalar.select v1502 v1503 v1497
  let c1_i32_1133 : BitVec 32 := 1#32
  let v1506 : BitVec 32 := Scalar.muli v1504 c1_i32_1133
  let v1507 : BitVec 32 := Scalar.addi c0_i32_1134 v1506
  v1507.toNat
def k0_dev72 (d0 : Dev nD) : Nat :=
  let c0_i32_1152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1138 : BitVec 32 := 11#32
  let v1515 : BitVec 32 := Scalar.addi v2 c11_i32_1138
  let c32_i32_1139 : BitVec 32 := 32#32
  let c0_i32_1140 : BitVec 32 := 0#32
  let v1516 : BitVec 1 := Scalar.cmpi .eq c32_i32_1139 c0_i32_1140
  let c1_i32_1141 : BitVec 32 := 1#32
  let v1517 : BitVec 32 := Scalar.select v1516 c1_i32_1141 c32_i32_1139
  let v1518 : BitVec 32 := Scalar.remsi v1515 v1517
  let c0_i32_1143 : BitVec 32 := 0#32
  let v1520 : BitVec 1 := Scalar.cmpi .slt v1518 c0_i32_1143
  let c0_i32_1144 : BitVec 32 := 0#32
  let v1521 : BitVec 1 := Scalar.cmpi .slt v1517 c0_i32_1144
  let v1522 : BitVec 1 := Scalar.xori v1520 v1521
  let c0_i32_1142 : BitVec 32 := 0#32
  let v1519 : BitVec 1 := Scalar.cmpi .ne v1518 c0_i32_1142
  let v1523 : BitVec 1 := Scalar.andi v1522 v1519
  let v1524 : BitVec 32 := Scalar.addi v1518 v1517
  let v1525 : BitVec 32 := Scalar.select v1523 v1524 v1518
  let c1_i32_1151 : BitVec 32 := 1#32
  let v1527 : BitVec 32 := Scalar.muli v1525 c1_i32_1151
  let v1528 : BitVec 32 := Scalar.addi c0_i32_1152 v1527
  v1528.toNat
def k0_dev73 (d0 : Dev nD) : Nat :=
  let c0_i32_1170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1156 : BitVec 32 := 21#32
  let v1536 : BitVec 32 := Scalar.addi v2 c21_i32_1156
  let c32_i32_1157 : BitVec 32 := 32#32
  let c0_i32_1158 : BitVec 32 := 0#32
  let v1537 : BitVec 1 := Scalar.cmpi .eq c32_i32_1157 c0_i32_1158
  let c1_i32_1159 : BitVec 32 := 1#32
  let v1538 : BitVec 32 := Scalar.select v1537 c1_i32_1159 c32_i32_1157
  let v1539 : BitVec 32 := Scalar.remsi v1536 v1538
  let c0_i32_1161 : BitVec 32 := 0#32
  let v1541 : BitVec 1 := Scalar.cmpi .slt v1539 c0_i32_1161
  let c0_i32_1162 : BitVec 32 := 0#32
  let v1542 : BitVec 1 := Scalar.cmpi .slt v1538 c0_i32_1162
  let v1543 : BitVec 1 := Scalar.xori v1541 v1542
  let c0_i32_1160 : BitVec 32 := 0#32
  let v1540 : BitVec 1 := Scalar.cmpi .ne v1539 c0_i32_1160
  let v1544 : BitVec 1 := Scalar.andi v1543 v1540
  let v1545 : BitVec 32 := Scalar.addi v1539 v1538
  let v1546 : BitVec 32 := Scalar.select v1544 v1545 v1539
  let c1_i32_1169 : BitVec 32 := 1#32
  let v1548 : BitVec 32 := Scalar.muli v1546 c1_i32_1169
  let v1549 : BitVec 32 := Scalar.addi c0_i32_1170 v1548
  v1549.toNat
def k0_dev74 (d0 : Dev nD) : Nat :=
  let c0_i32_1188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1174 : BitVec 32 := 10#32
  let v1557 : BitVec 32 := Scalar.addi v2 c10_i32_1174
  let c32_i32_1175 : BitVec 32 := 32#32
  let c0_i32_1176 : BitVec 32 := 0#32
  let v1558 : BitVec 1 := Scalar.cmpi .eq c32_i32_1175 c0_i32_1176
  let c1_i32_1177 : BitVec 32 := 1#32
  let v1559 : BitVec 32 := Scalar.select v1558 c1_i32_1177 c32_i32_1175
  let v1560 : BitVec 32 := Scalar.remsi v1557 v1559
  let c0_i32_1179 : BitVec 32 := 0#32
  let v1562 : BitVec 1 := Scalar.cmpi .slt v1560 c0_i32_1179
  let c0_i32_1180 : BitVec 32 := 0#32
  let v1563 : BitVec 1 := Scalar.cmpi .slt v1559 c0_i32_1180
  let v1564 : BitVec 1 := Scalar.xori v1562 v1563
  let c0_i32_1178 : BitVec 32 := 0#32
  let v1561 : BitVec 1 := Scalar.cmpi .ne v1560 c0_i32_1178
  let v1565 : BitVec 1 := Scalar.andi v1564 v1561
  let v1566 : BitVec 32 := Scalar.addi v1560 v1559
  let v1567 : BitVec 32 := Scalar.select v1565 v1566 v1560
  let c1_i32_1187 : BitVec 32 := 1#32
  let v1569 : BitVec 32 := Scalar.muli v1567 c1_i32_1187
  let v1570 : BitVec 32 := Scalar.addi c0_i32_1188 v1569
  v1570.toNat
def k0_dev75 (d0 : Dev nD) : Nat :=
  let c0_i32_1206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1192 : BitVec 32 := 22#32
  let v1578 : BitVec 32 := Scalar.addi v2 c22_i32_1192
  let c32_i32_1193 : BitVec 32 := 32#32
  let c0_i32_1194 : BitVec 32 := 0#32
  let v1579 : BitVec 1 := Scalar.cmpi .eq c32_i32_1193 c0_i32_1194
  let c1_i32_1195 : BitVec 32 := 1#32
  let v1580 : BitVec 32 := Scalar.select v1579 c1_i32_1195 c32_i32_1193
  let v1581 : BitVec 32 := Scalar.remsi v1578 v1580
  let c0_i32_1197 : BitVec 32 := 0#32
  let v1583 : BitVec 1 := Scalar.cmpi .slt v1581 c0_i32_1197
  let c0_i32_1198 : BitVec 32 := 0#32
  let v1584 : BitVec 1 := Scalar.cmpi .slt v1580 c0_i32_1198
  let v1585 : BitVec 1 := Scalar.xori v1583 v1584
  let c0_i32_1196 : BitVec 32 := 0#32
  let v1582 : BitVec 1 := Scalar.cmpi .ne v1581 c0_i32_1196
  let v1586 : BitVec 1 := Scalar.andi v1585 v1582
  let v1587 : BitVec 32 := Scalar.addi v1581 v1580
  let v1588 : BitVec 32 := Scalar.select v1586 v1587 v1581
  let c1_i32_1205 : BitVec 32 := 1#32
  let v1590 : BitVec 32 := Scalar.muli v1588 c1_i32_1205
  let v1591 : BitVec 32 := Scalar.addi c0_i32_1206 v1590
  v1591.toNat
def k0_dev76 (d0 : Dev nD) : Nat :=
  let c0_i32_1224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1210 : BitVec 32 := 9#32
  let v1599 : BitVec 32 := Scalar.addi v2 c9_i32_1210
  let c32_i32_1211 : BitVec 32 := 32#32
  let c0_i32_1212 : BitVec 32 := 0#32
  let v1600 : BitVec 1 := Scalar.cmpi .eq c32_i32_1211 c0_i32_1212
  let c1_i32_1213 : BitVec 32 := 1#32
  let v1601 : BitVec 32 := Scalar.select v1600 c1_i32_1213 c32_i32_1211
  let v1602 : BitVec 32 := Scalar.remsi v1599 v1601
  let c0_i32_1215 : BitVec 32 := 0#32
  let v1604 : BitVec 1 := Scalar.cmpi .slt v1602 c0_i32_1215
  let c0_i32_1216 : BitVec 32 := 0#32
  let v1605 : BitVec 1 := Scalar.cmpi .slt v1601 c0_i32_1216
  let v1606 : BitVec 1 := Scalar.xori v1604 v1605
  let c0_i32_1214 : BitVec 32 := 0#32
  let v1603 : BitVec 1 := Scalar.cmpi .ne v1602 c0_i32_1214
  let v1607 : BitVec 1 := Scalar.andi v1606 v1603
  let v1608 : BitVec 32 := Scalar.addi v1602 v1601
  let v1609 : BitVec 32 := Scalar.select v1607 v1608 v1602
  let c1_i32_1223 : BitVec 32 := 1#32
  let v1611 : BitVec 32 := Scalar.muli v1609 c1_i32_1223
  let v1612 : BitVec 32 := Scalar.addi c0_i32_1224 v1611
  v1612.toNat
def k0_dev77 (d0 : Dev nD) : Nat :=
  let c0_i32_1242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1228 : BitVec 32 := 23#32
  let v1620 : BitVec 32 := Scalar.addi v2 c23_i32_1228
  let c32_i32_1229 : BitVec 32 := 32#32
  let c0_i32_1230 : BitVec 32 := 0#32
  let v1621 : BitVec 1 := Scalar.cmpi .eq c32_i32_1229 c0_i32_1230
  let c1_i32_1231 : BitVec 32 := 1#32
  let v1622 : BitVec 32 := Scalar.select v1621 c1_i32_1231 c32_i32_1229
  let v1623 : BitVec 32 := Scalar.remsi v1620 v1622
  let c0_i32_1233 : BitVec 32 := 0#32
  let v1625 : BitVec 1 := Scalar.cmpi .slt v1623 c0_i32_1233
  let c0_i32_1234 : BitVec 32 := 0#32
  let v1626 : BitVec 1 := Scalar.cmpi .slt v1622 c0_i32_1234
  let v1627 : BitVec 1 := Scalar.xori v1625 v1626
  let c0_i32_1232 : BitVec 32 := 0#32
  let v1624 : BitVec 1 := Scalar.cmpi .ne v1623 c0_i32_1232
  let v1628 : BitVec 1 := Scalar.andi v1627 v1624
  let v1629 : BitVec 32 := Scalar.addi v1623 v1622
  let v1630 : BitVec 32 := Scalar.select v1628 v1629 v1623
  let c1_i32_1241 : BitVec 32 := 1#32
  let v1632 : BitVec 32 := Scalar.muli v1630 c1_i32_1241
  let v1633 : BitVec 32 := Scalar.addi c0_i32_1242 v1632
  v1633.toNat
def k0_dev78 (d0 : Dev nD) : Nat :=
  let c0_i32_1260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1246 : BitVec 32 := 8#32
  let v1641 : BitVec 32 := Scalar.addi v2 c8_i32_1246
  let c32_i32_1247 : BitVec 32 := 32#32
  let c0_i32_1248 : BitVec 32 := 0#32
  let v1642 : BitVec 1 := Scalar.cmpi .eq c32_i32_1247 c0_i32_1248
  let c1_i32_1249 : BitVec 32 := 1#32
  let v1643 : BitVec 32 := Scalar.select v1642 c1_i32_1249 c32_i32_1247
  let v1644 : BitVec 32 := Scalar.remsi v1641 v1643
  let c0_i32_1251 : BitVec 32 := 0#32
  let v1646 : BitVec 1 := Scalar.cmpi .slt v1644 c0_i32_1251
  let c0_i32_1252 : BitVec 32 := 0#32
  let v1647 : BitVec 1 := Scalar.cmpi .slt v1643 c0_i32_1252
  let v1648 : BitVec 1 := Scalar.xori v1646 v1647
  let c0_i32_1250 : BitVec 32 := 0#32
  let v1645 : BitVec 1 := Scalar.cmpi .ne v1644 c0_i32_1250
  let v1649 : BitVec 1 := Scalar.andi v1648 v1645
  let v1650 : BitVec 32 := Scalar.addi v1644 v1643
  let v1651 : BitVec 32 := Scalar.select v1649 v1650 v1644
  let c1_i32_1259 : BitVec 32 := 1#32
  let v1653 : BitVec 32 := Scalar.muli v1651 c1_i32_1259
  let v1654 : BitVec 32 := Scalar.addi c0_i32_1260 v1653
  v1654.toNat
def k0_dev79 (d0 : Dev nD) : Nat :=
  let c0_i32_1278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1264 : BitVec 32 := 24#32
  let v1662 : BitVec 32 := Scalar.addi v2 c24_i32_1264
  let c32_i32_1265 : BitVec 32 := 32#32
  let c0_i32_1266 : BitVec 32 := 0#32
  let v1663 : BitVec 1 := Scalar.cmpi .eq c32_i32_1265 c0_i32_1266
  let c1_i32_1267 : BitVec 32 := 1#32
  let v1664 : BitVec 32 := Scalar.select v1663 c1_i32_1267 c32_i32_1265
  let v1665 : BitVec 32 := Scalar.remsi v1662 v1664
  let c0_i32_1269 : BitVec 32 := 0#32
  let v1667 : BitVec 1 := Scalar.cmpi .slt v1665 c0_i32_1269
  let c0_i32_1270 : BitVec 32 := 0#32
  let v1668 : BitVec 1 := Scalar.cmpi .slt v1664 c0_i32_1270
  let v1669 : BitVec 1 := Scalar.xori v1667 v1668
  let c0_i32_1268 : BitVec 32 := 0#32
  let v1666 : BitVec 1 := Scalar.cmpi .ne v1665 c0_i32_1268
  let v1670 : BitVec 1 := Scalar.andi v1669 v1666
  let v1671 : BitVec 32 := Scalar.addi v1665 v1664
  let v1672 : BitVec 32 := Scalar.select v1670 v1671 v1665
  let c1_i32_1277 : BitVec 32 := 1#32
  let v1674 : BitVec 32 := Scalar.muli v1672 c1_i32_1277
  let v1675 : BitVec 32 := Scalar.addi c0_i32_1278 v1674
  v1675.toNat
def k0_dev80 (d0 : Dev nD) : Nat :=
  let c0_i32_1296 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1282 : BitVec 32 := 7#32
  let v1683 : BitVec 32 := Scalar.addi v2 c7_i32_1282
  let c32_i32_1283 : BitVec 32 := 32#32
  let c0_i32_1284 : BitVec 32 := 0#32
  let v1684 : BitVec 1 := Scalar.cmpi .eq c32_i32_1283 c0_i32_1284
  let c1_i32_1285 : BitVec 32 := 1#32
  let v1685 : BitVec 32 := Scalar.select v1684 c1_i32_1285 c32_i32_1283
  let v1686 : BitVec 32 := Scalar.remsi v1683 v1685
  let c0_i32_1287 : BitVec 32 := 0#32
  let v1688 : BitVec 1 := Scalar.cmpi .slt v1686 c0_i32_1287
  let c0_i32_1288 : BitVec 32 := 0#32
  let v1689 : BitVec 1 := Scalar.cmpi .slt v1685 c0_i32_1288
  let v1690 : BitVec 1 := Scalar.xori v1688 v1689
  let c0_i32_1286 : BitVec 32 := 0#32
  let v1687 : BitVec 1 := Scalar.cmpi .ne v1686 c0_i32_1286
  let v1691 : BitVec 1 := Scalar.andi v1690 v1687
  let v1692 : BitVec 32 := Scalar.addi v1686 v1685
  let v1693 : BitVec 32 := Scalar.select v1691 v1692 v1686
  let c1_i32_1295 : BitVec 32 := 1#32
  let v1695 : BitVec 32 := Scalar.muli v1693 c1_i32_1295
  let v1696 : BitVec 32 := Scalar.addi c0_i32_1296 v1695
  v1696.toNat
def k0_dev81 (d0 : Dev nD) : Nat :=
  let c0_i32_1314 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1300 : BitVec 32 := 25#32
  let v1704 : BitVec 32 := Scalar.addi v2 c25_i32_1300
  let c32_i32_1301 : BitVec 32 := 32#32
  let c0_i32_1302 : BitVec 32 := 0#32
  let v1705 : BitVec 1 := Scalar.cmpi .eq c32_i32_1301 c0_i32_1302
  let c1_i32_1303 : BitVec 32 := 1#32
  let v1706 : BitVec 32 := Scalar.select v1705 c1_i32_1303 c32_i32_1301
  let v1707 : BitVec 32 := Scalar.remsi v1704 v1706
  let c0_i32_1305 : BitVec 32 := 0#32
  let v1709 : BitVec 1 := Scalar.cmpi .slt v1707 c0_i32_1305
  let c0_i32_1306 : BitVec 32 := 0#32
  let v1710 : BitVec 1 := Scalar.cmpi .slt v1706 c0_i32_1306
  let v1711 : BitVec 1 := Scalar.xori v1709 v1710
  let c0_i32_1304 : BitVec 32 := 0#32
  let v1708 : BitVec 1 := Scalar.cmpi .ne v1707 c0_i32_1304
  let v1712 : BitVec 1 := Scalar.andi v1711 v1708
  let v1713 : BitVec 32 := Scalar.addi v1707 v1706
  let v1714 : BitVec 32 := Scalar.select v1712 v1713 v1707
  let c1_i32_1313 : BitVec 32 := 1#32
  let v1716 : BitVec 32 := Scalar.muli v1714 c1_i32_1313
  let v1717 : BitVec 32 := Scalar.addi c0_i32_1314 v1716
  v1717.toNat
def k0_dev82 (d0 : Dev nD) : Nat :=
  let c0_i32_1332 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1318 : BitVec 32 := 6#32
  let v1725 : BitVec 32 := Scalar.addi v2 c6_i32_1318
  let c32_i32_1319 : BitVec 32 := 32#32
  let c0_i32_1320 : BitVec 32 := 0#32
  let v1726 : BitVec 1 := Scalar.cmpi .eq c32_i32_1319 c0_i32_1320
  let c1_i32_1321 : BitVec 32 := 1#32
  let v1727 : BitVec 32 := Scalar.select v1726 c1_i32_1321 c32_i32_1319
  let v1728 : BitVec 32 := Scalar.remsi v1725 v1727
  let c0_i32_1323 : BitVec 32 := 0#32
  let v1730 : BitVec 1 := Scalar.cmpi .slt v1728 c0_i32_1323
  let c0_i32_1324 : BitVec 32 := 0#32
  let v1731 : BitVec 1 := Scalar.cmpi .slt v1727 c0_i32_1324
  let v1732 : BitVec 1 := Scalar.xori v1730 v1731
  let c0_i32_1322 : BitVec 32 := 0#32
  let v1729 : BitVec 1 := Scalar.cmpi .ne v1728 c0_i32_1322
  let v1733 : BitVec 1 := Scalar.andi v1732 v1729
  let v1734 : BitVec 32 := Scalar.addi v1728 v1727
  let v1735 : BitVec 32 := Scalar.select v1733 v1734 v1728
  let c1_i32_1331 : BitVec 32 := 1#32
  let v1737 : BitVec 32 := Scalar.muli v1735 c1_i32_1331
  let v1738 : BitVec 32 := Scalar.addi c0_i32_1332 v1737
  v1738.toNat
def k0_dev83 (d0 : Dev nD) : Nat :=
  let c0_i32_1350 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1336 : BitVec 32 := 26#32
  let v1746 : BitVec 32 := Scalar.addi v2 c26_i32_1336
  let c32_i32_1337 : BitVec 32 := 32#32
  let c0_i32_1338 : BitVec 32 := 0#32
  let v1747 : BitVec 1 := Scalar.cmpi .eq c32_i32_1337 c0_i32_1338
  let c1_i32_1339 : BitVec 32 := 1#32
  let v1748 : BitVec 32 := Scalar.select v1747 c1_i32_1339 c32_i32_1337
  let v1749 : BitVec 32 := Scalar.remsi v1746 v1748
  let c0_i32_1341 : BitVec 32 := 0#32
  let v1751 : BitVec 1 := Scalar.cmpi .slt v1749 c0_i32_1341
  let c0_i32_1342 : BitVec 32 := 0#32
  let v1752 : BitVec 1 := Scalar.cmpi .slt v1748 c0_i32_1342
  let v1753 : BitVec 1 := Scalar.xori v1751 v1752
  let c0_i32_1340 : BitVec 32 := 0#32
  let v1750 : BitVec 1 := Scalar.cmpi .ne v1749 c0_i32_1340
  let v1754 : BitVec 1 := Scalar.andi v1753 v1750
  let v1755 : BitVec 32 := Scalar.addi v1749 v1748
  let v1756 : BitVec 32 := Scalar.select v1754 v1755 v1749
  let c1_i32_1349 : BitVec 32 := 1#32
  let v1758 : BitVec 32 := Scalar.muli v1756 c1_i32_1349
  let v1759 : BitVec 32 := Scalar.addi c0_i32_1350 v1758
  v1759.toNat
def k0_dev84 (d0 : Dev nD) : Nat :=
  let c0_i32_1368 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1354 : BitVec 32 := 5#32
  let v1767 : BitVec 32 := Scalar.addi v2 c5_i32_1354
  let c32_i32_1355 : BitVec 32 := 32#32
  let c0_i32_1356 : BitVec 32 := 0#32
  let v1768 : BitVec 1 := Scalar.cmpi .eq c32_i32_1355 c0_i32_1356
  let c1_i32_1357 : BitVec 32 := 1#32
  let v1769 : BitVec 32 := Scalar.select v1768 c1_i32_1357 c32_i32_1355
  let v1770 : BitVec 32 := Scalar.remsi v1767 v1769
  let c0_i32_1359 : BitVec 32 := 0#32
  let v1772 : BitVec 1 := Scalar.cmpi .slt v1770 c0_i32_1359
  let c0_i32_1360 : BitVec 32 := 0#32
  let v1773 : BitVec 1 := Scalar.cmpi .slt v1769 c0_i32_1360
  let v1774 : BitVec 1 := Scalar.xori v1772 v1773
  let c0_i32_1358 : BitVec 32 := 0#32
  let v1771 : BitVec 1 := Scalar.cmpi .ne v1770 c0_i32_1358
  let v1775 : BitVec 1 := Scalar.andi v1774 v1771
  let v1776 : BitVec 32 := Scalar.addi v1770 v1769
  let v1777 : BitVec 32 := Scalar.select v1775 v1776 v1770
  let c1_i32_1367 : BitVec 32 := 1#32
  let v1779 : BitVec 32 := Scalar.muli v1777 c1_i32_1367
  let v1780 : BitVec 32 := Scalar.addi c0_i32_1368 v1779
  v1780.toNat
def k0_dev85 (d0 : Dev nD) : Nat :=
  let c0_i32_1386 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1372 : BitVec 32 := 27#32
  let v1788 : BitVec 32 := Scalar.addi v2 c27_i32_1372
  let c32_i32_1373 : BitVec 32 := 32#32
  let c0_i32_1374 : BitVec 32 := 0#32
  let v1789 : BitVec 1 := Scalar.cmpi .eq c32_i32_1373 c0_i32_1374
  let c1_i32_1375 : BitVec 32 := 1#32
  let v1790 : BitVec 32 := Scalar.select v1789 c1_i32_1375 c32_i32_1373
  let v1791 : BitVec 32 := Scalar.remsi v1788 v1790
  let c0_i32_1377 : BitVec 32 := 0#32
  let v1793 : BitVec 1 := Scalar.cmpi .slt v1791 c0_i32_1377
  let c0_i32_1378 : BitVec 32 := 0#32
  let v1794 : BitVec 1 := Scalar.cmpi .slt v1790 c0_i32_1378
  let v1795 : BitVec 1 := Scalar.xori v1793 v1794
  let c0_i32_1376 : BitVec 32 := 0#32
  let v1792 : BitVec 1 := Scalar.cmpi .ne v1791 c0_i32_1376
  let v1796 : BitVec 1 := Scalar.andi v1795 v1792
  let v1797 : BitVec 32 := Scalar.addi v1791 v1790
  let v1798 : BitVec 32 := Scalar.select v1796 v1797 v1791
  let c1_i32_1385 : BitVec 32 := 1#32
  let v1800 : BitVec 32 := Scalar.muli v1798 c1_i32_1385
  let v1801 : BitVec 32 := Scalar.addi c0_i32_1386 v1800
  v1801.toNat
def k0_dev86 (d0 : Dev nD) : Nat :=
  let c0_i32_1404 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1390 : BitVec 32 := 4#32
  let v1809 : BitVec 32 := Scalar.addi v2 c4_i32_1390
  let c32_i32_1391 : BitVec 32 := 32#32
  let c0_i32_1392 : BitVec 32 := 0#32
  let v1810 : BitVec 1 := Scalar.cmpi .eq c32_i32_1391 c0_i32_1392
  let c1_i32_1393 : BitVec 32 := 1#32
  let v1811 : BitVec 32 := Scalar.select v1810 c1_i32_1393 c32_i32_1391
  let v1812 : BitVec 32 := Scalar.remsi v1809 v1811
  let c0_i32_1395 : BitVec 32 := 0#32
  let v1814 : BitVec 1 := Scalar.cmpi .slt v1812 c0_i32_1395
  let c0_i32_1396 : BitVec 32 := 0#32
  let v1815 : BitVec 1 := Scalar.cmpi .slt v1811 c0_i32_1396
  let v1816 : BitVec 1 := Scalar.xori v1814 v1815
  let c0_i32_1394 : BitVec 32 := 0#32
  let v1813 : BitVec 1 := Scalar.cmpi .ne v1812 c0_i32_1394
  let v1817 : BitVec 1 := Scalar.andi v1816 v1813
  let v1818 : BitVec 32 := Scalar.addi v1812 v1811
  let v1819 : BitVec 32 := Scalar.select v1817 v1818 v1812
  let c1_i32_1403 : BitVec 32 := 1#32
  let v1821 : BitVec 32 := Scalar.muli v1819 c1_i32_1403
  let v1822 : BitVec 32 := Scalar.addi c0_i32_1404 v1821
  v1822.toNat
def k0_dev87 (d0 : Dev nD) : Nat :=
  let c0_i32_1422 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1408 : BitVec 32 := 28#32
  let v1830 : BitVec 32 := Scalar.addi v2 c28_i32_1408
  let c32_i32_1409 : BitVec 32 := 32#32
  let c0_i32_1410 : BitVec 32 := 0#32
  let v1831 : BitVec 1 := Scalar.cmpi .eq c32_i32_1409 c0_i32_1410
  let c1_i32_1411 : BitVec 32 := 1#32
  let v1832 : BitVec 32 := Scalar.select v1831 c1_i32_1411 c32_i32_1409
  let v1833 : BitVec 32 := Scalar.remsi v1830 v1832
  let c0_i32_1413 : BitVec 32 := 0#32
  let v1835 : BitVec 1 := Scalar.cmpi .slt v1833 c0_i32_1413
  let c0_i32_1414 : BitVec 32 := 0#32
  let v1836 : BitVec 1 := Scalar.cmpi .slt v1832 c0_i32_1414
  let v1837 : BitVec 1 := Scalar.xori v1835 v1836
  let c0_i32_1412 : BitVec 32 := 0#32
  let v1834 : BitVec 1 := Scalar.cmpi .ne v1833 c0_i32_1412
  let v1838 : BitVec 1 := Scalar.andi v1837 v1834
  let v1839 : BitVec 32 := Scalar.addi v1833 v1832
  let v1840 : BitVec 32 := Scalar.select v1838 v1839 v1833
  let c1_i32_1421 : BitVec 32 := 1#32
  let v1842 : BitVec 32 := Scalar.muli v1840 c1_i32_1421
  let v1843 : BitVec 32 := Scalar.addi c0_i32_1422 v1842
  v1843.toNat
def k0_dev88 (d0 : Dev nD) : Nat :=
  let c0_i32_1440 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1426 : BitVec 32 := 3#32
  let v1851 : BitVec 32 := Scalar.addi v2 c3_i32_1426
  let c32_i32_1427 : BitVec 32 := 32#32
  let c0_i32_1428 : BitVec 32 := 0#32
  let v1852 : BitVec 1 := Scalar.cmpi .eq c32_i32_1427 c0_i32_1428
  let c1_i32_1429 : BitVec 32 := 1#32
  let v1853 : BitVec 32 := Scalar.select v1852 c1_i32_1429 c32_i32_1427
  let v1854 : BitVec 32 := Scalar.remsi v1851 v1853
  let c0_i32_1431 : BitVec 32 := 0#32
  let v1856 : BitVec 1 := Scalar.cmpi .slt v1854 c0_i32_1431
  let c0_i32_1432 : BitVec 32 := 0#32
  let v1857 : BitVec 1 := Scalar.cmpi .slt v1853 c0_i32_1432
  let v1858 : BitVec 1 := Scalar.xori v1856 v1857
  let c0_i32_1430 : BitVec 32 := 0#32
  let v1855 : BitVec 1 := Scalar.cmpi .ne v1854 c0_i32_1430
  let v1859 : BitVec 1 := Scalar.andi v1858 v1855
  let v1860 : BitVec 32 := Scalar.addi v1854 v1853
  let v1861 : BitVec 32 := Scalar.select v1859 v1860 v1854
  let c1_i32_1439 : BitVec 32 := 1#32
  let v1863 : BitVec 32 := Scalar.muli v1861 c1_i32_1439
  let v1864 : BitVec 32 := Scalar.addi c0_i32_1440 v1863
  v1864.toNat
def k0_dev89 (d0 : Dev nD) : Nat :=
  let c0_i32_1458 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1444 : BitVec 32 := 29#32
  let v1872 : BitVec 32 := Scalar.addi v2 c29_i32_1444
  let c32_i32_1445 : BitVec 32 := 32#32
  let c0_i32_1446 : BitVec 32 := 0#32
  let v1873 : BitVec 1 := Scalar.cmpi .eq c32_i32_1445 c0_i32_1446
  let c1_i32_1447 : BitVec 32 := 1#32
  let v1874 : BitVec 32 := Scalar.select v1873 c1_i32_1447 c32_i32_1445
  let v1875 : BitVec 32 := Scalar.remsi v1872 v1874
  let c0_i32_1449 : BitVec 32 := 0#32
  let v1877 : BitVec 1 := Scalar.cmpi .slt v1875 c0_i32_1449
  let c0_i32_1450 : BitVec 32 := 0#32
  let v1878 : BitVec 1 := Scalar.cmpi .slt v1874 c0_i32_1450
  let v1879 : BitVec 1 := Scalar.xori v1877 v1878
  let c0_i32_1448 : BitVec 32 := 0#32
  let v1876 : BitVec 1 := Scalar.cmpi .ne v1875 c0_i32_1448
  let v1880 : BitVec 1 := Scalar.andi v1879 v1876
  let v1881 : BitVec 32 := Scalar.addi v1875 v1874
  let v1882 : BitVec 32 := Scalar.select v1880 v1881 v1875
  let c1_i32_1457 : BitVec 32 := 1#32
  let v1884 : BitVec 32 := Scalar.muli v1882 c1_i32_1457
  let v1885 : BitVec 32 := Scalar.addi c0_i32_1458 v1884
  v1885.toNat
def k0_dev90 (d0 : Dev nD) : Nat :=
  let c0_i32_1476 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1462 : BitVec 32 := 2#32
  let v1893 : BitVec 32 := Scalar.addi v2 c2_i32_1462
  let c32_i32_1463 : BitVec 32 := 32#32
  let c0_i32_1464 : BitVec 32 := 0#32
  let v1894 : BitVec 1 := Scalar.cmpi .eq c32_i32_1463 c0_i32_1464
  let c1_i32_1465 : BitVec 32 := 1#32
  let v1895 : BitVec 32 := Scalar.select v1894 c1_i32_1465 c32_i32_1463
  let v1896 : BitVec 32 := Scalar.remsi v1893 v1895
  let c0_i32_1467 : BitVec 32 := 0#32
  let v1898 : BitVec 1 := Scalar.cmpi .slt v1896 c0_i32_1467
  let c0_i32_1468 : BitVec 32 := 0#32
  let v1899 : BitVec 1 := Scalar.cmpi .slt v1895 c0_i32_1468
  let v1900 : BitVec 1 := Scalar.xori v1898 v1899
  let c0_i32_1466 : BitVec 32 := 0#32
  let v1897 : BitVec 1 := Scalar.cmpi .ne v1896 c0_i32_1466
  let v1901 : BitVec 1 := Scalar.andi v1900 v1897
  let v1902 : BitVec 32 := Scalar.addi v1896 v1895
  let v1903 : BitVec 32 := Scalar.select v1901 v1902 v1896
  let c1_i32_1475 : BitVec 32 := 1#32
  let v1905 : BitVec 32 := Scalar.muli v1903 c1_i32_1475
  let v1906 : BitVec 32 := Scalar.addi c0_i32_1476 v1905
  v1906.toNat
def k0_dev91 (d0 : Dev nD) : Nat :=
  let c0_i32_1494 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1480 : BitVec 32 := 30#32
  let v1914 : BitVec 32 := Scalar.addi v2 c30_i32_1480
  let c32_i32_1481 : BitVec 32 := 32#32
  let c0_i32_1482 : BitVec 32 := 0#32
  let v1915 : BitVec 1 := Scalar.cmpi .eq c32_i32_1481 c0_i32_1482
  let c1_i32_1483 : BitVec 32 := 1#32
  let v1916 : BitVec 32 := Scalar.select v1915 c1_i32_1483 c32_i32_1481
  let v1917 : BitVec 32 := Scalar.remsi v1914 v1916
  let c0_i32_1485 : BitVec 32 := 0#32
  let v1919 : BitVec 1 := Scalar.cmpi .slt v1917 c0_i32_1485
  let c0_i32_1486 : BitVec 32 := 0#32
  let v1920 : BitVec 1 := Scalar.cmpi .slt v1916 c0_i32_1486
  let v1921 : BitVec 1 := Scalar.xori v1919 v1920
  let c0_i32_1484 : BitVec 32 := 0#32
  let v1918 : BitVec 1 := Scalar.cmpi .ne v1917 c0_i32_1484
  let v1922 : BitVec 1 := Scalar.andi v1921 v1918
  let v1923 : BitVec 32 := Scalar.addi v1917 v1916
  let v1924 : BitVec 32 := Scalar.select v1922 v1923 v1917
  let c1_i32_1493 : BitVec 32 := 1#32
  let v1926 : BitVec 32 := Scalar.muli v1924 c1_i32_1493
  let v1927 : BitVec 32 := Scalar.addi c0_i32_1494 v1926
  v1927.toNat
def k0_dev92 (d0 : Dev nD) : Nat :=
  let c0_i32_1512 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1498 : BitVec 32 := 1#32
  let v1935 : BitVec 32 := Scalar.addi v2 c1_i32_1498
  let c32_i32_1499 : BitVec 32 := 32#32
  let c0_i32_1500 : BitVec 32 := 0#32
  let v1936 : BitVec 1 := Scalar.cmpi .eq c32_i32_1499 c0_i32_1500
  let c1_i32_1501 : BitVec 32 := 1#32
  let v1937 : BitVec 32 := Scalar.select v1936 c1_i32_1501 c32_i32_1499
  let v1938 : BitVec 32 := Scalar.remsi v1935 v1937
  let c0_i32_1503 : BitVec 32 := 0#32
  let v1940 : BitVec 1 := Scalar.cmpi .slt v1938 c0_i32_1503
  let c0_i32_1504 : BitVec 32 := 0#32
  let v1941 : BitVec 1 := Scalar.cmpi .slt v1937 c0_i32_1504
  let v1942 : BitVec 1 := Scalar.xori v1940 v1941
  let c0_i32_1502 : BitVec 32 := 0#32
  let v1939 : BitVec 1 := Scalar.cmpi .ne v1938 c0_i32_1502
  let v1943 : BitVec 1 := Scalar.andi v1942 v1939
  let v1944 : BitVec 32 := Scalar.addi v1938 v1937
  let v1945 : BitVec 32 := Scalar.select v1943 v1944 v1938
  let c1_i32_1511 : BitVec 32 := 1#32
  let v1947 : BitVec 32 := Scalar.muli v1945 c1_i32_1511
  let v1948 : BitVec 32 := Scalar.addi c0_i32_1512 v1947
  v1948.toNat
def k0_dev93 (d0 : Dev nD) : Nat :=
  let c0_i32_1530 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1516 : BitVec 32 := 31#32
  let v1956 : BitVec 32 := Scalar.addi v2 c31_i32_1516
  let c32_i32_1517 : BitVec 32 := 32#32
  let c0_i32_1518 : BitVec 32 := 0#32
  let v1957 : BitVec 1 := Scalar.cmpi .eq c32_i32_1517 c0_i32_1518
  let c1_i32_1519 : BitVec 32 := 1#32
  let v1958 : BitVec 32 := Scalar.select v1957 c1_i32_1519 c32_i32_1517
  let v1959 : BitVec 32 := Scalar.remsi v1956 v1958
  let c0_i32_1521 : BitVec 32 := 0#32
  let v1961 : BitVec 1 := Scalar.cmpi .slt v1959 c0_i32_1521
  let c0_i32_1522 : BitVec 32 := 0#32
  let v1962 : BitVec 1 := Scalar.cmpi .slt v1958 c0_i32_1522
  let v1963 : BitVec 1 := Scalar.xori v1961 v1962
  let c0_i32_1520 : BitVec 32 := 0#32
  let v1960 : BitVec 1 := Scalar.cmpi .ne v1959 c0_i32_1520
  let v1964 : BitVec 1 := Scalar.andi v1963 v1960
  let v1965 : BitVec 32 := Scalar.addi v1959 v1958
  let v1966 : BitVec 32 := Scalar.select v1964 v1965 v1959
  let c1_i32_1529 : BitVec 32 := 1#32
  let v1968 : BitVec 32 := Scalar.muli v1966 c1_i32_1529
  let v1969 : BitVec 32 := Scalar.addi c0_i32_1530 v1968
  v1969.toNat
def k0_off6 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2199 : Index := Scalar.indexCast v2
  let c0_1910 : Index := 0#32
  let c0_1911 : Index := 0#32
  ![v2199.toNat, 0, 0]
def k0_off7 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1925 : BitVec 32 := 0#32
  let c0_i32_1926 : BitVec 32 := 0#32
  ![v2.toNat, 0, 0]
def k0_dev94 (d0 : Dev nD) : Nat :=
  let c0_i32_1924 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1912 : BitVec 32 := 16#32
  let v2203 : BitVec 32 := Scalar.addi v2 c16_i32_1912
  let c32_i32_1913 : BitVec 32 := 32#32
  let c0_i32_1914 : BitVec 32 := 0#32
  let v2204 : BitVec 1 := Scalar.cmpi .eq c32_i32_1913 c0_i32_1914
  let c1_i32_1915 : BitVec 32 := 1#32
  let v2205 : BitVec 32 := Scalar.select v2204 c1_i32_1915 c32_i32_1913
  let v2206 : BitVec 32 := Scalar.remsi v2203 v2205
  let c0_i32_1917 : BitVec 32 := 0#32
  let v2208 : BitVec 1 := Scalar.cmpi .slt v2206 c0_i32_1917
  let c0_i32_1918 : BitVec 32 := 0#32
  let v2209 : BitVec 1 := Scalar.cmpi .slt v2205 c0_i32_1918
  let v2210 : BitVec 1 := Scalar.xori v2208 v2209
  let c0_i32_1916 : BitVec 32 := 0#32
  let v2207 : BitVec 1 := Scalar.cmpi .ne v2206 c0_i32_1916
  let v2211 : BitVec 1 := Scalar.andi v2210 v2207
  let v2212 : BitVec 32 := Scalar.addi v2206 v2205
  let v2213 : BitVec 32 := Scalar.select v2211 v2212 v2206
  let c1_i32_1923 : BitVec 32 := 1#32
  let v2214 : BitVec 32 := Scalar.muli v2213 c1_i32_1923
  let v2215 : BitVec 32 := Scalar.addi c0_i32_1924 v2214
  v2215.toNat
def k0_dev95 (d0 : Dev nD) : Nat :=
  let c0_i32_1941 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1929 : BitVec 32 := 15#32
  let v2224 : BitVec 32 := Scalar.addi v2 c15_i32_1929
  let c32_i32_1930 : BitVec 32 := 32#32
  let c0_i32_1931 : BitVec 32 := 0#32
  let v2225 : BitVec 1 := Scalar.cmpi .eq c32_i32_1930 c0_i32_1931
  let c1_i32_1932 : BitVec 32 := 1#32
  let v2226 : BitVec 32 := Scalar.select v2225 c1_i32_1932 c32_i32_1930
  let v2227 : BitVec 32 := Scalar.remsi v2224 v2226
  let c0_i32_1934 : BitVec 32 := 0#32
  let v2229 : BitVec 1 := Scalar.cmpi .slt v2227 c0_i32_1934
  let c0_i32_1935 : BitVec 32 := 0#32
  let v2230 : BitVec 1 := Scalar.cmpi .slt v2226 c0_i32_1935
  let v2231 : BitVec 1 := Scalar.xori v2229 v2230
  let c0_i32_1933 : BitVec 32 := 0#32
  let v2228 : BitVec 1 := Scalar.cmpi .ne v2227 c0_i32_1933
  let v2232 : BitVec 1 := Scalar.andi v2231 v2228
  let v2233 : BitVec 32 := Scalar.addi v2227 v2226
  let v2234 : BitVec 32 := Scalar.select v2232 v2233 v2227
  let c1_i32_1940 : BitVec 32 := 1#32
  let v2235 : BitVec 32 := Scalar.muli v2234 c1_i32_1940
  let v2236 : BitVec 32 := Scalar.addi c0_i32_1941 v2235
  v2236.toNat
def k0_dev96 (d0 : Dev nD) : Nat :=
  let c0_i32_1958 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1946 : BitVec 32 := 17#32
  let v2245 : BitVec 32 := Scalar.addi v2 c17_i32_1946
  let c32_i32_1947 : BitVec 32 := 32#32
  let c0_i32_1948 : BitVec 32 := 0#32
  let v2246 : BitVec 1 := Scalar.cmpi .eq c32_i32_1947 c0_i32_1948
  let c1_i32_1949 : BitVec 32 := 1#32
  let v2247 : BitVec 32 := Scalar.select v2246 c1_i32_1949 c32_i32_1947
  let v2248 : BitVec 32 := Scalar.remsi v2245 v2247
  let c0_i32_1951 : BitVec 32 := 0#32
  let v2250 : BitVec 1 := Scalar.cmpi .slt v2248 c0_i32_1951
  let c0_i32_1952 : BitVec 32 := 0#32
  let v2251 : BitVec 1 := Scalar.cmpi .slt v2247 c0_i32_1952
  let v2252 : BitVec 1 := Scalar.xori v2250 v2251
  let c0_i32_1950 : BitVec 32 := 0#32
  let v2249 : BitVec 1 := Scalar.cmpi .ne v2248 c0_i32_1950
  let v2253 : BitVec 1 := Scalar.andi v2252 v2249
  let v2254 : BitVec 32 := Scalar.addi v2248 v2247
  let v2255 : BitVec 32 := Scalar.select v2253 v2254 v2248
  let c1_i32_1957 : BitVec 32 := 1#32
  let v2256 : BitVec 32 := Scalar.muli v2255 c1_i32_1957
  let v2257 : BitVec 32 := Scalar.addi c0_i32_1958 v2256
  v2257.toNat
def k0_dev97 (d0 : Dev nD) : Nat :=
  let c0_i32_1975 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1963 : BitVec 32 := 14#32
  let v2266 : BitVec 32 := Scalar.addi v2 c14_i32_1963
  let c32_i32_1964 : BitVec 32 := 32#32
  let c0_i32_1965 : BitVec 32 := 0#32
  let v2267 : BitVec 1 := Scalar.cmpi .eq c32_i32_1964 c0_i32_1965
  let c1_i32_1966 : BitVec 32 := 1#32
  let v2268 : BitVec 32 := Scalar.select v2267 c1_i32_1966 c32_i32_1964
  let v2269 : BitVec 32 := Scalar.remsi v2266 v2268
  let c0_i32_1968 : BitVec 32 := 0#32
  let v2271 : BitVec 1 := Scalar.cmpi .slt v2269 c0_i32_1968
  let c0_i32_1969 : BitVec 32 := 0#32
  let v2272 : BitVec 1 := Scalar.cmpi .slt v2268 c0_i32_1969
  let v2273 : BitVec 1 := Scalar.xori v2271 v2272
  let c0_i32_1967 : BitVec 32 := 0#32
  let v2270 : BitVec 1 := Scalar.cmpi .ne v2269 c0_i32_1967
  let v2274 : BitVec 1 := Scalar.andi v2273 v2270
  let v2275 : BitVec 32 := Scalar.addi v2269 v2268
  let v2276 : BitVec 32 := Scalar.select v2274 v2275 v2269
  let c1_i32_1974 : BitVec 32 := 1#32
  let v2277 : BitVec 32 := Scalar.muli v2276 c1_i32_1974
  let v2278 : BitVec 32 := Scalar.addi c0_i32_1975 v2277
  v2278.toNat
def k0_dev98 (d0 : Dev nD) : Nat :=
  let c0_i32_1992 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1980 : BitVec 32 := 18#32
  let v2287 : BitVec 32 := Scalar.addi v2 c18_i32_1980
  let c32_i32_1981 : BitVec 32 := 32#32
  let c0_i32_1982 : BitVec 32 := 0#32
  let v2288 : BitVec 1 := Scalar.cmpi .eq c32_i32_1981 c0_i32_1982
  let c1_i32_1983 : BitVec 32 := 1#32
  let v2289 : BitVec 32 := Scalar.select v2288 c1_i32_1983 c32_i32_1981
  let v2290 : BitVec 32 := Scalar.remsi v2287 v2289
  let c0_i32_1985 : BitVec 32 := 0#32
  let v2292 : BitVec 1 := Scalar.cmpi .slt v2290 c0_i32_1985
  let c0_i32_1986 : BitVec 32 := 0#32
  let v2293 : BitVec 1 := Scalar.cmpi .slt v2289 c0_i32_1986
  let v2294 : BitVec 1 := Scalar.xori v2292 v2293
  let c0_i32_1984 : BitVec 32 := 0#32
  let v2291 : BitVec 1 := Scalar.cmpi .ne v2290 c0_i32_1984
  let v2295 : BitVec 1 := Scalar.andi v2294 v2291
  let v2296 : BitVec 32 := Scalar.addi v2290 v2289
  let v2297 : BitVec 32 := Scalar.select v2295 v2296 v2290
  let c1_i32_1991 : BitVec 32 := 1#32
  let v2298 : BitVec 32 := Scalar.muli v2297 c1_i32_1991
  let v2299 : BitVec 32 := Scalar.addi c0_i32_1992 v2298
  v2299.toNat
def k0_dev99 (d0 : Dev nD) : Nat :=
  let c0_i32_2009 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1997 : BitVec 32 := 13#32
  let v2308 : BitVec 32 := Scalar.addi v2 c13_i32_1997
  let c32_i32_1998 : BitVec 32 := 32#32
  let c0_i32_1999 : BitVec 32 := 0#32
  let v2309 : BitVec 1 := Scalar.cmpi .eq c32_i32_1998 c0_i32_1999
  let c1_i32_2000 : BitVec 32 := 1#32
  let v2310 : BitVec 32 := Scalar.select v2309 c1_i32_2000 c32_i32_1998
  let v2311 : BitVec 32 := Scalar.remsi v2308 v2310
  let c0_i32_2002 : BitVec 32 := 0#32
  let v2313 : BitVec 1 := Scalar.cmpi .slt v2311 c0_i32_2002
  let c0_i32_2003 : BitVec 32 := 0#32
  let v2314 : BitVec 1 := Scalar.cmpi .slt v2310 c0_i32_2003
  let v2315 : BitVec 1 := Scalar.xori v2313 v2314
  let c0_i32_2001 : BitVec 32 := 0#32
  let v2312 : BitVec 1 := Scalar.cmpi .ne v2311 c0_i32_2001
  let v2316 : BitVec 1 := Scalar.andi v2315 v2312
  let v2317 : BitVec 32 := Scalar.addi v2311 v2310
  let v2318 : BitVec 32 := Scalar.select v2316 v2317 v2311
  let c1_i32_2008 : BitVec 32 := 1#32
  let v2319 : BitVec 32 := Scalar.muli v2318 c1_i32_2008
  let v2320 : BitVec 32 := Scalar.addi c0_i32_2009 v2319
  v2320.toNat
def k0_dev100 (d0 : Dev nD) : Nat :=
  let c0_i32_2026 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_2014 : BitVec 32 := 19#32
  let v2329 : BitVec 32 := Scalar.addi v2 c19_i32_2014
  let c32_i32_2015 : BitVec 32 := 32#32
  let c0_i32_2016 : BitVec 32 := 0#32
  let v2330 : BitVec 1 := Scalar.cmpi .eq c32_i32_2015 c0_i32_2016
  let c1_i32_2017 : BitVec 32 := 1#32
  let v2331 : BitVec 32 := Scalar.select v2330 c1_i32_2017 c32_i32_2015
  let v2332 : BitVec 32 := Scalar.remsi v2329 v2331
  let c0_i32_2019 : BitVec 32 := 0#32
  let v2334 : BitVec 1 := Scalar.cmpi .slt v2332 c0_i32_2019
  let c0_i32_2020 : BitVec 32 := 0#32
  let v2335 : BitVec 1 := Scalar.cmpi .slt v2331 c0_i32_2020
  let v2336 : BitVec 1 := Scalar.xori v2334 v2335
  let c0_i32_2018 : BitVec 32 := 0#32
  let v2333 : BitVec 1 := Scalar.cmpi .ne v2332 c0_i32_2018
  let v2337 : BitVec 1 := Scalar.andi v2336 v2333
  let v2338 : BitVec 32 := Scalar.addi v2332 v2331
  let v2339 : BitVec 32 := Scalar.select v2337 v2338 v2332
  let c1_i32_2025 : BitVec 32 := 1#32
  let v2340 : BitVec 32 := Scalar.muli v2339 c1_i32_2025
  let v2341 : BitVec 32 := Scalar.addi c0_i32_2026 v2340
  v2341.toNat
def k0_dev101 (d0 : Dev nD) : Nat :=
  let c0_i32_2043 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_2031 : BitVec 32 := 12#32
  let v2350 : BitVec 32 := Scalar.addi v2 c12_i32_2031
  let c32_i32_2032 : BitVec 32 := 32#32
  let c0_i32_2033 : BitVec 32 := 0#32
  let v2351 : BitVec 1 := Scalar.cmpi .eq c32_i32_2032 c0_i32_2033
  let c1_i32_2034 : BitVec 32 := 1#32
  let v2352 : BitVec 32 := Scalar.select v2351 c1_i32_2034 c32_i32_2032
  let v2353 : BitVec 32 := Scalar.remsi v2350 v2352
  let c0_i32_2036 : BitVec 32 := 0#32
  let v2355 : BitVec 1 := Scalar.cmpi .slt v2353 c0_i32_2036
  let c0_i32_2037 : BitVec 32 := 0#32
  let v2356 : BitVec 1 := Scalar.cmpi .slt v2352 c0_i32_2037
  let v2357 : BitVec 1 := Scalar.xori v2355 v2356
  let c0_i32_2035 : BitVec 32 := 0#32
  let v2354 : BitVec 1 := Scalar.cmpi .ne v2353 c0_i32_2035
  let v2358 : BitVec 1 := Scalar.andi v2357 v2354
  let v2359 : BitVec 32 := Scalar.addi v2353 v2352
  let v2360 : BitVec 32 := Scalar.select v2358 v2359 v2353
  let c1_i32_2042 : BitVec 32 := 1#32
  let v2361 : BitVec 32 := Scalar.muli v2360 c1_i32_2042
  let v2362 : BitVec 32 := Scalar.addi c0_i32_2043 v2361
  v2362.toNat
def k0_dev102 (d0 : Dev nD) : Nat :=
  let c0_i32_2060 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_2048 : BitVec 32 := 20#32
  let v2371 : BitVec 32 := Scalar.addi v2 c20_i32_2048
  let c32_i32_2049 : BitVec 32 := 32#32
  let c0_i32_2050 : BitVec 32 := 0#32
  let v2372 : BitVec 1 := Scalar.cmpi .eq c32_i32_2049 c0_i32_2050
  let c1_i32_2051 : BitVec 32 := 1#32
  let v2373 : BitVec 32 := Scalar.select v2372 c1_i32_2051 c32_i32_2049
  let v2374 : BitVec 32 := Scalar.remsi v2371 v2373
  let c0_i32_2053 : BitVec 32 := 0#32
  let v2376 : BitVec 1 := Scalar.cmpi .slt v2374 c0_i32_2053
  let c0_i32_2054 : BitVec 32 := 0#32
  let v2377 : BitVec 1 := Scalar.cmpi .slt v2373 c0_i32_2054
  let v2378 : BitVec 1 := Scalar.xori v2376 v2377
  let c0_i32_2052 : BitVec 32 := 0#32
  let v2375 : BitVec 1 := Scalar.cmpi .ne v2374 c0_i32_2052
  let v2379 : BitVec 1 := Scalar.andi v2378 v2375
  let v2380 : BitVec 32 := Scalar.addi v2374 v2373
  let v2381 : BitVec 32 := Scalar.select v2379 v2380 v2374
  let c1_i32_2059 : BitVec 32 := 1#32
  let v2382 : BitVec 32 := Scalar.muli v2381 c1_i32_2059
  let v2383 : BitVec 32 := Scalar.addi c0_i32_2060 v2382
  v2383.toNat
def k0_dev103 (d0 : Dev nD) : Nat :=
  let c0_i32_2077 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_2065 : BitVec 32 := 11#32
  let v2392 : BitVec 32 := Scalar.addi v2 c11_i32_2065
  let c32_i32_2066 : BitVec 32 := 32#32
  let c0_i32_2067 : BitVec 32 := 0#32
  let v2393 : BitVec 1 := Scalar.cmpi .eq c32_i32_2066 c0_i32_2067
  let c1_i32_2068 : BitVec 32 := 1#32
  let v2394 : BitVec 32 := Scalar.select v2393 c1_i32_2068 c32_i32_2066
  let v2395 : BitVec 32 := Scalar.remsi v2392 v2394
  let c0_i32_2070 : BitVec 32 := 0#32
  let v2397 : BitVec 1 := Scalar.cmpi .slt v2395 c0_i32_2070
  let c0_i32_2071 : BitVec 32 := 0#32
  let v2398 : BitVec 1 := Scalar.cmpi .slt v2394 c0_i32_2071
  let v2399 : BitVec 1 := Scalar.xori v2397 v2398
  let c0_i32_2069 : BitVec 32 := 0#32
  let v2396 : BitVec 1 := Scalar.cmpi .ne v2395 c0_i32_2069
  let v2400 : BitVec 1 := Scalar.andi v2399 v2396
  let v2401 : BitVec 32 := Scalar.addi v2395 v2394
  let v2402 : BitVec 32 := Scalar.select v2400 v2401 v2395
  let c1_i32_2076 : BitVec 32 := 1#32
  let v2403 : BitVec 32 := Scalar.muli v2402 c1_i32_2076
  let v2404 : BitVec 32 := Scalar.addi c0_i32_2077 v2403
  v2404.toNat
def k0_dev104 (d0 : Dev nD) : Nat :=
  let c0_i32_2094 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_2082 : BitVec 32 := 21#32
  let v2413 : BitVec 32 := Scalar.addi v2 c21_i32_2082
  let c32_i32_2083 : BitVec 32 := 32#32
  let c0_i32_2084 : BitVec 32 := 0#32
  let v2414 : BitVec 1 := Scalar.cmpi .eq c32_i32_2083 c0_i32_2084
  let c1_i32_2085 : BitVec 32 := 1#32
  let v2415 : BitVec 32 := Scalar.select v2414 c1_i32_2085 c32_i32_2083
  let v2416 : BitVec 32 := Scalar.remsi v2413 v2415
  let c0_i32_2087 : BitVec 32 := 0#32
  let v2418 : BitVec 1 := Scalar.cmpi .slt v2416 c0_i32_2087
  let c0_i32_2088 : BitVec 32 := 0#32
  let v2419 : BitVec 1 := Scalar.cmpi .slt v2415 c0_i32_2088
  let v2420 : BitVec 1 := Scalar.xori v2418 v2419
  let c0_i32_2086 : BitVec 32 := 0#32
  let v2417 : BitVec 1 := Scalar.cmpi .ne v2416 c0_i32_2086
  let v2421 : BitVec 1 := Scalar.andi v2420 v2417
  let v2422 : BitVec 32 := Scalar.addi v2416 v2415
  let v2423 : BitVec 32 := Scalar.select v2421 v2422 v2416
  let c1_i32_2093 : BitVec 32 := 1#32
  let v2424 : BitVec 32 := Scalar.muli v2423 c1_i32_2093
  let v2425 : BitVec 32 := Scalar.addi c0_i32_2094 v2424
  v2425.toNat
def k0_dev105 (d0 : Dev nD) : Nat :=
  let c0_i32_2111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_2099 : BitVec 32 := 10#32
  let v2434 : BitVec 32 := Scalar.addi v2 c10_i32_2099
  let c32_i32_2100 : BitVec 32 := 32#32
  let c0_i32_2101 : BitVec 32 := 0#32
  let v2435 : BitVec 1 := Scalar.cmpi .eq c32_i32_2100 c0_i32_2101
  let c1_i32_2102 : BitVec 32 := 1#32
  let v2436 : BitVec 32 := Scalar.select v2435 c1_i32_2102 c32_i32_2100
  let v2437 : BitVec 32 := Scalar.remsi v2434 v2436
  let c0_i32_2104 : BitVec 32 := 0#32
  let v2439 : BitVec 1 := Scalar.cmpi .slt v2437 c0_i32_2104
  let c0_i32_2105 : BitVec 32 := 0#32
  let v2440 : BitVec 1 := Scalar.cmpi .slt v2436 c0_i32_2105
  let v2441 : BitVec 1 := Scalar.xori v2439 v2440
  let c0_i32_2103 : BitVec 32 := 0#32
  let v2438 : BitVec 1 := Scalar.cmpi .ne v2437 c0_i32_2103
  let v2442 : BitVec 1 := Scalar.andi v2441 v2438
  let v2443 : BitVec 32 := Scalar.addi v2437 v2436
  let v2444 : BitVec 32 := Scalar.select v2442 v2443 v2437
  let c1_i32_2110 : BitVec 32 := 1#32
  let v2445 : BitVec 32 := Scalar.muli v2444 c1_i32_2110
  let v2446 : BitVec 32 := Scalar.addi c0_i32_2111 v2445
  v2446.toNat
def k0_dev106 (d0 : Dev nD) : Nat :=
  let c0_i32_2128 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_2116 : BitVec 32 := 22#32
  let v2455 : BitVec 32 := Scalar.addi v2 c22_i32_2116
  let c32_i32_2117 : BitVec 32 := 32#32
  let c0_i32_2118 : BitVec 32 := 0#32
  let v2456 : BitVec 1 := Scalar.cmpi .eq c32_i32_2117 c0_i32_2118
  let c1_i32_2119 : BitVec 32 := 1#32
  let v2457 : BitVec 32 := Scalar.select v2456 c1_i32_2119 c32_i32_2117
  let v2458 : BitVec 32 := Scalar.remsi v2455 v2457
  let c0_i32_2121 : BitVec 32 := 0#32
  let v2460 : BitVec 1 := Scalar.cmpi .slt v2458 c0_i32_2121
  let c0_i32_2122 : BitVec 32 := 0#32
  let v2461 : BitVec 1 := Scalar.cmpi .slt v2457 c0_i32_2122
  let v2462 : BitVec 1 := Scalar.xori v2460 v2461
  let c0_i32_2120 : BitVec 32 := 0#32
  let v2459 : BitVec 1 := Scalar.cmpi .ne v2458 c0_i32_2120
  let v2463 : BitVec 1 := Scalar.andi v2462 v2459
  let v2464 : BitVec 32 := Scalar.addi v2458 v2457
  let v2465 : BitVec 32 := Scalar.select v2463 v2464 v2458
  let c1_i32_2127 : BitVec 32 := 1#32
  let v2466 : BitVec 32 := Scalar.muli v2465 c1_i32_2127
  let v2467 : BitVec 32 := Scalar.addi c0_i32_2128 v2466
  v2467.toNat
def k0_dev107 (d0 : Dev nD) : Nat :=
  let c0_i32_2145 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_2133 : BitVec 32 := 9#32
  let v2476 : BitVec 32 := Scalar.addi v2 c9_i32_2133
  let c32_i32_2134 : BitVec 32 := 32#32
  let c0_i32_2135 : BitVec 32 := 0#32
  let v2477 : BitVec 1 := Scalar.cmpi .eq c32_i32_2134 c0_i32_2135
  let c1_i32_2136 : BitVec 32 := 1#32
  let v2478 : BitVec 32 := Scalar.select v2477 c1_i32_2136 c32_i32_2134
  let v2479 : BitVec 32 := Scalar.remsi v2476 v2478
  let c0_i32_2138 : BitVec 32 := 0#32
  let v2481 : BitVec 1 := Scalar.cmpi .slt v2479 c0_i32_2138
  let c0_i32_2139 : BitVec 32 := 0#32
  let v2482 : BitVec 1 := Scalar.cmpi .slt v2478 c0_i32_2139
  let v2483 : BitVec 1 := Scalar.xori v2481 v2482
  let c0_i32_2137 : BitVec 32 := 0#32
  let v2480 : BitVec 1 := Scalar.cmpi .ne v2479 c0_i32_2137
  let v2484 : BitVec 1 := Scalar.andi v2483 v2480
  let v2485 : BitVec 32 := Scalar.addi v2479 v2478
  let v2486 : BitVec 32 := Scalar.select v2484 v2485 v2479
  let c1_i32_2144 : BitVec 32 := 1#32
  let v2487 : BitVec 32 := Scalar.muli v2486 c1_i32_2144
  let v2488 : BitVec 32 := Scalar.addi c0_i32_2145 v2487
  v2488.toNat
def k0_dev108 (d0 : Dev nD) : Nat :=
  let c0_i32_2162 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_2150 : BitVec 32 := 23#32
  let v2497 : BitVec 32 := Scalar.addi v2 c23_i32_2150
  let c32_i32_2151 : BitVec 32 := 32#32
  let c0_i32_2152 : BitVec 32 := 0#32
  let v2498 : BitVec 1 := Scalar.cmpi .eq c32_i32_2151 c0_i32_2152
  let c1_i32_2153 : BitVec 32 := 1#32
  let v2499 : BitVec 32 := Scalar.select v2498 c1_i32_2153 c32_i32_2151
  let v2500 : BitVec 32 := Scalar.remsi v2497 v2499
  let c0_i32_2155 : BitVec 32 := 0#32
  let v2502 : BitVec 1 := Scalar.cmpi .slt v2500 c0_i32_2155
  let c0_i32_2156 : BitVec 32 := 0#32
  let v2503 : BitVec 1 := Scalar.cmpi .slt v2499 c0_i32_2156
  let v2504 : BitVec 1 := Scalar.xori v2502 v2503
  let c0_i32_2154 : BitVec 32 := 0#32
  let v2501 : BitVec 1 := Scalar.cmpi .ne v2500 c0_i32_2154
  let v2505 : BitVec 1 := Scalar.andi v2504 v2501
  let v2506 : BitVec 32 := Scalar.addi v2500 v2499
  let v2507 : BitVec 32 := Scalar.select v2505 v2506 v2500
  let c1_i32_2161 : BitVec 32 := 1#32
  let v2508 : BitVec 32 := Scalar.muli v2507 c1_i32_2161
  let v2509 : BitVec 32 := Scalar.addi c0_i32_2162 v2508
  v2509.toNat
def k0_dev109 (d0 : Dev nD) : Nat :=
  let c0_i32_2179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_2167 : BitVec 32 := 8#32
  let v2518 : BitVec 32 := Scalar.addi v2 c8_i32_2167
  let c32_i32_2168 : BitVec 32 := 32#32
  let c0_i32_2169 : BitVec 32 := 0#32
  let v2519 : BitVec 1 := Scalar.cmpi .eq c32_i32_2168 c0_i32_2169
  let c1_i32_2170 : BitVec 32 := 1#32
  let v2520 : BitVec 32 := Scalar.select v2519 c1_i32_2170 c32_i32_2168
  let v2521 : BitVec 32 := Scalar.remsi v2518 v2520
  let c0_i32_2172 : BitVec 32 := 0#32
  let v2523 : BitVec 1 := Scalar.cmpi .slt v2521 c0_i32_2172
  let c0_i32_2173 : BitVec 32 := 0#32
  let v2524 : BitVec 1 := Scalar.cmpi .slt v2520 c0_i32_2173
  let v2525 : BitVec 1 := Scalar.xori v2523 v2524
  let c0_i32_2171 : BitVec 32 := 0#32
  let v2522 : BitVec 1 := Scalar.cmpi .ne v2521 c0_i32_2171
  let v2526 : BitVec 1 := Scalar.andi v2525 v2522
  let v2527 : BitVec 32 := Scalar.addi v2521 v2520
  let v2528 : BitVec 32 := Scalar.select v2526 v2527 v2521
  let c1_i32_2178 : BitVec 32 := 1#32
  let v2529 : BitVec 32 := Scalar.muli v2528 c1_i32_2178
  let v2530 : BitVec 32 := Scalar.addi c0_i32_2179 v2529
  v2530.toNat
def k0_dev110 (d0 : Dev nD) : Nat :=
  let c0_i32_2196 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_2184 : BitVec 32 := 24#32
  let v2539 : BitVec 32 := Scalar.addi v2 c24_i32_2184
  let c32_i32_2185 : BitVec 32 := 32#32
  let c0_i32_2186 : BitVec 32 := 0#32
  let v2540 : BitVec 1 := Scalar.cmpi .eq c32_i32_2185 c0_i32_2186
  let c1_i32_2187 : BitVec 32 := 1#32
  let v2541 : BitVec 32 := Scalar.select v2540 c1_i32_2187 c32_i32_2185
  let v2542 : BitVec 32 := Scalar.remsi v2539 v2541
  let c0_i32_2189 : BitVec 32 := 0#32
  let v2544 : BitVec 1 := Scalar.cmpi .slt v2542 c0_i32_2189
  let c0_i32_2190 : BitVec 32 := 0#32
  let v2545 : BitVec 1 := Scalar.cmpi .slt v2541 c0_i32_2190
  let v2546 : BitVec 1 := Scalar.xori v2544 v2545
  let c0_i32_2188 : BitVec 32 := 0#32
  let v2543 : BitVec 1 := Scalar.cmpi .ne v2542 c0_i32_2188
  let v2547 : BitVec 1 := Scalar.andi v2546 v2543
  let v2548 : BitVec 32 := Scalar.addi v2542 v2541
  let v2549 : BitVec 32 := Scalar.select v2547 v2548 v2542
  let c1_i32_2195 : BitVec 32 := 1#32
  let v2550 : BitVec 32 := Scalar.muli v2549 c1_i32_2195
  let v2551 : BitVec 32 := Scalar.addi c0_i32_2196 v2550
  v2551.toNat
def k0_dev111 (d0 : Dev nD) : Nat :=
  let c0_i32_2213 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_2201 : BitVec 32 := 7#32
  let v2560 : BitVec 32 := Scalar.addi v2 c7_i32_2201
  let c32_i32_2202 : BitVec 32 := 32#32
  let c0_i32_2203 : BitVec 32 := 0#32
  let v2561 : BitVec 1 := Scalar.cmpi .eq c32_i32_2202 c0_i32_2203
  let c1_i32_2204 : BitVec 32 := 1#32
  let v2562 : BitVec 32 := Scalar.select v2561 c1_i32_2204 c32_i32_2202
  let v2563 : BitVec 32 := Scalar.remsi v2560 v2562
  let c0_i32_2206 : BitVec 32 := 0#32
  let v2565 : BitVec 1 := Scalar.cmpi .slt v2563 c0_i32_2206
  let c0_i32_2207 : BitVec 32 := 0#32
  let v2566 : BitVec 1 := Scalar.cmpi .slt v2562 c0_i32_2207
  let v2567 : BitVec 1 := Scalar.xori v2565 v2566
  let c0_i32_2205 : BitVec 32 := 0#32
  let v2564 : BitVec 1 := Scalar.cmpi .ne v2563 c0_i32_2205
  let v2568 : BitVec 1 := Scalar.andi v2567 v2564
  let v2569 : BitVec 32 := Scalar.addi v2563 v2562
  let v2570 : BitVec 32 := Scalar.select v2568 v2569 v2563
  let c1_i32_2212 : BitVec 32 := 1#32
  let v2571 : BitVec 32 := Scalar.muli v2570 c1_i32_2212
  let v2572 : BitVec 32 := Scalar.addi c0_i32_2213 v2571
  v2572.toNat
def k0_dev112 (d0 : Dev nD) : Nat :=
  let c0_i32_2230 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_2218 : BitVec 32 := 25#32
  let v2581 : BitVec 32 := Scalar.addi v2 c25_i32_2218
  let c32_i32_2219 : BitVec 32 := 32#32
  let c0_i32_2220 : BitVec 32 := 0#32
  let v2582 : BitVec 1 := Scalar.cmpi .eq c32_i32_2219 c0_i32_2220
  let c1_i32_2221 : BitVec 32 := 1#32
  let v2583 : BitVec 32 := Scalar.select v2582 c1_i32_2221 c32_i32_2219
  let v2584 : BitVec 32 := Scalar.remsi v2581 v2583
  let c0_i32_2223 : BitVec 32 := 0#32
  let v2586 : BitVec 1 := Scalar.cmpi .slt v2584 c0_i32_2223
  let c0_i32_2224 : BitVec 32 := 0#32
  let v2587 : BitVec 1 := Scalar.cmpi .slt v2583 c0_i32_2224
  let v2588 : BitVec 1 := Scalar.xori v2586 v2587
  let c0_i32_2222 : BitVec 32 := 0#32
  let v2585 : BitVec 1 := Scalar.cmpi .ne v2584 c0_i32_2222
  let v2589 : BitVec 1 := Scalar.andi v2588 v2585
  let v2590 : BitVec 32 := Scalar.addi v2584 v2583
  let v2591 : BitVec 32 := Scalar.select v2589 v2590 v2584
  let c1_i32_2229 : BitVec 32 := 1#32
  let v2592 : BitVec 32 := Scalar.muli v2591 c1_i32_2229
  let v2593 : BitVec 32 := Scalar.addi c0_i32_2230 v2592
  v2593.toNat
def k0_dev113 (d0 : Dev nD) : Nat :=
  let c0_i32_2247 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_2235 : BitVec 32 := 6#32
  let v2602 : BitVec 32 := Scalar.addi v2 c6_i32_2235
  let c32_i32_2236 : BitVec 32 := 32#32
  let c0_i32_2237 : BitVec 32 := 0#32
  let v2603 : BitVec 1 := Scalar.cmpi .eq c32_i32_2236 c0_i32_2237
  let c1_i32_2238 : BitVec 32 := 1#32
  let v2604 : BitVec 32 := Scalar.select v2603 c1_i32_2238 c32_i32_2236
  let v2605 : BitVec 32 := Scalar.remsi v2602 v2604
  let c0_i32_2240 : BitVec 32 := 0#32
  let v2607 : BitVec 1 := Scalar.cmpi .slt v2605 c0_i32_2240
  let c0_i32_2241 : BitVec 32 := 0#32
  let v2608 : BitVec 1 := Scalar.cmpi .slt v2604 c0_i32_2241
  let v2609 : BitVec 1 := Scalar.xori v2607 v2608
  let c0_i32_2239 : BitVec 32 := 0#32
  let v2606 : BitVec 1 := Scalar.cmpi .ne v2605 c0_i32_2239
  let v2610 : BitVec 1 := Scalar.andi v2609 v2606
  let v2611 : BitVec 32 := Scalar.addi v2605 v2604
  let v2612 : BitVec 32 := Scalar.select v2610 v2611 v2605
  let c1_i32_2246 : BitVec 32 := 1#32
  let v2613 : BitVec 32 := Scalar.muli v2612 c1_i32_2246
  let v2614 : BitVec 32 := Scalar.addi c0_i32_2247 v2613
  v2614.toNat
def k0_dev114 (d0 : Dev nD) : Nat :=
  let c0_i32_2264 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_2252 : BitVec 32 := 26#32
  let v2623 : BitVec 32 := Scalar.addi v2 c26_i32_2252
  let c32_i32_2253 : BitVec 32 := 32#32
  let c0_i32_2254 : BitVec 32 := 0#32
  let v2624 : BitVec 1 := Scalar.cmpi .eq c32_i32_2253 c0_i32_2254
  let c1_i32_2255 : BitVec 32 := 1#32
  let v2625 : BitVec 32 := Scalar.select v2624 c1_i32_2255 c32_i32_2253
  let v2626 : BitVec 32 := Scalar.remsi v2623 v2625
  let c0_i32_2257 : BitVec 32 := 0#32
  let v2628 : BitVec 1 := Scalar.cmpi .slt v2626 c0_i32_2257
  let c0_i32_2258 : BitVec 32 := 0#32
  let v2629 : BitVec 1 := Scalar.cmpi .slt v2625 c0_i32_2258
  let v2630 : BitVec 1 := Scalar.xori v2628 v2629
  let c0_i32_2256 : BitVec 32 := 0#32
  let v2627 : BitVec 1 := Scalar.cmpi .ne v2626 c0_i32_2256
  let v2631 : BitVec 1 := Scalar.andi v2630 v2627
  let v2632 : BitVec 32 := Scalar.addi v2626 v2625
  let v2633 : BitVec 32 := Scalar.select v2631 v2632 v2626
  let c1_i32_2263 : BitVec 32 := 1#32
  let v2634 : BitVec 32 := Scalar.muli v2633 c1_i32_2263
  let v2635 : BitVec 32 := Scalar.addi c0_i32_2264 v2634
  v2635.toNat
def k0_dev115 (d0 : Dev nD) : Nat :=
  let c0_i32_2281 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_2269 : BitVec 32 := 5#32
  let v2644 : BitVec 32 := Scalar.addi v2 c5_i32_2269
  let c32_i32_2270 : BitVec 32 := 32#32
  let c0_i32_2271 : BitVec 32 := 0#32
  let v2645 : BitVec 1 := Scalar.cmpi .eq c32_i32_2270 c0_i32_2271
  let c1_i32_2272 : BitVec 32 := 1#32
  let v2646 : BitVec 32 := Scalar.select v2645 c1_i32_2272 c32_i32_2270
  let v2647 : BitVec 32 := Scalar.remsi v2644 v2646
  let c0_i32_2274 : BitVec 32 := 0#32
  let v2649 : BitVec 1 := Scalar.cmpi .slt v2647 c0_i32_2274
  let c0_i32_2275 : BitVec 32 := 0#32
  let v2650 : BitVec 1 := Scalar.cmpi .slt v2646 c0_i32_2275
  let v2651 : BitVec 1 := Scalar.xori v2649 v2650
  let c0_i32_2273 : BitVec 32 := 0#32
  let v2648 : BitVec 1 := Scalar.cmpi .ne v2647 c0_i32_2273
  let v2652 : BitVec 1 := Scalar.andi v2651 v2648
  let v2653 : BitVec 32 := Scalar.addi v2647 v2646
  let v2654 : BitVec 32 := Scalar.select v2652 v2653 v2647
  let c1_i32_2280 : BitVec 32 := 1#32
  let v2655 : BitVec 32 := Scalar.muli v2654 c1_i32_2280
  let v2656 : BitVec 32 := Scalar.addi c0_i32_2281 v2655
  v2656.toNat
def k0_dev116 (d0 : Dev nD) : Nat :=
  let c0_i32_2298 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_2286 : BitVec 32 := 27#32
  let v2665 : BitVec 32 := Scalar.addi v2 c27_i32_2286
  let c32_i32_2287 : BitVec 32 := 32#32
  let c0_i32_2288 : BitVec 32 := 0#32
  let v2666 : BitVec 1 := Scalar.cmpi .eq c32_i32_2287 c0_i32_2288
  let c1_i32_2289 : BitVec 32 := 1#32
  let v2667 : BitVec 32 := Scalar.select v2666 c1_i32_2289 c32_i32_2287
  let v2668 : BitVec 32 := Scalar.remsi v2665 v2667
  let c0_i32_2291 : BitVec 32 := 0#32
  let v2670 : BitVec 1 := Scalar.cmpi .slt v2668 c0_i32_2291
  let c0_i32_2292 : BitVec 32 := 0#32
  let v2671 : BitVec 1 := Scalar.cmpi .slt v2667 c0_i32_2292
  let v2672 : BitVec 1 := Scalar.xori v2670 v2671
  let c0_i32_2290 : BitVec 32 := 0#32
  let v2669 : BitVec 1 := Scalar.cmpi .ne v2668 c0_i32_2290
  let v2673 : BitVec 1 := Scalar.andi v2672 v2669
  let v2674 : BitVec 32 := Scalar.addi v2668 v2667
  let v2675 : BitVec 32 := Scalar.select v2673 v2674 v2668
  let c1_i32_2297 : BitVec 32 := 1#32
  let v2676 : BitVec 32 := Scalar.muli v2675 c1_i32_2297
  let v2677 : BitVec 32 := Scalar.addi c0_i32_2298 v2676
  v2677.toNat
def k0_dev117 (d0 : Dev nD) : Nat :=
  let c0_i32_2315 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_2303 : BitVec 32 := 4#32
  let v2686 : BitVec 32 := Scalar.addi v2 c4_i32_2303
  let c32_i32_2304 : BitVec 32 := 32#32
  let c0_i32_2305 : BitVec 32 := 0#32
  let v2687 : BitVec 1 := Scalar.cmpi .eq c32_i32_2304 c0_i32_2305
  let c1_i32_2306 : BitVec 32 := 1#32
  let v2688 : BitVec 32 := Scalar.select v2687 c1_i32_2306 c32_i32_2304
  let v2689 : BitVec 32 := Scalar.remsi v2686 v2688
  let c0_i32_2308 : BitVec 32 := 0#32
  let v2691 : BitVec 1 := Scalar.cmpi .slt v2689 c0_i32_2308
  let c0_i32_2309 : BitVec 32 := 0#32
  let v2692 : BitVec 1 := Scalar.cmpi .slt v2688 c0_i32_2309
  let v2693 : BitVec 1 := Scalar.xori v2691 v2692
  let c0_i32_2307 : BitVec 32 := 0#32
  let v2690 : BitVec 1 := Scalar.cmpi .ne v2689 c0_i32_2307
  let v2694 : BitVec 1 := Scalar.andi v2693 v2690
  let v2695 : BitVec 32 := Scalar.addi v2689 v2688
  let v2696 : BitVec 32 := Scalar.select v2694 v2695 v2689
  let c1_i32_2314 : BitVec 32 := 1#32
  let v2697 : BitVec 32 := Scalar.muli v2696 c1_i32_2314
  let v2698 : BitVec 32 := Scalar.addi c0_i32_2315 v2697
  v2698.toNat
def k0_dev118 (d0 : Dev nD) : Nat :=
  let c0_i32_2332 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_2320 : BitVec 32 := 28#32
  let v2707 : BitVec 32 := Scalar.addi v2 c28_i32_2320
  let c32_i32_2321 : BitVec 32 := 32#32
  let c0_i32_2322 : BitVec 32 := 0#32
  let v2708 : BitVec 1 := Scalar.cmpi .eq c32_i32_2321 c0_i32_2322
  let c1_i32_2323 : BitVec 32 := 1#32
  let v2709 : BitVec 32 := Scalar.select v2708 c1_i32_2323 c32_i32_2321
  let v2710 : BitVec 32 := Scalar.remsi v2707 v2709
  let c0_i32_2325 : BitVec 32 := 0#32
  let v2712 : BitVec 1 := Scalar.cmpi .slt v2710 c0_i32_2325
  let c0_i32_2326 : BitVec 32 := 0#32
  let v2713 : BitVec 1 := Scalar.cmpi .slt v2709 c0_i32_2326
  let v2714 : BitVec 1 := Scalar.xori v2712 v2713
  let c0_i32_2324 : BitVec 32 := 0#32
  let v2711 : BitVec 1 := Scalar.cmpi .ne v2710 c0_i32_2324
  let v2715 : BitVec 1 := Scalar.andi v2714 v2711
  let v2716 : BitVec 32 := Scalar.addi v2710 v2709
  let v2717 : BitVec 32 := Scalar.select v2715 v2716 v2710
  let c1_i32_2331 : BitVec 32 := 1#32
  let v2718 : BitVec 32 := Scalar.muli v2717 c1_i32_2331
  let v2719 : BitVec 32 := Scalar.addi c0_i32_2332 v2718
  v2719.toNat
def k0_dev119 (d0 : Dev nD) : Nat :=
  let c0_i32_2349 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_2337 : BitVec 32 := 3#32
  let v2728 : BitVec 32 := Scalar.addi v2 c3_i32_2337
  let c32_i32_2338 : BitVec 32 := 32#32
  let c0_i32_2339 : BitVec 32 := 0#32
  let v2729 : BitVec 1 := Scalar.cmpi .eq c32_i32_2338 c0_i32_2339
  let c1_i32_2340 : BitVec 32 := 1#32
  let v2730 : BitVec 32 := Scalar.select v2729 c1_i32_2340 c32_i32_2338
  let v2731 : BitVec 32 := Scalar.remsi v2728 v2730
  let c0_i32_2342 : BitVec 32 := 0#32
  let v2733 : BitVec 1 := Scalar.cmpi .slt v2731 c0_i32_2342
  let c0_i32_2343 : BitVec 32 := 0#32
  let v2734 : BitVec 1 := Scalar.cmpi .slt v2730 c0_i32_2343
  let v2735 : BitVec 1 := Scalar.xori v2733 v2734
  let c0_i32_2341 : BitVec 32 := 0#32
  let v2732 : BitVec 1 := Scalar.cmpi .ne v2731 c0_i32_2341
  let v2736 : BitVec 1 := Scalar.andi v2735 v2732
  let v2737 : BitVec 32 := Scalar.addi v2731 v2730
  let v2738 : BitVec 32 := Scalar.select v2736 v2737 v2731
  let c1_i32_2348 : BitVec 32 := 1#32
  let v2739 : BitVec 32 := Scalar.muli v2738 c1_i32_2348
  let v2740 : BitVec 32 := Scalar.addi c0_i32_2349 v2739
  v2740.toNat
def k0_dev120 (d0 : Dev nD) : Nat :=
  let c0_i32_2366 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_2354 : BitVec 32 := 29#32
  let v2749 : BitVec 32 := Scalar.addi v2 c29_i32_2354
  let c32_i32_2355 : BitVec 32 := 32#32
  let c0_i32_2356 : BitVec 32 := 0#32
  let v2750 : BitVec 1 := Scalar.cmpi .eq c32_i32_2355 c0_i32_2356
  let c1_i32_2357 : BitVec 32 := 1#32
  let v2751 : BitVec 32 := Scalar.select v2750 c1_i32_2357 c32_i32_2355
  let v2752 : BitVec 32 := Scalar.remsi v2749 v2751
  let c0_i32_2359 : BitVec 32 := 0#32
  let v2754 : BitVec 1 := Scalar.cmpi .slt v2752 c0_i32_2359
  let c0_i32_2360 : BitVec 32 := 0#32
  let v2755 : BitVec 1 := Scalar.cmpi .slt v2751 c0_i32_2360
  let v2756 : BitVec 1 := Scalar.xori v2754 v2755
  let c0_i32_2358 : BitVec 32 := 0#32
  let v2753 : BitVec 1 := Scalar.cmpi .ne v2752 c0_i32_2358
  let v2757 : BitVec 1 := Scalar.andi v2756 v2753
  let v2758 : BitVec 32 := Scalar.addi v2752 v2751
  let v2759 : BitVec 32 := Scalar.select v2757 v2758 v2752
  let c1_i32_2365 : BitVec 32 := 1#32
  let v2760 : BitVec 32 := Scalar.muli v2759 c1_i32_2365
  let v2761 : BitVec 32 := Scalar.addi c0_i32_2366 v2760
  v2761.toNat
def k0_dev121 (d0 : Dev nD) : Nat :=
  let c0_i32_2383 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_2371 : BitVec 32 := 2#32
  let v2770 : BitVec 32 := Scalar.addi v2 c2_i32_2371
  let c32_i32_2372 : BitVec 32 := 32#32
  let c0_i32_2373 : BitVec 32 := 0#32
  let v2771 : BitVec 1 := Scalar.cmpi .eq c32_i32_2372 c0_i32_2373
  let c1_i32_2374 : BitVec 32 := 1#32
  let v2772 : BitVec 32 := Scalar.select v2771 c1_i32_2374 c32_i32_2372
  let v2773 : BitVec 32 := Scalar.remsi v2770 v2772
  let c0_i32_2376 : BitVec 32 := 0#32
  let v2775 : BitVec 1 := Scalar.cmpi .slt v2773 c0_i32_2376
  let c0_i32_2377 : BitVec 32 := 0#32
  let v2776 : BitVec 1 := Scalar.cmpi .slt v2772 c0_i32_2377
  let v2777 : BitVec 1 := Scalar.xori v2775 v2776
  let c0_i32_2375 : BitVec 32 := 0#32
  let v2774 : BitVec 1 := Scalar.cmpi .ne v2773 c0_i32_2375
  let v2778 : BitVec 1 := Scalar.andi v2777 v2774
  let v2779 : BitVec 32 := Scalar.addi v2773 v2772
  let v2780 : BitVec 32 := Scalar.select v2778 v2779 v2773
  let c1_i32_2382 : BitVec 32 := 1#32
  let v2781 : BitVec 32 := Scalar.muli v2780 c1_i32_2382
  let v2782 : BitVec 32 := Scalar.addi c0_i32_2383 v2781
  v2782.toNat
def k0_dev122 (d0 : Dev nD) : Nat :=
  let c0_i32_2400 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_2388 : BitVec 32 := 30#32
  let v2791 : BitVec 32 := Scalar.addi v2 c30_i32_2388
  let c32_i32_2389 : BitVec 32 := 32#32
  let c0_i32_2390 : BitVec 32 := 0#32
  let v2792 : BitVec 1 := Scalar.cmpi .eq c32_i32_2389 c0_i32_2390
  let c1_i32_2391 : BitVec 32 := 1#32
  let v2793 : BitVec 32 := Scalar.select v2792 c1_i32_2391 c32_i32_2389
  let v2794 : BitVec 32 := Scalar.remsi v2791 v2793
  let c0_i32_2393 : BitVec 32 := 0#32
  let v2796 : BitVec 1 := Scalar.cmpi .slt v2794 c0_i32_2393
  let c0_i32_2394 : BitVec 32 := 0#32
  let v2797 : BitVec 1 := Scalar.cmpi .slt v2793 c0_i32_2394
  let v2798 : BitVec 1 := Scalar.xori v2796 v2797
  let c0_i32_2392 : BitVec 32 := 0#32
  let v2795 : BitVec 1 := Scalar.cmpi .ne v2794 c0_i32_2392
  let v2799 : BitVec 1 := Scalar.andi v2798 v2795
  let v2800 : BitVec 32 := Scalar.addi v2794 v2793
  let v2801 : BitVec 32 := Scalar.select v2799 v2800 v2794
  let c1_i32_2399 : BitVec 32 := 1#32
  let v2802 : BitVec 32 := Scalar.muli v2801 c1_i32_2399
  let v2803 : BitVec 32 := Scalar.addi c0_i32_2400 v2802
  v2803.toNat
def k0_dev123 (d0 : Dev nD) : Nat :=
  let c0_i32_2417 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_2405 : BitVec 32 := 1#32
  let v2812 : BitVec 32 := Scalar.addi v2 c1_i32_2405
  let c32_i32_2406 : BitVec 32 := 32#32
  let c0_i32_2407 : BitVec 32 := 0#32
  let v2813 : BitVec 1 := Scalar.cmpi .eq c32_i32_2406 c0_i32_2407
  let c1_i32_2408 : BitVec 32 := 1#32
  let v2814 : BitVec 32 := Scalar.select v2813 c1_i32_2408 c32_i32_2406
  let v2815 : BitVec 32 := Scalar.remsi v2812 v2814
  let c0_i32_2410 : BitVec 32 := 0#32
  let v2817 : BitVec 1 := Scalar.cmpi .slt v2815 c0_i32_2410
  let c0_i32_2411 : BitVec 32 := 0#32
  let v2818 : BitVec 1 := Scalar.cmpi .slt v2814 c0_i32_2411
  let v2819 : BitVec 1 := Scalar.xori v2817 v2818
  let c0_i32_2409 : BitVec 32 := 0#32
  let v2816 : BitVec 1 := Scalar.cmpi .ne v2815 c0_i32_2409
  let v2820 : BitVec 1 := Scalar.andi v2819 v2816
  let v2821 : BitVec 32 := Scalar.addi v2815 v2814
  let v2822 : BitVec 32 := Scalar.select v2820 v2821 v2815
  let c1_i32_2416 : BitVec 32 := 1#32
  let v2823 : BitVec 32 := Scalar.muli v2822 c1_i32_2416
  let v2824 : BitVec 32 := Scalar.addi c0_i32_2417 v2823
  v2824.toNat
def k0_dev124 (d0 : Dev nD) : Nat :=
  let c0_i32_2434 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_2422 : BitVec 32 := 31#32
  let v2833 : BitVec 32 := Scalar.addi v2 c31_i32_2422
  let c32_i32_2423 : BitVec 32 := 32#32
  let c0_i32_2424 : BitVec 32 := 0#32
  let v2834 : BitVec 1 := Scalar.cmpi .eq c32_i32_2423 c0_i32_2424
  let c1_i32_2425 : BitVec 32 := 1#32
  let v2835 : BitVec 32 := Scalar.select v2834 c1_i32_2425 c32_i32_2423
  let v2836 : BitVec 32 := Scalar.remsi v2833 v2835
  let c0_i32_2427 : BitVec 32 := 0#32
  let v2838 : BitVec 1 := Scalar.cmpi .slt v2836 c0_i32_2427
  let c0_i32_2428 : BitVec 32 := 0#32
  let v2839 : BitVec 1 := Scalar.cmpi .slt v2835 c0_i32_2428
  let v2840 : BitVec 1 := Scalar.xori v2838 v2839
  let c0_i32_2426 : BitVec 32 := 0#32
  let v2837 : BitVec 1 := Scalar.cmpi .ne v2836 c0_i32_2426
  let v2841 : BitVec 1 := Scalar.andi v2840 v2837
  let v2842 : BitVec 32 := Scalar.addi v2836 v2835
  let v2843 : BitVec 32 := Scalar.select v2841 v2842 v2836
  let c1_i32_2433 : BitVec 32 := 1#32
  let v2844 : BitVec 32 := Scalar.muli v2843 c1_i32_2433
  let v2845 : BitVec 32 := Scalar.addi c0_i32_2434 v2844
  v2845.toNat
def k0_off8 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3076 : Index := Scalar.indexCast v2
  let c0_2814 : Index := 0#32
  let c256_2815 : Index := 256#32
  ![v3076.toNat, 0, 256]
def k0_off9 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2829 : BitVec 32 := 0#32
  let c256_i32_2830 : BitVec 32 := 256#32
  ![v2.toNat, 0, 256]
def k0_dev125 (d0 : Dev nD) : Nat :=
  let c0_i32_2828 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_2816 : BitVec 32 := 16#32
  let v3080 : BitVec 32 := Scalar.addi v2 c16_i32_2816
  let c32_i32_2817 : BitVec 32 := 32#32
  let c0_i32_2818 : BitVec 32 := 0#32
  let v3081 : BitVec 1 := Scalar.cmpi .eq c32_i32_2817 c0_i32_2818
  let c1_i32_2819 : BitVec 32 := 1#32
  let v3082 : BitVec 32 := Scalar.select v3081 c1_i32_2819 c32_i32_2817
  let v3083 : BitVec 32 := Scalar.remsi v3080 v3082
  let c0_i32_2821 : BitVec 32 := 0#32
  let v3085 : BitVec 1 := Scalar.cmpi .slt v3083 c0_i32_2821
  let c0_i32_2822 : BitVec 32 := 0#32
  let v3086 : BitVec 1 := Scalar.cmpi .slt v3082 c0_i32_2822
  let v3087 : BitVec 1 := Scalar.xori v3085 v3086
  let c0_i32_2820 : BitVec 32 := 0#32
  let v3084 : BitVec 1 := Scalar.cmpi .ne v3083 c0_i32_2820
  let v3088 : BitVec 1 := Scalar.andi v3087 v3084
  let v3089 : BitVec 32 := Scalar.addi v3083 v3082
  let v3090 : BitVec 32 := Scalar.select v3088 v3089 v3083
  let c1_i32_2827 : BitVec 32 := 1#32
  let v3091 : BitVec 32 := Scalar.muli v3090 c1_i32_2827
  let v3092 : BitVec 32 := Scalar.addi c0_i32_2828 v3091
  v3092.toNat
def k0_dev126 (d0 : Dev nD) : Nat :=
  let c0_i32_2845 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_2833 : BitVec 32 := 15#32
  let v3101 : BitVec 32 := Scalar.addi v2 c15_i32_2833
  let c32_i32_2834 : BitVec 32 := 32#32
  let c0_i32_2835 : BitVec 32 := 0#32
  let v3102 : BitVec 1 := Scalar.cmpi .eq c32_i32_2834 c0_i32_2835
  let c1_i32_2836 : BitVec 32 := 1#32
  let v3103 : BitVec 32 := Scalar.select v3102 c1_i32_2836 c32_i32_2834
  let v3104 : BitVec 32 := Scalar.remsi v3101 v3103
  let c0_i32_2838 : BitVec 32 := 0#32
  let v3106 : BitVec 1 := Scalar.cmpi .slt v3104 c0_i32_2838
  let c0_i32_2839 : BitVec 32 := 0#32
  let v3107 : BitVec 1 := Scalar.cmpi .slt v3103 c0_i32_2839
  let v3108 : BitVec 1 := Scalar.xori v3106 v3107
  let c0_i32_2837 : BitVec 32 := 0#32
  let v3105 : BitVec 1 := Scalar.cmpi .ne v3104 c0_i32_2837
  let v3109 : BitVec 1 := Scalar.andi v3108 v3105
  let v3110 : BitVec 32 := Scalar.addi v3104 v3103
  let v3111 : BitVec 32 := Scalar.select v3109 v3110 v3104
  let c1_i32_2844 : BitVec 32 := 1#32
  let v3112 : BitVec 32 := Scalar.muli v3111 c1_i32_2844
  let v3113 : BitVec 32 := Scalar.addi c0_i32_2845 v3112
  v3113.toNat
def k0_dev127 (d0 : Dev nD) : Nat :=
  let c0_i32_2862 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_2850 : BitVec 32 := 17#32
  let v3122 : BitVec 32 := Scalar.addi v2 c17_i32_2850
  let c32_i32_2851 : BitVec 32 := 32#32
  let c0_i32_2852 : BitVec 32 := 0#32
  let v3123 : BitVec 1 := Scalar.cmpi .eq c32_i32_2851 c0_i32_2852
  let c1_i32_2853 : BitVec 32 := 1#32
  let v3124 : BitVec 32 := Scalar.select v3123 c1_i32_2853 c32_i32_2851
  let v3125 : BitVec 32 := Scalar.remsi v3122 v3124
  let c0_i32_2855 : BitVec 32 := 0#32
  let v3127 : BitVec 1 := Scalar.cmpi .slt v3125 c0_i32_2855
  let c0_i32_2856 : BitVec 32 := 0#32
  let v3128 : BitVec 1 := Scalar.cmpi .slt v3124 c0_i32_2856
  let v3129 : BitVec 1 := Scalar.xori v3127 v3128
  let c0_i32_2854 : BitVec 32 := 0#32
  let v3126 : BitVec 1 := Scalar.cmpi .ne v3125 c0_i32_2854
  let v3130 : BitVec 1 := Scalar.andi v3129 v3126
  let v3131 : BitVec 32 := Scalar.addi v3125 v3124
  let v3132 : BitVec 32 := Scalar.select v3130 v3131 v3125
  let c1_i32_2861 : BitVec 32 := 1#32
  let v3133 : BitVec 32 := Scalar.muli v3132 c1_i32_2861
  let v3134 : BitVec 32 := Scalar.addi c0_i32_2862 v3133
  v3134.toNat
def k0_dev128 (d0 : Dev nD) : Nat :=
  let c0_i32_2879 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_2867 : BitVec 32 := 14#32
  let v3143 : BitVec 32 := Scalar.addi v2 c14_i32_2867
  let c32_i32_2868 : BitVec 32 := 32#32
  let c0_i32_2869 : BitVec 32 := 0#32
  let v3144 : BitVec 1 := Scalar.cmpi .eq c32_i32_2868 c0_i32_2869
  let c1_i32_2870 : BitVec 32 := 1#32
  let v3145 : BitVec 32 := Scalar.select v3144 c1_i32_2870 c32_i32_2868
  let v3146 : BitVec 32 := Scalar.remsi v3143 v3145
  let c0_i32_2872 : BitVec 32 := 0#32
  let v3148 : BitVec 1 := Scalar.cmpi .slt v3146 c0_i32_2872
  let c0_i32_2873 : BitVec 32 := 0#32
  let v3149 : BitVec 1 := Scalar.cmpi .slt v3145 c0_i32_2873
  let v3150 : BitVec 1 := Scalar.xori v3148 v3149
  let c0_i32_2871 : BitVec 32 := 0#32
  let v3147 : BitVec 1 := Scalar.cmpi .ne v3146 c0_i32_2871
  let v3151 : BitVec 1 := Scalar.andi v3150 v3147
  let v3152 : BitVec 32 := Scalar.addi v3146 v3145
  let v3153 : BitVec 32 := Scalar.select v3151 v3152 v3146
  let c1_i32_2878 : BitVec 32 := 1#32
  let v3154 : BitVec 32 := Scalar.muli v3153 c1_i32_2878
  let v3155 : BitVec 32 := Scalar.addi c0_i32_2879 v3154
  v3155.toNat
def k0_dev129 (d0 : Dev nD) : Nat :=
  let c0_i32_2896 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_2884 : BitVec 32 := 18#32
  let v3164 : BitVec 32 := Scalar.addi v2 c18_i32_2884
  let c32_i32_2885 : BitVec 32 := 32#32
  let c0_i32_2886 : BitVec 32 := 0#32
  let v3165 : BitVec 1 := Scalar.cmpi .eq c32_i32_2885 c0_i32_2886
  let c1_i32_2887 : BitVec 32 := 1#32
  let v3166 : BitVec 32 := Scalar.select v3165 c1_i32_2887 c32_i32_2885
  let v3167 : BitVec 32 := Scalar.remsi v3164 v3166
  let c0_i32_2889 : BitVec 32 := 0#32
  let v3169 : BitVec 1 := Scalar.cmpi .slt v3167 c0_i32_2889
  let c0_i32_2890 : BitVec 32 := 0#32
  let v3170 : BitVec 1 := Scalar.cmpi .slt v3166 c0_i32_2890
  let v3171 : BitVec 1 := Scalar.xori v3169 v3170
  let c0_i32_2888 : BitVec 32 := 0#32
  let v3168 : BitVec 1 := Scalar.cmpi .ne v3167 c0_i32_2888
  let v3172 : BitVec 1 := Scalar.andi v3171 v3168
  let v3173 : BitVec 32 := Scalar.addi v3167 v3166
  let v3174 : BitVec 32 := Scalar.select v3172 v3173 v3167
  let c1_i32_2895 : BitVec 32 := 1#32
  let v3175 : BitVec 32 := Scalar.muli v3174 c1_i32_2895
  let v3176 : BitVec 32 := Scalar.addi c0_i32_2896 v3175
  v3176.toNat
def k0_dev130 (d0 : Dev nD) : Nat :=
  let c0_i32_2913 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_2901 : BitVec 32 := 13#32
  let v3185 : BitVec 32 := Scalar.addi v2 c13_i32_2901
  let c32_i32_2902 : BitVec 32 := 32#32
  let c0_i32_2903 : BitVec 32 := 0#32
  let v3186 : BitVec 1 := Scalar.cmpi .eq c32_i32_2902 c0_i32_2903
  let c1_i32_2904 : BitVec 32 := 1#32
  let v3187 : BitVec 32 := Scalar.select v3186 c1_i32_2904 c32_i32_2902
  let v3188 : BitVec 32 := Scalar.remsi v3185 v3187
  let c0_i32_2906 : BitVec 32 := 0#32
  let v3190 : BitVec 1 := Scalar.cmpi .slt v3188 c0_i32_2906
  let c0_i32_2907 : BitVec 32 := 0#32
  let v3191 : BitVec 1 := Scalar.cmpi .slt v3187 c0_i32_2907
  let v3192 : BitVec 1 := Scalar.xori v3190 v3191
  let c0_i32_2905 : BitVec 32 := 0#32
  let v3189 : BitVec 1 := Scalar.cmpi .ne v3188 c0_i32_2905
  let v3193 : BitVec 1 := Scalar.andi v3192 v3189
  let v3194 : BitVec 32 := Scalar.addi v3188 v3187
  let v3195 : BitVec 32 := Scalar.select v3193 v3194 v3188
  let c1_i32_2912 : BitVec 32 := 1#32
  let v3196 : BitVec 32 := Scalar.muli v3195 c1_i32_2912
  let v3197 : BitVec 32 := Scalar.addi c0_i32_2913 v3196
  v3197.toNat
def k0_dev131 (d0 : Dev nD) : Nat :=
  let c0_i32_2930 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_2918 : BitVec 32 := 19#32
  let v3206 : BitVec 32 := Scalar.addi v2 c19_i32_2918
  let c32_i32_2919 : BitVec 32 := 32#32
  let c0_i32_2920 : BitVec 32 := 0#32
  let v3207 : BitVec 1 := Scalar.cmpi .eq c32_i32_2919 c0_i32_2920
  let c1_i32_2921 : BitVec 32 := 1#32
  let v3208 : BitVec 32 := Scalar.select v3207 c1_i32_2921 c32_i32_2919
  let v3209 : BitVec 32 := Scalar.remsi v3206 v3208
  let c0_i32_2923 : BitVec 32 := 0#32
  let v3211 : BitVec 1 := Scalar.cmpi .slt v3209 c0_i32_2923
  let c0_i32_2924 : BitVec 32 := 0#32
  let v3212 : BitVec 1 := Scalar.cmpi .slt v3208 c0_i32_2924
  let v3213 : BitVec 1 := Scalar.xori v3211 v3212
  let c0_i32_2922 : BitVec 32 := 0#32
  let v3210 : BitVec 1 := Scalar.cmpi .ne v3209 c0_i32_2922
  let v3214 : BitVec 1 := Scalar.andi v3213 v3210
  let v3215 : BitVec 32 := Scalar.addi v3209 v3208
  let v3216 : BitVec 32 := Scalar.select v3214 v3215 v3209
  let c1_i32_2929 : BitVec 32 := 1#32
  let v3217 : BitVec 32 := Scalar.muli v3216 c1_i32_2929
  let v3218 : BitVec 32 := Scalar.addi c0_i32_2930 v3217
  v3218.toNat
def k0_dev132 (d0 : Dev nD) : Nat :=
  let c0_i32_2947 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_2935 : BitVec 32 := 12#32
  let v3227 : BitVec 32 := Scalar.addi v2 c12_i32_2935
  let c32_i32_2936 : BitVec 32 := 32#32
  let c0_i32_2937 : BitVec 32 := 0#32
  let v3228 : BitVec 1 := Scalar.cmpi .eq c32_i32_2936 c0_i32_2937
  let c1_i32_2938 : BitVec 32 := 1#32
  let v3229 : BitVec 32 := Scalar.select v3228 c1_i32_2938 c32_i32_2936
  let v3230 : BitVec 32 := Scalar.remsi v3227 v3229
  let c0_i32_2940 : BitVec 32 := 0#32
  let v3232 : BitVec 1 := Scalar.cmpi .slt v3230 c0_i32_2940
  let c0_i32_2941 : BitVec 32 := 0#32
  let v3233 : BitVec 1 := Scalar.cmpi .slt v3229 c0_i32_2941
  let v3234 : BitVec 1 := Scalar.xori v3232 v3233
  let c0_i32_2939 : BitVec 32 := 0#32
  let v3231 : BitVec 1 := Scalar.cmpi .ne v3230 c0_i32_2939
  let v3235 : BitVec 1 := Scalar.andi v3234 v3231
  let v3236 : BitVec 32 := Scalar.addi v3230 v3229
  let v3237 : BitVec 32 := Scalar.select v3235 v3236 v3230
  let c1_i32_2946 : BitVec 32 := 1#32
  let v3238 : BitVec 32 := Scalar.muli v3237 c1_i32_2946
  let v3239 : BitVec 32 := Scalar.addi c0_i32_2947 v3238
  v3239.toNat
def k0_dev133 (d0 : Dev nD) : Nat :=
  let c0_i32_2964 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_2952 : BitVec 32 := 20#32
  let v3248 : BitVec 32 := Scalar.addi v2 c20_i32_2952
  let c32_i32_2953 : BitVec 32 := 32#32
  let c0_i32_2954 : BitVec 32 := 0#32
  let v3249 : BitVec 1 := Scalar.cmpi .eq c32_i32_2953 c0_i32_2954
  let c1_i32_2955 : BitVec 32 := 1#32
  let v3250 : BitVec 32 := Scalar.select v3249 c1_i32_2955 c32_i32_2953
  let v3251 : BitVec 32 := Scalar.remsi v3248 v3250
  let c0_i32_2957 : BitVec 32 := 0#32
  let v3253 : BitVec 1 := Scalar.cmpi .slt v3251 c0_i32_2957
  let c0_i32_2958 : BitVec 32 := 0#32
  let v3254 : BitVec 1 := Scalar.cmpi .slt v3250 c0_i32_2958
  let v3255 : BitVec 1 := Scalar.xori v3253 v3254
  let c0_i32_2956 : BitVec 32 := 0#32
  let v3252 : BitVec 1 := Scalar.cmpi .ne v3251 c0_i32_2956
  let v3256 : BitVec 1 := Scalar.andi v3255 v3252
  let v3257 : BitVec 32 := Scalar.addi v3251 v3250
  let v3258 : BitVec 32 := Scalar.select v3256 v3257 v3251
  let c1_i32_2963 : BitVec 32 := 1#32
  let v3259 : BitVec 32 := Scalar.muli v3258 c1_i32_2963
  let v3260 : BitVec 32 := Scalar.addi c0_i32_2964 v3259
  v3260.toNat
def k0_dev134 (d0 : Dev nD) : Nat :=
  let c0_i32_2981 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_2969 : BitVec 32 := 11#32
  let v3269 : BitVec 32 := Scalar.addi v2 c11_i32_2969
  let c32_i32_2970 : BitVec 32 := 32#32
  let c0_i32_2971 : BitVec 32 := 0#32
  let v3270 : BitVec 1 := Scalar.cmpi .eq c32_i32_2970 c0_i32_2971
  let c1_i32_2972 : BitVec 32 := 1#32
  let v3271 : BitVec 32 := Scalar.select v3270 c1_i32_2972 c32_i32_2970
  let v3272 : BitVec 32 := Scalar.remsi v3269 v3271
  let c0_i32_2974 : BitVec 32 := 0#32
  let v3274 : BitVec 1 := Scalar.cmpi .slt v3272 c0_i32_2974
  let c0_i32_2975 : BitVec 32 := 0#32
  let v3275 : BitVec 1 := Scalar.cmpi .slt v3271 c0_i32_2975
  let v3276 : BitVec 1 := Scalar.xori v3274 v3275
  let c0_i32_2973 : BitVec 32 := 0#32
  let v3273 : BitVec 1 := Scalar.cmpi .ne v3272 c0_i32_2973
  let v3277 : BitVec 1 := Scalar.andi v3276 v3273
  let v3278 : BitVec 32 := Scalar.addi v3272 v3271
  let v3279 : BitVec 32 := Scalar.select v3277 v3278 v3272
  let c1_i32_2980 : BitVec 32 := 1#32
  let v3280 : BitVec 32 := Scalar.muli v3279 c1_i32_2980
  let v3281 : BitVec 32 := Scalar.addi c0_i32_2981 v3280
  v3281.toNat
def k0_dev135 (d0 : Dev nD) : Nat :=
  let c0_i32_2998 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_2986 : BitVec 32 := 21#32
  let v3290 : BitVec 32 := Scalar.addi v2 c21_i32_2986
  let c32_i32_2987 : BitVec 32 := 32#32
  let c0_i32_2988 : BitVec 32 := 0#32
  let v3291 : BitVec 1 := Scalar.cmpi .eq c32_i32_2987 c0_i32_2988
  let c1_i32_2989 : BitVec 32 := 1#32
  let v3292 : BitVec 32 := Scalar.select v3291 c1_i32_2989 c32_i32_2987
  let v3293 : BitVec 32 := Scalar.remsi v3290 v3292
  let c0_i32_2991 : BitVec 32 := 0#32
  let v3295 : BitVec 1 := Scalar.cmpi .slt v3293 c0_i32_2991
  let c0_i32_2992 : BitVec 32 := 0#32
  let v3296 : BitVec 1 := Scalar.cmpi .slt v3292 c0_i32_2992
  let v3297 : BitVec 1 := Scalar.xori v3295 v3296
  let c0_i32_2990 : BitVec 32 := 0#32
  let v3294 : BitVec 1 := Scalar.cmpi .ne v3293 c0_i32_2990
  let v3298 : BitVec 1 := Scalar.andi v3297 v3294
  let v3299 : BitVec 32 := Scalar.addi v3293 v3292
  let v3300 : BitVec 32 := Scalar.select v3298 v3299 v3293
  let c1_i32_2997 : BitVec 32 := 1#32
  let v3301 : BitVec 32 := Scalar.muli v3300 c1_i32_2997
  let v3302 : BitVec 32 := Scalar.addi c0_i32_2998 v3301
  v3302.toNat
def k0_dev136 (d0 : Dev nD) : Nat :=
  let c0_i32_3015 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_3003 : BitVec 32 := 10#32
  let v3311 : BitVec 32 := Scalar.addi v2 c10_i32_3003
  let c32_i32_3004 : BitVec 32 := 32#32
  let c0_i32_3005 : BitVec 32 := 0#32
  let v3312 : BitVec 1 := Scalar.cmpi .eq c32_i32_3004 c0_i32_3005
  let c1_i32_3006 : BitVec 32 := 1#32
  let v3313 : BitVec 32 := Scalar.select v3312 c1_i32_3006 c32_i32_3004
  let v3314 : BitVec 32 := Scalar.remsi v3311 v3313
  let c0_i32_3008 : BitVec 32 := 0#32
  let v3316 : BitVec 1 := Scalar.cmpi .slt v3314 c0_i32_3008
  let c0_i32_3009 : BitVec 32 := 0#32
  let v3317 : BitVec 1 := Scalar.cmpi .slt v3313 c0_i32_3009
  let v3318 : BitVec 1 := Scalar.xori v3316 v3317
  let c0_i32_3007 : BitVec 32 := 0#32
  let v3315 : BitVec 1 := Scalar.cmpi .ne v3314 c0_i32_3007
  let v3319 : BitVec 1 := Scalar.andi v3318 v3315
  let v3320 : BitVec 32 := Scalar.addi v3314 v3313
  let v3321 : BitVec 32 := Scalar.select v3319 v3320 v3314
  let c1_i32_3014 : BitVec 32 := 1#32
  let v3322 : BitVec 32 := Scalar.muli v3321 c1_i32_3014
  let v3323 : BitVec 32 := Scalar.addi c0_i32_3015 v3322
  v3323.toNat
def k0_dev137 (d0 : Dev nD) : Nat :=
  let c0_i32_3032 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_3020 : BitVec 32 := 22#32
  let v3332 : BitVec 32 := Scalar.addi v2 c22_i32_3020
  let c32_i32_3021 : BitVec 32 := 32#32
  let c0_i32_3022 : BitVec 32 := 0#32
  let v3333 : BitVec 1 := Scalar.cmpi .eq c32_i32_3021 c0_i32_3022
  let c1_i32_3023 : BitVec 32 := 1#32
  let v3334 : BitVec 32 := Scalar.select v3333 c1_i32_3023 c32_i32_3021
  let v3335 : BitVec 32 := Scalar.remsi v3332 v3334
  let c0_i32_3025 : BitVec 32 := 0#32
  let v3337 : BitVec 1 := Scalar.cmpi .slt v3335 c0_i32_3025
  let c0_i32_3026 : BitVec 32 := 0#32
  let v3338 : BitVec 1 := Scalar.cmpi .slt v3334 c0_i32_3026
  let v3339 : BitVec 1 := Scalar.xori v3337 v3338
  let c0_i32_3024 : BitVec 32 := 0#32
  let v3336 : BitVec 1 := Scalar.cmpi .ne v3335 c0_i32_3024
  let v3340 : BitVec 1 := Scalar.andi v3339 v3336
  let v3341 : BitVec 32 := Scalar.addi v3335 v3334
  let v3342 : BitVec 32 := Scalar.select v3340 v3341 v3335
  let c1_i32_3031 : BitVec 32 := 1#32
  let v3343 : BitVec 32 := Scalar.muli v3342 c1_i32_3031
  let v3344 : BitVec 32 := Scalar.addi c0_i32_3032 v3343
  v3344.toNat
def k0_dev138 (d0 : Dev nD) : Nat :=
  let c0_i32_3049 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_3037 : BitVec 32 := 9#32
  let v3353 : BitVec 32 := Scalar.addi v2 c9_i32_3037
  let c32_i32_3038 : BitVec 32 := 32#32
  let c0_i32_3039 : BitVec 32 := 0#32
  let v3354 : BitVec 1 := Scalar.cmpi .eq c32_i32_3038 c0_i32_3039
  let c1_i32_3040 : BitVec 32 := 1#32
  let v3355 : BitVec 32 := Scalar.select v3354 c1_i32_3040 c32_i32_3038
  let v3356 : BitVec 32 := Scalar.remsi v3353 v3355
  let c0_i32_3042 : BitVec 32 := 0#32
  let v3358 : BitVec 1 := Scalar.cmpi .slt v3356 c0_i32_3042
  let c0_i32_3043 : BitVec 32 := 0#32
  let v3359 : BitVec 1 := Scalar.cmpi .slt v3355 c0_i32_3043
  let v3360 : BitVec 1 := Scalar.xori v3358 v3359
  let c0_i32_3041 : BitVec 32 := 0#32
  let v3357 : BitVec 1 := Scalar.cmpi .ne v3356 c0_i32_3041
  let v3361 : BitVec 1 := Scalar.andi v3360 v3357
  let v3362 : BitVec 32 := Scalar.addi v3356 v3355
  let v3363 : BitVec 32 := Scalar.select v3361 v3362 v3356
  let c1_i32_3048 : BitVec 32 := 1#32
  let v3364 : BitVec 32 := Scalar.muli v3363 c1_i32_3048
  let v3365 : BitVec 32 := Scalar.addi c0_i32_3049 v3364
  v3365.toNat
def k0_dev139 (d0 : Dev nD) : Nat :=
  let c0_i32_3066 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_3054 : BitVec 32 := 23#32
  let v3374 : BitVec 32 := Scalar.addi v2 c23_i32_3054
  let c32_i32_3055 : BitVec 32 := 32#32
  let c0_i32_3056 : BitVec 32 := 0#32
  let v3375 : BitVec 1 := Scalar.cmpi .eq c32_i32_3055 c0_i32_3056
  let c1_i32_3057 : BitVec 32 := 1#32
  let v3376 : BitVec 32 := Scalar.select v3375 c1_i32_3057 c32_i32_3055
  let v3377 : BitVec 32 := Scalar.remsi v3374 v3376
  let c0_i32_3059 : BitVec 32 := 0#32
  let v3379 : BitVec 1 := Scalar.cmpi .slt v3377 c0_i32_3059
  let c0_i32_3060 : BitVec 32 := 0#32
  let v3380 : BitVec 1 := Scalar.cmpi .slt v3376 c0_i32_3060
  let v3381 : BitVec 1 := Scalar.xori v3379 v3380
  let c0_i32_3058 : BitVec 32 := 0#32
  let v3378 : BitVec 1 := Scalar.cmpi .ne v3377 c0_i32_3058
  let v3382 : BitVec 1 := Scalar.andi v3381 v3378
  let v3383 : BitVec 32 := Scalar.addi v3377 v3376
  let v3384 : BitVec 32 := Scalar.select v3382 v3383 v3377
  let c1_i32_3065 : BitVec 32 := 1#32
  let v3385 : BitVec 32 := Scalar.muli v3384 c1_i32_3065
  let v3386 : BitVec 32 := Scalar.addi c0_i32_3066 v3385
  v3386.toNat
def k0_dev140 (d0 : Dev nD) : Nat :=
  let c0_i32_3083 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_3071 : BitVec 32 := 8#32
  let v3395 : BitVec 32 := Scalar.addi v2 c8_i32_3071
  let c32_i32_3072 : BitVec 32 := 32#32
  let c0_i32_3073 : BitVec 32 := 0#32
  let v3396 : BitVec 1 := Scalar.cmpi .eq c32_i32_3072 c0_i32_3073
  let c1_i32_3074 : BitVec 32 := 1#32
  let v3397 : BitVec 32 := Scalar.select v3396 c1_i32_3074 c32_i32_3072
  let v3398 : BitVec 32 := Scalar.remsi v3395 v3397
  let c0_i32_3076 : BitVec 32 := 0#32
  let v3400 : BitVec 1 := Scalar.cmpi .slt v3398 c0_i32_3076
  let c0_i32_3077 : BitVec 32 := 0#32
  let v3401 : BitVec 1 := Scalar.cmpi .slt v3397 c0_i32_3077
  let v3402 : BitVec 1 := Scalar.xori v3400 v3401
  let c0_i32_3075 : BitVec 32 := 0#32
  let v3399 : BitVec 1 := Scalar.cmpi .ne v3398 c0_i32_3075
  let v3403 : BitVec 1 := Scalar.andi v3402 v3399
  let v3404 : BitVec 32 := Scalar.addi v3398 v3397
  let v3405 : BitVec 32 := Scalar.select v3403 v3404 v3398
  let c1_i32_3082 : BitVec 32 := 1#32
  let v3406 : BitVec 32 := Scalar.muli v3405 c1_i32_3082
  let v3407 : BitVec 32 := Scalar.addi c0_i32_3083 v3406
  v3407.toNat
def k0_dev141 (d0 : Dev nD) : Nat :=
  let c0_i32_3100 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_3088 : BitVec 32 := 24#32
  let v3416 : BitVec 32 := Scalar.addi v2 c24_i32_3088
  let c32_i32_3089 : BitVec 32 := 32#32
  let c0_i32_3090 : BitVec 32 := 0#32
  let v3417 : BitVec 1 := Scalar.cmpi .eq c32_i32_3089 c0_i32_3090
  let c1_i32_3091 : BitVec 32 := 1#32
  let v3418 : BitVec 32 := Scalar.select v3417 c1_i32_3091 c32_i32_3089
  let v3419 : BitVec 32 := Scalar.remsi v3416 v3418
  let c0_i32_3093 : BitVec 32 := 0#32
  let v3421 : BitVec 1 := Scalar.cmpi .slt v3419 c0_i32_3093
  let c0_i32_3094 : BitVec 32 := 0#32
  let v3422 : BitVec 1 := Scalar.cmpi .slt v3418 c0_i32_3094
  let v3423 : BitVec 1 := Scalar.xori v3421 v3422
  let c0_i32_3092 : BitVec 32 := 0#32
  let v3420 : BitVec 1 := Scalar.cmpi .ne v3419 c0_i32_3092
  let v3424 : BitVec 1 := Scalar.andi v3423 v3420
  let v3425 : BitVec 32 := Scalar.addi v3419 v3418
  let v3426 : BitVec 32 := Scalar.select v3424 v3425 v3419
  let c1_i32_3099 : BitVec 32 := 1#32
  let v3427 : BitVec 32 := Scalar.muli v3426 c1_i32_3099
  let v3428 : BitVec 32 := Scalar.addi c0_i32_3100 v3427
  v3428.toNat
def k0_dev142 (d0 : Dev nD) : Nat :=
  let c0_i32_3117 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_3105 : BitVec 32 := 7#32
  let v3437 : BitVec 32 := Scalar.addi v2 c7_i32_3105
  let c32_i32_3106 : BitVec 32 := 32#32
  let c0_i32_3107 : BitVec 32 := 0#32
  let v3438 : BitVec 1 := Scalar.cmpi .eq c32_i32_3106 c0_i32_3107
  let c1_i32_3108 : BitVec 32 := 1#32
  let v3439 : BitVec 32 := Scalar.select v3438 c1_i32_3108 c32_i32_3106
  let v3440 : BitVec 32 := Scalar.remsi v3437 v3439
  let c0_i32_3110 : BitVec 32 := 0#32
  let v3442 : BitVec 1 := Scalar.cmpi .slt v3440 c0_i32_3110
  let c0_i32_3111 : BitVec 32 := 0#32
  let v3443 : BitVec 1 := Scalar.cmpi .slt v3439 c0_i32_3111
  let v3444 : BitVec 1 := Scalar.xori v3442 v3443
  let c0_i32_3109 : BitVec 32 := 0#32
  let v3441 : BitVec 1 := Scalar.cmpi .ne v3440 c0_i32_3109
  let v3445 : BitVec 1 := Scalar.andi v3444 v3441
  let v3446 : BitVec 32 := Scalar.addi v3440 v3439
  let v3447 : BitVec 32 := Scalar.select v3445 v3446 v3440
  let c1_i32_3116 : BitVec 32 := 1#32
  let v3448 : BitVec 32 := Scalar.muli v3447 c1_i32_3116
  let v3449 : BitVec 32 := Scalar.addi c0_i32_3117 v3448
  v3449.toNat
def k0_dev143 (d0 : Dev nD) : Nat :=
  let c0_i32_3134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_3122 : BitVec 32 := 25#32
  let v3458 : BitVec 32 := Scalar.addi v2 c25_i32_3122
  let c32_i32_3123 : BitVec 32 := 32#32
  let c0_i32_3124 : BitVec 32 := 0#32
  let v3459 : BitVec 1 := Scalar.cmpi .eq c32_i32_3123 c0_i32_3124
  let c1_i32_3125 : BitVec 32 := 1#32
  let v3460 : BitVec 32 := Scalar.select v3459 c1_i32_3125 c32_i32_3123
  let v3461 : BitVec 32 := Scalar.remsi v3458 v3460
  let c0_i32_3127 : BitVec 32 := 0#32
  let v3463 : BitVec 1 := Scalar.cmpi .slt v3461 c0_i32_3127
  let c0_i32_3128 : BitVec 32 := 0#32
  let v3464 : BitVec 1 := Scalar.cmpi .slt v3460 c0_i32_3128
  let v3465 : BitVec 1 := Scalar.xori v3463 v3464
  let c0_i32_3126 : BitVec 32 := 0#32
  let v3462 : BitVec 1 := Scalar.cmpi .ne v3461 c0_i32_3126
  let v3466 : BitVec 1 := Scalar.andi v3465 v3462
  let v3467 : BitVec 32 := Scalar.addi v3461 v3460
  let v3468 : BitVec 32 := Scalar.select v3466 v3467 v3461
  let c1_i32_3133 : BitVec 32 := 1#32
  let v3469 : BitVec 32 := Scalar.muli v3468 c1_i32_3133
  let v3470 : BitVec 32 := Scalar.addi c0_i32_3134 v3469
  v3470.toNat
def k0_dev144 (d0 : Dev nD) : Nat :=
  let c0_i32_3151 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_3139 : BitVec 32 := 6#32
  let v3479 : BitVec 32 := Scalar.addi v2 c6_i32_3139
  let c32_i32_3140 : BitVec 32 := 32#32
  let c0_i32_3141 : BitVec 32 := 0#32
  let v3480 : BitVec 1 := Scalar.cmpi .eq c32_i32_3140 c0_i32_3141
  let c1_i32_3142 : BitVec 32 := 1#32
  let v3481 : BitVec 32 := Scalar.select v3480 c1_i32_3142 c32_i32_3140
  let v3482 : BitVec 32 := Scalar.remsi v3479 v3481
  let c0_i32_3144 : BitVec 32 := 0#32
  let v3484 : BitVec 1 := Scalar.cmpi .slt v3482 c0_i32_3144
  let c0_i32_3145 : BitVec 32 := 0#32
  let v3485 : BitVec 1 := Scalar.cmpi .slt v3481 c0_i32_3145
  let v3486 : BitVec 1 := Scalar.xori v3484 v3485
  let c0_i32_3143 : BitVec 32 := 0#32
  let v3483 : BitVec 1 := Scalar.cmpi .ne v3482 c0_i32_3143
  let v3487 : BitVec 1 := Scalar.andi v3486 v3483
  let v3488 : BitVec 32 := Scalar.addi v3482 v3481
  let v3489 : BitVec 32 := Scalar.select v3487 v3488 v3482
  let c1_i32_3150 : BitVec 32 := 1#32
  let v3490 : BitVec 32 := Scalar.muli v3489 c1_i32_3150
  let v3491 : BitVec 32 := Scalar.addi c0_i32_3151 v3490
  v3491.toNat
def k0_dev145 (d0 : Dev nD) : Nat :=
  let c0_i32_3168 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_3156 : BitVec 32 := 26#32
  let v3500 : BitVec 32 := Scalar.addi v2 c26_i32_3156
  let c32_i32_3157 : BitVec 32 := 32#32
  let c0_i32_3158 : BitVec 32 := 0#32
  let v3501 : BitVec 1 := Scalar.cmpi .eq c32_i32_3157 c0_i32_3158
  let c1_i32_3159 : BitVec 32 := 1#32
  let v3502 : BitVec 32 := Scalar.select v3501 c1_i32_3159 c32_i32_3157
  let v3503 : BitVec 32 := Scalar.remsi v3500 v3502
  let c0_i32_3161 : BitVec 32 := 0#32
  let v3505 : BitVec 1 := Scalar.cmpi .slt v3503 c0_i32_3161
  let c0_i32_3162 : BitVec 32 := 0#32
  let v3506 : BitVec 1 := Scalar.cmpi .slt v3502 c0_i32_3162
  let v3507 : BitVec 1 := Scalar.xori v3505 v3506
  let c0_i32_3160 : BitVec 32 := 0#32
  let v3504 : BitVec 1 := Scalar.cmpi .ne v3503 c0_i32_3160
  let v3508 : BitVec 1 := Scalar.andi v3507 v3504
  let v3509 : BitVec 32 := Scalar.addi v3503 v3502
  let v3510 : BitVec 32 := Scalar.select v3508 v3509 v3503
  let c1_i32_3167 : BitVec 32 := 1#32
  let v3511 : BitVec 32 := Scalar.muli v3510 c1_i32_3167
  let v3512 : BitVec 32 := Scalar.addi c0_i32_3168 v3511
  v3512.toNat
def k0_dev146 (d0 : Dev nD) : Nat :=
  let c0_i32_3185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_3173 : BitVec 32 := 5#32
  let v3521 : BitVec 32 := Scalar.addi v2 c5_i32_3173
  let c32_i32_3174 : BitVec 32 := 32#32
  let c0_i32_3175 : BitVec 32 := 0#32
  let v3522 : BitVec 1 := Scalar.cmpi .eq c32_i32_3174 c0_i32_3175
  let c1_i32_3176 : BitVec 32 := 1#32
  let v3523 : BitVec 32 := Scalar.select v3522 c1_i32_3176 c32_i32_3174
  let v3524 : BitVec 32 := Scalar.remsi v3521 v3523
  let c0_i32_3178 : BitVec 32 := 0#32
  let v3526 : BitVec 1 := Scalar.cmpi .slt v3524 c0_i32_3178
  let c0_i32_3179 : BitVec 32 := 0#32
  let v3527 : BitVec 1 := Scalar.cmpi .slt v3523 c0_i32_3179
  let v3528 : BitVec 1 := Scalar.xori v3526 v3527
  let c0_i32_3177 : BitVec 32 := 0#32
  let v3525 : BitVec 1 := Scalar.cmpi .ne v3524 c0_i32_3177
  let v3529 : BitVec 1 := Scalar.andi v3528 v3525
  let v3530 : BitVec 32 := Scalar.addi v3524 v3523
  let v3531 : BitVec 32 := Scalar.select v3529 v3530 v3524
  let c1_i32_3184 : BitVec 32 := 1#32
  let v3532 : BitVec 32 := Scalar.muli v3531 c1_i32_3184
  let v3533 : BitVec 32 := Scalar.addi c0_i32_3185 v3532
  v3533.toNat
def k0_dev147 (d0 : Dev nD) : Nat :=
  let c0_i32_3202 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_3190 : BitVec 32 := 27#32
  let v3542 : BitVec 32 := Scalar.addi v2 c27_i32_3190
  let c32_i32_3191 : BitVec 32 := 32#32
  let c0_i32_3192 : BitVec 32 := 0#32
  let v3543 : BitVec 1 := Scalar.cmpi .eq c32_i32_3191 c0_i32_3192
  let c1_i32_3193 : BitVec 32 := 1#32
  let v3544 : BitVec 32 := Scalar.select v3543 c1_i32_3193 c32_i32_3191
  let v3545 : BitVec 32 := Scalar.remsi v3542 v3544
  let c0_i32_3195 : BitVec 32 := 0#32
  let v3547 : BitVec 1 := Scalar.cmpi .slt v3545 c0_i32_3195
  let c0_i32_3196 : BitVec 32 := 0#32
  let v3548 : BitVec 1 := Scalar.cmpi .slt v3544 c0_i32_3196
  let v3549 : BitVec 1 := Scalar.xori v3547 v3548
  let c0_i32_3194 : BitVec 32 := 0#32
  let v3546 : BitVec 1 := Scalar.cmpi .ne v3545 c0_i32_3194
  let v3550 : BitVec 1 := Scalar.andi v3549 v3546
  let v3551 : BitVec 32 := Scalar.addi v3545 v3544
  let v3552 : BitVec 32 := Scalar.select v3550 v3551 v3545
  let c1_i32_3201 : BitVec 32 := 1#32
  let v3553 : BitVec 32 := Scalar.muli v3552 c1_i32_3201
  let v3554 : BitVec 32 := Scalar.addi c0_i32_3202 v3553
  v3554.toNat
def k0_dev148 (d0 : Dev nD) : Nat :=
  let c0_i32_3219 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_3207 : BitVec 32 := 4#32
  let v3563 : BitVec 32 := Scalar.addi v2 c4_i32_3207
  let c32_i32_3208 : BitVec 32 := 32#32
  let c0_i32_3209 : BitVec 32 := 0#32
  let v3564 : BitVec 1 := Scalar.cmpi .eq c32_i32_3208 c0_i32_3209
  let c1_i32_3210 : BitVec 32 := 1#32
  let v3565 : BitVec 32 := Scalar.select v3564 c1_i32_3210 c32_i32_3208
  let v3566 : BitVec 32 := Scalar.remsi v3563 v3565
  let c0_i32_3212 : BitVec 32 := 0#32
  let v3568 : BitVec 1 := Scalar.cmpi .slt v3566 c0_i32_3212
  let c0_i32_3213 : BitVec 32 := 0#32
  let v3569 : BitVec 1 := Scalar.cmpi .slt v3565 c0_i32_3213
  let v3570 : BitVec 1 := Scalar.xori v3568 v3569
  let c0_i32_3211 : BitVec 32 := 0#32
  let v3567 : BitVec 1 := Scalar.cmpi .ne v3566 c0_i32_3211
  let v3571 : BitVec 1 := Scalar.andi v3570 v3567
  let v3572 : BitVec 32 := Scalar.addi v3566 v3565
  let v3573 : BitVec 32 := Scalar.select v3571 v3572 v3566
  let c1_i32_3218 : BitVec 32 := 1#32
  let v3574 : BitVec 32 := Scalar.muli v3573 c1_i32_3218
  let v3575 : BitVec 32 := Scalar.addi c0_i32_3219 v3574
  v3575.toNat
def k0_dev149 (d0 : Dev nD) : Nat :=
  let c0_i32_3236 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_3224 : BitVec 32 := 28#32
  let v3584 : BitVec 32 := Scalar.addi v2 c28_i32_3224
  let c32_i32_3225 : BitVec 32 := 32#32
  let c0_i32_3226 : BitVec 32 := 0#32
  let v3585 : BitVec 1 := Scalar.cmpi .eq c32_i32_3225 c0_i32_3226
  let c1_i32_3227 : BitVec 32 := 1#32
  let v3586 : BitVec 32 := Scalar.select v3585 c1_i32_3227 c32_i32_3225
  let v3587 : BitVec 32 := Scalar.remsi v3584 v3586
  let c0_i32_3229 : BitVec 32 := 0#32
  let v3589 : BitVec 1 := Scalar.cmpi .slt v3587 c0_i32_3229
  let c0_i32_3230 : BitVec 32 := 0#32
  let v3590 : BitVec 1 := Scalar.cmpi .slt v3586 c0_i32_3230
  let v3591 : BitVec 1 := Scalar.xori v3589 v3590
  let c0_i32_3228 : BitVec 32 := 0#32
  let v3588 : BitVec 1 := Scalar.cmpi .ne v3587 c0_i32_3228
  let v3592 : BitVec 1 := Scalar.andi v3591 v3588
  let v3593 : BitVec 32 := Scalar.addi v3587 v3586
  let v3594 : BitVec 32 := Scalar.select v3592 v3593 v3587
  let c1_i32_3235 : BitVec 32 := 1#32
  let v3595 : BitVec 32 := Scalar.muli v3594 c1_i32_3235
  let v3596 : BitVec 32 := Scalar.addi c0_i32_3236 v3595
  v3596.toNat
def k0_dev150 (d0 : Dev nD) : Nat :=
  let c0_i32_3253 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_3241 : BitVec 32 := 3#32
  let v3605 : BitVec 32 := Scalar.addi v2 c3_i32_3241
  let c32_i32_3242 : BitVec 32 := 32#32
  let c0_i32_3243 : BitVec 32 := 0#32
  let v3606 : BitVec 1 := Scalar.cmpi .eq c32_i32_3242 c0_i32_3243
  let c1_i32_3244 : BitVec 32 := 1#32
  let v3607 : BitVec 32 := Scalar.select v3606 c1_i32_3244 c32_i32_3242
  let v3608 : BitVec 32 := Scalar.remsi v3605 v3607
  let c0_i32_3246 : BitVec 32 := 0#32
  let v3610 : BitVec 1 := Scalar.cmpi .slt v3608 c0_i32_3246
  let c0_i32_3247 : BitVec 32 := 0#32
  let v3611 : BitVec 1 := Scalar.cmpi .slt v3607 c0_i32_3247
  let v3612 : BitVec 1 := Scalar.xori v3610 v3611
  let c0_i32_3245 : BitVec 32 := 0#32
  let v3609 : BitVec 1 := Scalar.cmpi .ne v3608 c0_i32_3245
  let v3613 : BitVec 1 := Scalar.andi v3612 v3609
  let v3614 : BitVec 32 := Scalar.addi v3608 v3607
  let v3615 : BitVec 32 := Scalar.select v3613 v3614 v3608
  let c1_i32_3252 : BitVec 32 := 1#32
  let v3616 : BitVec 32 := Scalar.muli v3615 c1_i32_3252
  let v3617 : BitVec 32 := Scalar.addi c0_i32_3253 v3616
  v3617.toNat
def k0_dev151 (d0 : Dev nD) : Nat :=
  let c0_i32_3270 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_3258 : BitVec 32 := 29#32
  let v3626 : BitVec 32 := Scalar.addi v2 c29_i32_3258
  let c32_i32_3259 : BitVec 32 := 32#32
  let c0_i32_3260 : BitVec 32 := 0#32
  let v3627 : BitVec 1 := Scalar.cmpi .eq c32_i32_3259 c0_i32_3260
  let c1_i32_3261 : BitVec 32 := 1#32
  let v3628 : BitVec 32 := Scalar.select v3627 c1_i32_3261 c32_i32_3259
  let v3629 : BitVec 32 := Scalar.remsi v3626 v3628
  let c0_i32_3263 : BitVec 32 := 0#32
  let v3631 : BitVec 1 := Scalar.cmpi .slt v3629 c0_i32_3263
  let c0_i32_3264 : BitVec 32 := 0#32
  let v3632 : BitVec 1 := Scalar.cmpi .slt v3628 c0_i32_3264
  let v3633 : BitVec 1 := Scalar.xori v3631 v3632
  let c0_i32_3262 : BitVec 32 := 0#32
  let v3630 : BitVec 1 := Scalar.cmpi .ne v3629 c0_i32_3262
  let v3634 : BitVec 1 := Scalar.andi v3633 v3630
  let v3635 : BitVec 32 := Scalar.addi v3629 v3628
  let v3636 : BitVec 32 := Scalar.select v3634 v3635 v3629
  let c1_i32_3269 : BitVec 32 := 1#32
  let v3637 : BitVec 32 := Scalar.muli v3636 c1_i32_3269
  let v3638 : BitVec 32 := Scalar.addi c0_i32_3270 v3637
  v3638.toNat
def k0_dev152 (d0 : Dev nD) : Nat :=
  let c0_i32_3287 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_3275 : BitVec 32 := 2#32
  let v3647 : BitVec 32 := Scalar.addi v2 c2_i32_3275
  let c32_i32_3276 : BitVec 32 := 32#32
  let c0_i32_3277 : BitVec 32 := 0#32
  let v3648 : BitVec 1 := Scalar.cmpi .eq c32_i32_3276 c0_i32_3277
  let c1_i32_3278 : BitVec 32 := 1#32
  let v3649 : BitVec 32 := Scalar.select v3648 c1_i32_3278 c32_i32_3276
  let v3650 : BitVec 32 := Scalar.remsi v3647 v3649
  let c0_i32_3280 : BitVec 32 := 0#32
  let v3652 : BitVec 1 := Scalar.cmpi .slt v3650 c0_i32_3280
  let c0_i32_3281 : BitVec 32 := 0#32
  let v3653 : BitVec 1 := Scalar.cmpi .slt v3649 c0_i32_3281
  let v3654 : BitVec 1 := Scalar.xori v3652 v3653
  let c0_i32_3279 : BitVec 32 := 0#32
  let v3651 : BitVec 1 := Scalar.cmpi .ne v3650 c0_i32_3279
  let v3655 : BitVec 1 := Scalar.andi v3654 v3651
  let v3656 : BitVec 32 := Scalar.addi v3650 v3649
  let v3657 : BitVec 32 := Scalar.select v3655 v3656 v3650
  let c1_i32_3286 : BitVec 32 := 1#32
  let v3658 : BitVec 32 := Scalar.muli v3657 c1_i32_3286
  let v3659 : BitVec 32 := Scalar.addi c0_i32_3287 v3658
  v3659.toNat
def k0_dev153 (d0 : Dev nD) : Nat :=
  let c0_i32_3304 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_3292 : BitVec 32 := 30#32
  let v3668 : BitVec 32 := Scalar.addi v2 c30_i32_3292
  let c32_i32_3293 : BitVec 32 := 32#32
  let c0_i32_3294 : BitVec 32 := 0#32
  let v3669 : BitVec 1 := Scalar.cmpi .eq c32_i32_3293 c0_i32_3294
  let c1_i32_3295 : BitVec 32 := 1#32
  let v3670 : BitVec 32 := Scalar.select v3669 c1_i32_3295 c32_i32_3293
  let v3671 : BitVec 32 := Scalar.remsi v3668 v3670
  let c0_i32_3297 : BitVec 32 := 0#32
  let v3673 : BitVec 1 := Scalar.cmpi .slt v3671 c0_i32_3297
  let c0_i32_3298 : BitVec 32 := 0#32
  let v3674 : BitVec 1 := Scalar.cmpi .slt v3670 c0_i32_3298
  let v3675 : BitVec 1 := Scalar.xori v3673 v3674
  let c0_i32_3296 : BitVec 32 := 0#32
  let v3672 : BitVec 1 := Scalar.cmpi .ne v3671 c0_i32_3296
  let v3676 : BitVec 1 := Scalar.andi v3675 v3672
  let v3677 : BitVec 32 := Scalar.addi v3671 v3670
  let v3678 : BitVec 32 := Scalar.select v3676 v3677 v3671
  let c1_i32_3303 : BitVec 32 := 1#32
  let v3679 : BitVec 32 := Scalar.muli v3678 c1_i32_3303
  let v3680 : BitVec 32 := Scalar.addi c0_i32_3304 v3679
  v3680.toNat
def k0_dev154 (d0 : Dev nD) : Nat :=
  let c0_i32_3321 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3309 : BitVec 32 := 1#32
  let v3689 : BitVec 32 := Scalar.addi v2 c1_i32_3309
  let c32_i32_3310 : BitVec 32 := 32#32
  let c0_i32_3311 : BitVec 32 := 0#32
  let v3690 : BitVec 1 := Scalar.cmpi .eq c32_i32_3310 c0_i32_3311
  let c1_i32_3312 : BitVec 32 := 1#32
  let v3691 : BitVec 32 := Scalar.select v3690 c1_i32_3312 c32_i32_3310
  let v3692 : BitVec 32 := Scalar.remsi v3689 v3691
  let c0_i32_3314 : BitVec 32 := 0#32
  let v3694 : BitVec 1 := Scalar.cmpi .slt v3692 c0_i32_3314
  let c0_i32_3315 : BitVec 32 := 0#32
  let v3695 : BitVec 1 := Scalar.cmpi .slt v3691 c0_i32_3315
  let v3696 : BitVec 1 := Scalar.xori v3694 v3695
  let c0_i32_3313 : BitVec 32 := 0#32
  let v3693 : BitVec 1 := Scalar.cmpi .ne v3692 c0_i32_3313
  let v3697 : BitVec 1 := Scalar.andi v3696 v3693
  let v3698 : BitVec 32 := Scalar.addi v3692 v3691
  let v3699 : BitVec 32 := Scalar.select v3697 v3698 v3692
  let c1_i32_3320 : BitVec 32 := 1#32
  let v3700 : BitVec 32 := Scalar.muli v3699 c1_i32_3320
  let v3701 : BitVec 32 := Scalar.addi c0_i32_3321 v3700
  v3701.toNat
def k0_dev155 (d0 : Dev nD) : Nat :=
  let c0_i32_3338 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_3326 : BitVec 32 := 31#32
  let v3710 : BitVec 32 := Scalar.addi v2 c31_i32_3326
  let c32_i32_3327 : BitVec 32 := 32#32
  let c0_i32_3328 : BitVec 32 := 0#32
  let v3711 : BitVec 1 := Scalar.cmpi .eq c32_i32_3327 c0_i32_3328
  let c1_i32_3329 : BitVec 32 := 1#32
  let v3712 : BitVec 32 := Scalar.select v3711 c1_i32_3329 c32_i32_3327
  let v3713 : BitVec 32 := Scalar.remsi v3710 v3712
  let c0_i32_3331 : BitVec 32 := 0#32
  let v3715 : BitVec 1 := Scalar.cmpi .slt v3713 c0_i32_3331
  let c0_i32_3332 : BitVec 32 := 0#32
  let v3716 : BitVec 1 := Scalar.cmpi .slt v3712 c0_i32_3332
  let v3717 : BitVec 1 := Scalar.xori v3715 v3716
  let c0_i32_3330 : BitVec 32 := 0#32
  let v3714 : BitVec 1 := Scalar.cmpi .ne v3713 c0_i32_3330
  let v3718 : BitVec 1 := Scalar.andi v3717 v3714
  let v3719 : BitVec 32 := Scalar.addi v3713 v3712
  let v3720 : BitVec 32 := Scalar.select v3718 v3719 v3713
  let c1_i32_3337 : BitVec 32 := 1#32
  let v3721 : BitVec 32 := Scalar.muli v3720 c1_i32_3337
  let v3722 : BitVec 32 := Scalar.addi c0_i32_3338 v3721
  v3722.toNat
def k0_off10 (d0 : Dev nD) (c16_i32_3343 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3731 : BitVec 32 := Scalar.subi v2 c16_i32_3343
  let c32_i32_3344 : BitVec 32 := 32#32
  let c0_i32_3345 : BitVec 32 := 0#32
  let v3732 : BitVec 1 := Scalar.cmpi .eq c32_i32_3344 c0_i32_3345
  let c1_i32_3346 : BitVec 32 := 1#32
  let v3733 : BitVec 32 := Scalar.select v3732 c1_i32_3346 c32_i32_3344
  let v3734 : BitVec 32 := Scalar.remsi v3731 v3733
  let c0_i32_3348 : BitVec 32 := 0#32
  let v3736 : BitVec 1 := Scalar.cmpi .slt v3734 c0_i32_3348
  let c0_i32_3349 : BitVec 32 := 0#32
  let v3737 : BitVec 1 := Scalar.cmpi .slt v3733 c0_i32_3349
  let v3738 : BitVec 1 := Scalar.xori v3736 v3737
  let c0_i32_3347 : BitVec 32 := 0#32
  let v3735 : BitVec 1 := Scalar.cmpi .ne v3734 c0_i32_3347
  let v3739 : BitVec 1 := Scalar.andi v3738 v3735
  let v3740 : BitVec 32 := Scalar.addi v3734 v3733
  let v3741 : BitVec 32 := Scalar.select v3739 v3740 v3734
  let c0_i32_3358 : BitVec 32 := 0#32
  let c0_i32_3359 : BitVec 32 := 0#32
  ![v3741.toNat, 0, 0]
def k0_off11 (d0 : Dev nD) (c16_i32_3932 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v4320 : BitVec 32 := Scalar.subi v2 c16_i32_3932
  let c32_i32_3933 : BitVec 32 := 32#32
  let c0_i32_3934 : BitVec 32 := 0#32
  let v4321 : BitVec 1 := Scalar.cmpi .eq c32_i32_3933 c0_i32_3934
  let c1_i32_3935 : BitVec 32 := 1#32
  let v4322 : BitVec 32 := Scalar.select v4321 c1_i32_3935 c32_i32_3933
  let v4323 : BitVec 32 := Scalar.remsi v4320 v4322
  let c0_i32_3937 : BitVec 32 := 0#32
  let v4325 : BitVec 1 := Scalar.cmpi .slt v4323 c0_i32_3937
  let c0_i32_3938 : BitVec 32 := 0#32
  let v4326 : BitVec 1 := Scalar.cmpi .slt v4322 c0_i32_3938
  let v4327 : BitVec 1 := Scalar.xori v4325 v4326
  let c0_i32_3936 : BitVec 32 := 0#32
  let v4324 : BitVec 1 := Scalar.cmpi .ne v4323 c0_i32_3936
  let v4328 : BitVec 1 := Scalar.andi v4327 v4324
  let v4329 : BitVec 32 := Scalar.addi v4323 v4322
  let v4330 : BitVec 32 := Scalar.select v4328 v4329 v4323
  let c0_i32_3947 : BitVec 32 := 0#32
  let c256_i32_3948 : BitVec 32 := 256#32
  ![v4330.toNat, 0, 256]
abbrev stage0_0 : Fin 1 → Memref sig .tc .vmem S2x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x256x4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x256x512 : Shape := ⟨3, ![2, 256, 512]⟩
abbrev S512x8192 : Shape := ⟨2, ![512, 8192]⟩
abbrev S2x256x128x64 : Shape := ⟨4, ![2, 256, 128, 64]⟩
abbrev S8192x512 : Shape := ⟨2, ![8192, 512]⟩
abbrev S2x256x8192 : Shape := ⟨3, ![2, 256, 8192]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S2x128x256x256 : Shape := ⟨4, ![2, 128, 256, 256]⟩
abbrev S1x1x256x256 : Shape := ⟨4, ![1, 1, 256, 256]⟩
abbrev S2x128x256 : Shape := ⟨3, ![2, 128, 256]⟩
abbrev S2x128x256x1 : Shape := ⟨4, ![2, 128, 256, 1]⟩
abbrev S1x1x256x1 : Shape := ⟨4, ![1, 1, 256, 1]⟩
abbrev S2x128x64x256 : Shape := ⟨4, ![2, 128, 64, 256]⟩

abbrev nBuf : Space → Nat
  | .hbm => 89
  | .vmem => 0
  | .smem => 0
  | _ => 0

abbrev bufTy : (tb : Table) → Fin (tcTables nBuf tb) → BufTy
  | .hbm, ⟨0, _⟩ => ⟨S2x256x512, .f32⟩
  | .hbm, ⟨1, _⟩ => ⟨S512x8192, .f32⟩
  | .hbm, ⟨2, _⟩ => ⟨S2x256x128x64, .f32⟩
  | .hbm, ⟨3, _⟩ => ⟨S2x256x128x64, .f32⟩
  | .hbm, ⟨4, _⟩ => ⟨S8192x512, .f32⟩
  | .hbm, ⟨5, _⟩ => ⟨S2x256x8192, .f32⟩
  | .hbm, ⟨6, _⟩ => ⟨S2x256x128x64, .f32⟩
  | .hbm, ⟨7, _⟩ => ⟨S256, .i32⟩
  | .hbm, ⟨8, _⟩ => ⟨S_, .i32⟩
  | .hbm, ⟨9, _⟩ => ⟨S_, .i32⟩
  | .hbm, ⟨10, _⟩ => ⟨S256, .i32⟩
  | .hbm, ⟨11, _⟩ => ⟨S256, .i32⟩
  | .hbm, ⟨12, _⟩ => ⟨S256, .i32⟩
  | .hbm, ⟨13, _⟩ => ⟨S_, .i32⟩
  | .hbm, ⟨14, _⟩ => ⟨S256, .i32⟩
  | .hbm, ⟨15, _⟩ => ⟨S256, .i1⟩
  | .hbm, ⟨16, _⟩ => ⟨S256, .i32⟩
  | .hbm, ⟨17, _⟩ => ⟨S256, .i32⟩
  | .hbm, ⟨18, _⟩ => ⟨S_, .i32⟩
  | .hbm, ⟨19, _⟩ => ⟨S256, .i32⟩
  | .hbm, ⟨20, _⟩ => ⟨S256, .i1⟩
  | .hbm, ⟨21, _⟩ => ⟨S256, .i1⟩
  | .hbm, ⟨22, _⟩ => ⟨S_, .i32⟩
  | .hbm, ⟨23, _⟩ => ⟨S256, .i32⟩
  | .hbm, ⟨24, _⟩ => ⟨S256, .i32⟩
  | .hbm, ⟨25, _⟩ => ⟨S256, .i32⟩
  | .hbm, ⟨26, _⟩ => ⟨S256x1, .i32⟩
  | .hbm, ⟨27, _⟩ => ⟨S256, .i32⟩
  | .hbm, ⟨28, _⟩ => ⟨S_, .i32⟩
  | .hbm, ⟨29, _⟩ => ⟨S_, .i32⟩
  | .hbm, ⟨30, _⟩ => ⟨S256, .i32⟩
  | .hbm, ⟨31, _⟩ => ⟨S256, .i32⟩
  | .hbm, ⟨32, _⟩ => ⟨S256, .i32⟩
  | .hbm, ⟨33, _⟩ => ⟨S_, .i32⟩
  | .hbm, ⟨34, _⟩ => ⟨S256, .i32⟩
  | .hbm, ⟨35, _⟩ => ⟨S256, .i1⟩
  | .hbm, ⟨36, _⟩ => ⟨S256, .i32⟩
  | .hbm, ⟨37, _⟩ => ⟨S256, .i32⟩
  | .hbm, ⟨38, _⟩ => ⟨S_, .i32⟩
  | .hbm, ⟨39, _⟩ => ⟨S256, .i32⟩
  | .hbm, ⟨40, _⟩ => ⟨S256, .i1⟩
  | .hbm, ⟨41, _⟩ => ⟨S256, .i1⟩
  | .hbm, ⟨42, _⟩ => ⟨S_, .i32⟩
  | .hbm, ⟨43, _⟩ => ⟨S256, .i32⟩
  | .hbm, ⟨44, _⟩ => ⟨S256, .i32⟩
  | .hbm, ⟨45, _⟩ => ⟨S256, .i32⟩
  | .hbm, ⟨46, _⟩ => ⟨S1x256, .i32⟩
  | .hbm, ⟨47, _⟩ => ⟨S256x256, .i32⟩
  | .hbm, ⟨48, _⟩ => ⟨S256x256, .i32⟩
  | .hbm, ⟨49, _⟩ => ⟨S256x256, .i1⟩
  | .hbm, ⟨50, _⟩ => ⟨S2x128x256x256, .f32⟩
  | .hbm, ⟨51, _⟩ => ⟨S_, .f32⟩
  | .hbm, ⟨52, _⟩ => ⟨S2x128x256x256, .f32⟩
  | .hbm, ⟨53, _⟩ => ⟨S2x128x256x256, .f32⟩
  | .hbm, ⟨54, _⟩ => ⟨S1x1x256x256, .i1⟩
  | .hbm, ⟨55, _⟩ => ⟨S_, .f32⟩
  | .hbm, ⟨56, _⟩ => ⟨S_, .f32⟩
  | .hbm, ⟨57, _⟩ => ⟨S2x128x256x256, .i1⟩
  | .hbm, ⟨58, _⟩ => ⟨S2x128x256x256, .f32⟩
  | .hbm, ⟨59, _⟩ => ⟨S2x128x256x256, .f32⟩
  | .hbm, ⟨60, _⟩ => ⟨S_, .f32⟩
  | .hbm, ⟨61, _⟩ => ⟨S2x128x256, .f32⟩
  | .hbm, ⟨62, _⟩ => ⟨S2x128x256x1, .f32⟩
  | .hbm, ⟨63, _⟩ => ⟨S2x128x256x256, .f32⟩
  | .hbm, ⟨64, _⟩ => ⟨S2x128x256x256, .f32⟩
  | .hbm, ⟨65, _⟩ => ⟨S2x128x256x256, .f32⟩
  | .hbm, ⟨66, _⟩ => ⟨S_, .i1⟩
  | .hbm, ⟨67, _⟩ => ⟨S256, .i1⟩
  | .hbm, ⟨68, _⟩ => ⟨S1x1x256x1, .i1⟩
  | .hbm, ⟨69, _⟩ => ⟨S_, .f32⟩
  | .hbm, ⟨70, _⟩ => ⟨S2x128x256, .f32⟩
  | .hbm, ⟨71, _⟩ => ⟨S2x128x256x1, .f32⟩
  | .hbm, ⟨72, _⟩ => ⟨S_, .f32⟩
  | .hbm, ⟨73, _⟩ => ⟨S_, .f32⟩
  | .hbm, ⟨74, _⟩ => ⟨S2x128x256x1, .i1⟩
  | .hbm, ⟨75, _⟩ => ⟨S2x128x256x1, .f32⟩
  | .hbm, ⟨76, _⟩ => ⟨S2x128x256x1, .f32⟩
  | .hbm, ⟨77, _⟩ => ⟨S2x128x256x256, .f32⟩
  | .hbm, ⟨78, _⟩ => ⟨S2x128x256x256, .f32⟩
  | .hbm, ⟨79, _⟩ => ⟨S1x1x256x1, .i1⟩
  | .hbm, ⟨80, _⟩ => ⟨S_, .f32⟩
  | .hbm, ⟨81, _⟩ => ⟨S_, .f32⟩
  | .hbm, ⟨82, _⟩ => ⟨S2x128x256x256, .i1⟩
  | .hbm, ⟨83, _⟩ => ⟨S2x128x256x256, .f32⟩
  | .hbm, ⟨84, _⟩ => ⟨S2x128x256x256, .f32⟩
  | .hbm, ⟨85, _⟩ => ⟨S2x128x64x256, .f32⟩
  | .hbm, ⟨86, _⟩ => ⟨S2x256x128x64, .f32⟩
  | .hbm, ⟨87, _⟩ => ⟨S2x256x8192, .f32⟩
  | .hbm, ⟨88, _⟩ => ⟨S2x256x512, .f32⟩
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v15 : Ref sig .tc := ⟨.hbm, 59, rfl⟩
abbrev main_cst_2 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_c_3 : Ref sig .tc := ⟨.hbm, 66, rfl⟩
abbrev main_v21 : Ref sig .tc := ⟨.hbm, 67, rfl⟩
abbrev main_v22 : Ref sig .tc := ⟨.hbm, 68, rfl⟩
abbrev main_cst_4 : Ref sig .tc := ⟨.hbm, 69, rfl⟩
abbrev main_v23 : Ref sig .tc := ⟨.hbm, 70, rfl⟩
abbrev main_v24 : Ref sig .tc := ⟨.hbm, 71, rfl⟩
abbrev main_cst_5 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_6 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩

abbrev nD : Nat := 1
abbrev τ : Topo := Topo.v7x

variable {F : FTy → Type} [FloatOps F]
-- ==== Proof.Steps.lean ====
/-
The kernel's body as a program in phases.

The printed body is one long sequence in which a device's 31 partners are written out one by one. Here the same
sequence is written once over the list of partners: the phase's step is a function of the partner's distance, and
`seqL` runs it along the list. `body_eq` (BodyEq.lean) says that the two are the same program.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit

@[expose] public section

noncomputable section

namespace Cert.KernelIdeal.Pf

open Cert.KernelIdeal Cert.KernelIdeal.Gen
open Idealize.ShloMosaic Idealize.ShloMosaic.TcCoe
open Idealize.SL Idealize.SL.Sem

variable {F : FTy → Type} [FloatOps F]

/-! ## Buffers and semaphores -/

abbrev xM : Memref sig .tc .vmem S2x256x512 .f32 := Memref.whole cc0_stg0_0
abbrev kM : Memref sig .tc .vmem S2x256x4x64 .f32 := Memref.whole cc0_stg1_0
abbrev vM : Memref sig .tc .vmem S2x256x4x64 .f32 := Memref.whole cc0_stg2_0
abbrev oM : Memref sig .tc .vmem S2x256x512 .f32 := Memref.whole cc0_stg3_0
abbrev wqM : Memref sig .tc .hbm S512x8192 .f32 := Memref.whole main_arg1
abbrev woM : Memref sig .tc .hbm S8192x512 .f32 := Memref.whole main_arg4
/-- Landing buffers of the device's columns of `Wq` and rows of `Wo`; the partial product; the pieces received in the
    first exchange; the reduced rows of all devices. -/
abbrev qM : Memref sig .tc .vmem S512x256 .f32 := Memref.whole cc0_scratch0
abbrev pM : Memref sig .tc .vmem S256x512 .f32 := Memref.whole cc0_scratch1
abbrev aM : Memref sig .tc .vmem S512x512 .bf16 := Memref.whole cc0_scratch2
abbrev rM : Memref sig .tc .vmem S32x16x512 .bf16 := Memref.whole cc0_scratch3
abbrev gM : Memref sig .tc .vmem S32x16x512 .bf16 := Memref.whole cc0_scratch4

/-- The runtime's barrier semaphore. -/
abbrev barS : Sem sig := (SemArray.scalar (sig.barrier 0 rfl) : Sems sig S_).sem

/-- The distance `1 + r` as a word: what the program adds to its device number. -/
abbrev offW (r : Fin 31) : BitVec 32 := BitVec.ofNat 32 (1 + r.val)

/-- The partner at distance `1 + r`. -/
def fwd (d : Dev nD) (r : Fin 31) : Dev nD := ⟨(d.val + (1 + r.val)) % 32, Nat.mod_lt _ (by decide)⟩

theorem semRow_inb (h : Fin 2) (o : Fin 32) : ∀ a, (![h.val, o.val] : Fin 2 → Nat) a + S1x1.size a ≤ S2x32.size a := by
  revert h o; decide +kernel
abbrev semAt (A : DmaSems sig S2x32) (h : Fin 2) (o : Fin 32) : DmaSem sig :=
  ((A.slice (Rect.unit (s := S2x32) ![h.val, o.val] S1x1.size (semRow_inb h o))).squeeze S_ squeezes_S1x1_S_).sem
abbrev slot (r : Fin 31) : Fin 32 := ⟨1 + r.val, by omega⟩
theorem locRow_inb (b : Fin 2) : ∀ a, (![b.val] : Fin 1 → Nat) a + S1.size a ≤ S2.size a := by
  revert b; decide
/-- The semaphores of the two local copies. -/
abbrev locS (b : Fin 2) : DmaSem sig :=
  ((cc0_scratch5.slice (Rect.unit (s := S2) ![b.val] S1.size (locRow_inb b))).squeeze S_ squeezes_S1_S_).sem
/-- The four arrays of semaphores of the exchanges: sending and receiving in the first, sending and receiving in the
    second. -/
abbrev s1S (h : Fin 2) (r : Fin 31) : DmaSem sig := semAt cc0_scratch6 h (slot r)
abbrev r1S (h : Fin 2) (r : Fin 31) : DmaSem sig := semAt cc0_scratch7 h (slot r)
abbrev s2S (h : Fin 2) (r : Fin 31) : DmaSem sig := semAt cc0_scratch8 h (slot r)
abbrev r2S (h : Fin 2) (r : Fin 31) : DmaSem sig := semAt cc0_scratch9 h (slot r)

/-! ## The pieces of the buffers, a column half at a time -/

/-- The first row and column of the piece of the partial product meant for the partner at distance `1 + r`. -/
def aOff (d : Dev nD) (h : Fin 2) (r : Fin 31) : Fin 2 → Nat := if h = 0 then k0_off4 d (offW r) else k0_off5 d (offW r)
theorem aOff_eq (d : Dev nD) (h : Fin 2) (r : Fin 31) : aOff d h r = ![16 * (fwd d r).val, 256 * h.val] := by
  revert d h r; decide +kernel
theorem aOff_inb (d : Dev nD) (h : Fin 2) (r : Fin 31) : ∀ a, aOff d h r a + S16x256.size a ≤ S512x512.size a := by
  rw [aOff_eq]; intro a; have hf : (fwd d r).val < 32 := Nat.mod_lt _ (by decide)
  have := h.isLt
  fin_cases a <;> simp [S16x256, S512x512] <;> omega
theorem aOff_words (d : Dev nD) (h : Fin 2) (r : Fin 31) :
    (Rect.unit (s := S512x512) (aOff d h r) S16x256.size (aOff_inb d h r)).WholeWords (EltTy.packing .bf16) := by
  revert d h r
  intro d h
  match h with
  | 0 => exact fun r => k0_off4_wordsbf16 d r
  | 1 => exact fun r => k0_off5_wordsbf16 d r
/-- The piece of the partial product sent to the partner at distance `1 + r`, a half of its columns. -/
abbrev aV (d : Dev nD) (h : Fin 2) (r : Fin 31) : Memref sig .tc .vmem S16x256 .bf16 :=
  aM.slice (Rect.unit (s := S512x512) (aOff d h r) S16x256.size (aOff_inb d h r)) (fun _ => rfl)
theorem aV_words (d : Dev nD) (h : Fin 2) (r : Fin 31) : (aV d h r).view.WordExact :=
  (Memref.isWhole_whole _).wordExact_slice rfl _ (aOff_words d h r)

/-- A slot of an exchange buffer: row group `o`, a half of the columns. -/
abbrev sOff (o : ℕ) (h : Fin 2) : Fin 3 → Nat := ![o, 0, 256 * h.val]
theorem sOff_inb (o : Fin 32) (h : Fin 2) : ∀ a, sOff o.val h a + S1x16x256.size a ≤ S32x16x512.size a := by
  revert o h; decide +kernel
theorem sOff_words (o : Fin 32) (h : Fin 2) :
    (Rect.unit (s := S32x16x512) (sOff o.val h) S1x16x256.size (sOff_inb o h)).WholeWords (EltTy.packing .bf16) := by
  revert o h; decide +kernel
abbrev slotV (M : Memref sig .tc .vmem S32x16x512 .bf16) (o : Fin 32) (h : Fin 2) : Memref sig .tc .vmem S16x256 .bf16 :=
  (M.slice (Rect.unit (s := S32x16x512) (sOff o.val h) S1x16x256.size (sOff_inb o h)) (fun _ => rfl)).squeeze S16x256 squeezes_S1x16x256_S16x256

abbrev half (h : Fin 2) (a b : Fin 3 → Nat) : Fin 3 → Nat := if h = 0 then a else b
/-- The device's own row group of the gathered buffer, as the transfers address it, as the store addresses it, and the
    row group of the sender at distance `1 + r` behind. -/
def gOff (d : Dev nD) (h : Fin 2) : Fin 3 → Nat := half h (k0_off7 d) (k0_off9 d)
def gStOff (d : Dev nD) (h : Fin 2) : Fin 3 → Nat := half h (k0_off6 d) (k0_off8 d)
def gBkOff (d : Dev nD) (h : Fin 2) (r : Fin 31) : Fin 3 → Nat := half h (k0_off10 d (offW r)) (k0_off11 d (offW r))
/-- The device at distance `1 + r` behind. -/
def bwd (d : Dev nD) (r : Fin 31) : Dev nD := ⟨(d.val + (31 - r.val)) % 32, Nat.mod_lt _ (by decide)⟩
theorem gOff_eq (d : Dev nD) (h : Fin 2) : gOff d h = sOff d.val h := by revert d h; decide +kernel
theorem gStOff_eq (d : Dev nD) (h : Fin 2) : gStOff d h = sOff d.val h := by revert d h; decide +kernel
theorem gBkOff_eq (d : Dev nD) (h : Fin 2) (r : Fin 31) : gBkOff d h r = sOff (bwd d r).val h := by revert d h r; decide +kernel
theorem off_inb {f : Fin 3 → Nat} {o : Fin 32} {h : Fin 2} (e : f = sOff o.val h) : ∀ a, f a + S1x16x256.size a ≤ S32x16x512.size a := by
  subst e; exact sOff_inb o h
theorem off_words {f : Fin 3 → Nat} {o : Fin 32} {h : Fin 2} (e : f = sOff o.val h) :
    (Rect.unit (s := S32x16x512) f S1x16x256.size (off_inb e)).WholeWords (EltTy.packing .bf16) := by
  subst e; exact sOff_words o h
/-- A slot given by its printed offsets. -/
abbrev slotF (M : Memref sig .tc .vmem S32x16x512 .bf16) {f : Fin 3 → Nat} {o : Fin 32} {h : Fin 2} (e : f = sOff o.val h) :
    Memref sig .tc .vmem S16x256 .bf16 :=
  (M.slice (Rect.unit (s := S32x16x512) f S1x16x256.size (off_inb e)) (fun _ => rfl)).squeeze S16x256 squeezes_S1x16x256_S16x256
theorem slotF_eq (M : Memref sig .tc .vmem S32x16x512 .bf16) {f : Fin 3 → Nat} {o : Fin 32} {h : Fin 2} (e : f = sOff o.val h) :
    slotF M e = slotV M o h := by subst e; rfl
theorem slotF_words {M : Memref sig .tc .vmem S32x16x512 .bf16} (hM : M.IsWhole) {f : Fin 3 → Nat} {o : Fin 32} {h : Fin 2} (e : f = sOff o.val h) :
    (slotF M e).view.WordExact := (hM.wordExact_slice rfl _ (off_words e)).reshape _ _
theorem slotV_words {M : Memref sig .tc .vmem S32x16x512 .bf16} (hM : M.IsWhole) (o : Fin 32) (h : Fin 2) :
    (slotV M o h).view.WordExact := (hM.wordExact_slice rfl _ (sOff_words o h)).reshape _ _

/-- The device number the program computes for the partner at distance `1 + r`. -/
def devW (d : Dev nD) (r : Fin 31) : ℕ :=
  let me := Scalar.remsi (Scalar.divsi (Dev.word d) 1#32) 32#32
  let n := Scalar.select (Scalar.cmpi .eq 32#32 0#32) 1#32 32#32
  let a := Scalar.remsi (Scalar.addi me (offW r)) n
  let w := Scalar.select (Scalar.andi (Scalar.xori (Scalar.cmpi .slt a 0#32) (Scalar.cmpi .slt n 0#32)) (Scalar.cmpi .ne a 0#32)) (Scalar.addi a n) a
  (Scalar.addi 0#32 (Scalar.muli w 1#32)).toNat
theorem devW_eq (d : Dev nD) (r : Fin 31) : devW d r = (fwd d r).val := by revert d r; decide +kernel
theorem devW_lt (d : Dev nD) (r : Fin 31) : devW d r < nD := by rw [devW_eq]; exact (fwd d r).isLt
abbrev tgt (d : Dev nD) (r : Fin 31) : Dev nD := ⟨devW d r, devW_lt d r⟩
theorem tgt_eq (d : Dev nD) (r : Fin 31) : tgt d r = fwd d r := Fin.ext (devW_eq d r)

/-! ## The phases -/

abbrev PE (F : FTy → Type) [FloatOps F] := TpuEff nD τ sig (Elt F) Λ₀ .tc
abbrev PP (F : FTy → Type) [FloatOps F] := Prog (PE F) PUnit

/-- Run a step for every element of a list, then the rest. -/
def seqL {β : Type} (f : β → PP F) : List β → PP F → PP F
  | [], k => k
  | b :: l, k => f b >>= fun _ => seqL f l k

/-- The partners, farthest first, as the program visits them. -/
abbrev offs : List (Fin 31) :=
  [15, 14, 16, 13, 17, 12, 18, 11, 19, 10, 20, 9, 21, 8, 22, 7, 23, 6, 24, 5, 25, 4, 26, 3, 27, 2, 28, 1, 29, 0, 30]

def sigStep (d : Dev nD) (r : Fin 31) : PP F := semSignalWord (tgt d r) barS 1#32

def send1Step (d : Dev nD) (h : Fin 2) (r : Fin 31) : PP F :=
  Prog.lift (.enqueueDma (aV d h r) (.remote (Dev.tc (tgt d r)) (slotV rM (slot r) h) (.dma (s1S h r))) (.dma (r1S h r))
    (aV_words d h r) (slotV_words (Memref.isWhole_whole _) (slot r) h) ⟨⟨rfl, Or.inl rfl⟩, trivial⟩)

theorem a0_inb (h : Fin 2) : ∀ a, (![0, 256 * h.val] : Fin 2 → Nat) a + S16x256.size a ≤ S512x512.size a := by revert h; decide +kernel
theorem a0_words (h : Fin 2) : (Rect.unit (s := S512x512) ![0, 256 * h.val] S16x256.size (a0_inb h)).WholeWords (EltTy.packing .bf16) := by
  revert h; decide +kernel
def recv1Step (h : Fin 2) (r : Fin 31) : PP F :=
  Prog.lift (.waitDma2 (r1S h r) (aM.slice (Rect.unit (s := S512x512) ![0, 256 * h.val] S16x256.size (a0_inb h)) (fun _ => rfl)) (slotV rM (slot r) h)
    ((Memref.isWhole_whole _).wordExact_slice rfl _ (a0_words h)) (slotV_words (Memref.isWhole_whole _) (slot r) h))

def send2Step (d : Dev nD) (h : Fin 2) (r : Fin 31) : PP F :=
  Prog.lift (.enqueueDma (slotF gM (gOff_eq d h)) (.remote (Dev.tc (tgt d r)) (slotF gM (gOff_eq d h)) (.dma (s2S h r))) (.dma (r2S h r))
    (slotF_words (Memref.isWhole_whole _) (gOff_eq d h)) (slotF_words (Memref.isWhole_whole _) (gOff_eq d h)) ⟨⟨rfl, Or.inl rfl⟩, trivial⟩)

def recv2Step (d : Dev nD) (h : Fin 2) (r : Fin 31) : PP F :=
  Prog.lift (.waitDma2 (r2S h r) (slotV gM 0 h) (slotF gM (gBkOff_eq d h r))
    (slotV_words (Memref.isWhole_whole _) 0 h) (slotF_words (Memref.isWhole_whole _) (gBkOff_eq d h r)))

def done1Step (d : Dev nD) (h : Fin 2) (r : Fin 31) : PP F :=
  Prog.lift (.waitDma2 (s1S h r) (slotV rM (slot r) h) (aV d h r)
    (slotV_words (Memref.isWhole_whole _) (slot r) h) (aV_words d h r))

def done2Step (d : Dev nD) (h : Fin 2) (r : Fin 31) : PP F :=
  Prog.lift (.waitDma2 (s2S h r) (slotF gM (gOff_eq d h)) (slotF gM (gOff_eq d h))
    (slotF_words (Memref.isWhole_whole _) (gOff_eq d h)) (slotF_words (Memref.isWhole_whole _) (gOff_eq d h)))

/-- The device's columns of `Wq` and rows of `Wo`. -/
abbrev wqV (d : Dev nD) : Memref sig .tc .hbm S512x256 .f32 :=
  wqM.slice (Rect.unit (s := S512x8192) (k0_off1 d) S512x256.size (k0_off1_inb d)) (fun _ => rfl)
abbrev woV (d : Dev nD) : Memref sig .tc .hbm S256x512 .f32 :=
  woM.slice (Rect.unit (s := S8192x512) (k0_off2 d) S256x512.size (k0_off2_inb d)) (fun _ => rfl)

theorem kv_inb (b : Fin 2) (i : Fin 4) : ∀ a, (![b.val, 0, i.val, 0] : Fin 4 → Nat) a + S1x256x1x64.size a ≤ S2x256x4x64.size a := by
  revert b i; decide +kernel
abbrev kvR (b : Fin 2) (i : Fin 4) : Rect S2x256x4x64 := Rect.unit (s := S2x256x4x64) ![b.val, 0, i.val, 0] S1x256x1x64.size (kv_inb b i)
/-- Load of one head of one batch of keys or values. -/
def kvLoad (M : Memref sig .tc .vmem S2x256x4x64 .f32) (b : Fin 2) (i : Fin 4) : Prog (PE F) (Vec F S1x256x1x64 .f32) :=
  Prog.lift (.load M (kvR b i).toLoadRect (View.loadsAt_vmem h_S1x256x1x64))

/-- Attention of the device's four heads in both batches, from the device's inputs: the context rows. -/
def ctxOf (x : Vec F S2x256x512 .f32) (wq : Vec F S512x256 .f32) (k v : Fin 2 → Fin 4 → Vec F S1x256x1x64 .f32) : FVec F S512x256 .bf16 :=
  let q := k0_pay2 (k0_pay1 x) wq
  let row : IVec S256x256 32 := iota .tc S256x256 32 [0] iota_S256x256_d0_w32
  let w1 := Scalar.extui (Scalar.cmpi .sgt 64#32 0#32)
  let w2 := Scalar.extui (Scalar.cmpi .slt 64#32 0#32)
  let mask := k0_pay6 row k0_pay3 64#32 k0_pay4 k0_pay5 w1 w2
  k0_pay22 q mask
    (k0_pay13 mask (k0_pay7 q row k0_pay3 64#32 k0_pay4 k0_pay5 w1 w2 (k 0 0) (v 0 0))
      (k0_pay10 mask (k0_pay8 q) (k0_pay9 (k 0 1)) (v 0 1)) (k0_pay11 q mask (k 0 2) (v 0 2)) (k0_pay12 q) (k 0 3) (v 0 3))
    (k0_pay17 (k0_pay14 (v 1 0)) (k0_pay15 q mask (k 1 0)) (k0_pay16 q mask (k 1 0)))
    (k0_pay18 q mask (k 1 1) (v 1 1)) (k0_pay19 q) (k0_pay20 (k 1 2)) (k0_pay21 (v 1 2)) (k 1 3) (v 1 3)

/-- Wait for the device's columns of `Wq`, load the operands, go on with the context rows. -/
def attend (d : Dev nD) (k : FVec F S512x256 .bf16 → PP F) : PP F := do
  Prog.lift (.waitDma2 (locS 0) (wqV d) qM (View.wordExact_bits rfl) (Memref.isWhole_whole _).wordExact)
  let x ← Prog.lift (.load xM (Rect.unit (s := S2x256x512) ![0, 0, 0] S2x256x512.size inb_S2x256x512_S2x256x512_0_0_0).toLoadRect (View.loadsAt_vmem h_S2x256x512))
  let wq ← Prog.lift (.load qM (Rect.unit (s := S512x256) ![0, 0] S512x256.size inb_S512x256_S512x256_0_0).toLoadRect (View.loadsAt_vmem h_S512x256))
  let k00 ← kvLoad kM 0 0
  let v00 ← kvLoad vM 0 0
  let k01 ← kvLoad kM 0 1
  let v01 ← kvLoad vM 0 1
  let k02 ← kvLoad kM 0 2
  let v02 ← kvLoad vM 0 2
  let k03 ← kvLoad kM 0 3
  let v03 ← kvLoad vM 0 3
  let k10 ← kvLoad kM 1 0
  let v10 ← kvLoad vM 1 0
  let k11 ← kvLoad kM 1 1
  let v11 ← kvLoad vM 1 1
  let k12 ← kvLoad kM 1 2
  let v12 ← kvLoad vM 1 2
  let k13 ← kvLoad kM 1 3
  let v13 ← kvLoad vM 1 3
  k (ctxOf x wq (fun b i => match b, i with | 0, 0 => k00 | 0, 1 => k01 | 0, 2 => k02 | 0, 3 => k03 | 1, 0 => k10 | 1, 1 => k11 | 1, 2 => k12 | 1, 3 => k13)
    (fun b i => match b, i with | 0, 0 => v00 | 0, 1 => v01 | 0, 2 => v02 | 0, 3 => v03 | 1, 0 => v10 | 1, 1 => v11 | 1, 2 => v12 | 1, 3 => v13))

abbrev rAll : Rect S512x512 := Rect.unit (s := S512x512) ![0, 0] S512x512.size inb_S512x512_S512x512_0_0
abbrev rOwn : Rect S32x16x512 := Rect.unit (s := S32x16x512) ![0, 0, 0] S1x16x512.size inb_S32x16x512_S1x16x512_0_0_0

/-- Wait for the device's rows of `Wo`, store the partial product and the piece of it that stays; wait until every
    partner has entered. -/
def product (d : Dev nD) (ctx : FVec F S512x256 .bf16) (k : PP F) : PP F := do
  Prog.lift (.waitDma2 (locS 1) (woV d) pM (View.wordExact_bits rfl) (Memref.isWhole_whole _).wordExact)
  let wo ← Prog.lift (.load pM (Rect.unit (s := S256x512) ![0, 0] S256x512.size inb_S256x512_S256x512_0_0).toLoadRect (View.loadsAt_vmem h_S256x512))
  let _ ← Prog.lift (.load aM rAll.toLoadRect (View.loadsAt_vmem h_S512x512))
  Prog.lift (.store aM rAll (k0_pay23 ctx wo) Finset.univ
    (View.stores_vmem h_S512x512 ((Memref.isWhole_whole _).storeExact_slice rfl _ packedbf16_S512x512_S512x512_0_0) (fun _ => rfl)) (.inl rfl))
  let piece ← Prog.lift (.load aM (Rect.unit (s := S512x512) (k0_off3 d) S16x512.size (k0_off3_inb d)).toLoadRect (View.loadsAt_vmem h_S16x512))
  let _ ← Prog.lift (.load rM rOwn.toLoadRect (View.loadsAt_vmem h_S1x16x512))
  Prog.lift (.store rM rOwn (k0_pay24 piece) Finset.univ
    (View.stores_vmem h_S1x16x512 ((Memref.isWhole_whole _).storeExact_slice rfl _ packedbf16_S32x16x512_S1x16x512_0_0_0) (fun _ => rfl)) (.inl rfl))
  semWaitWord barS 31#32
  k

theorem hR_inb (h : Fin 2) : ∀ a, (![0, 0, 256 * h.val] : Fin 3 → Nat) a + S32x16x256.size a ≤ S32x16x512.size a := by revert h; decide +kernel
abbrev hR (h : Fin 2) : Rect S32x16x512 := Rect.unit (s := S32x16x512) ![0, 0, 256 * h.val] S32x16x256.size (hR_inb h)
abbrev gR (d : Dev nD) (h : Fin 2) : Rect S32x16x512 := Rect.unit (s := S32x16x512) (gStOff d h) S1x16x256.size (off_inb (gStOff_eq d h))
theorem gR_packed (d : Dev nD) (h : Fin 2) : (gR d h).PackedRows (EltTy.packing .bf16) := by
  revert d h
  intro d h
  match h with
  | 0 => exact k0_off6_packedbf16 d
  | 1 => exact k0_off8_packedbf16 d
/-- The reduction of a half: the sum over the 32 slots. -/
def redOf (h : Fin 2) (v : Vec F S32x16x256 .bf16) : FVec F S1x16x256 .bf16 := if h = 0 then k0_pay25 v else k0_pay26 v

/-- One half of the exchange: receive its pieces, reduce them, send the reduced rows. -/
def reduceHalf (d : Dev nD) (h : Fin 2) (k : PP F) : PP F :=
  seqL (recv1Step h) offs (do
    let v ← Prog.lift (.load rM (hR h).toLoadRect (View.loadsAt_vmem h_S32x16x256))
    let _ ← Prog.lift (.load gM (gR d h).toLoadRect (View.loadsAt_vmem h_S1x16x256))
    Prog.lift (.store gM (gR d h) (redOf h v) Finset.univ
      (View.stores_vmem h_S1x16x256 ((Memref.isWhole_whole _).storeExact_slice rfl _ (gR_packed d h)) (fun _ => rfl)) (.inl rfl))
    seqL (send2Step d h) offs k)

/-- The gathered rows to the output. -/
def writeOut (k : PP F) : PP F := do
  let v ← Prog.lift (.load gM (Rect.unit (s := S32x16x512) ![0, 0, 0] S32x16x512.size inb_S32x16x512_S32x16x512_0_0_0).toLoadRect (View.loadsAt_vmem h_S32x16x512))
  let _ ← Prog.lift (.load oM (Rect.unit (s := S2x256x512) ![0, 0, 0] S2x256x512.size inb_S2x256x512_S2x256x512_0_0_0).toLoadRect (View.loadsAt_vmem h_S2x256x512))
  Prog.lift (.store oM (Rect.unit (s := S2x256x512) ![0, 0, 0] S2x256x512.size inb_S2x256x512_S2x256x512_0_0_0) (k0_pay27 v) Finset.univ
    (View.stores_vmem_bits_univ h_S2x256x512 rfl) (.inl rfl))
  k

def phases (d : Dev nD) : PP F := do
  Prog.lift (.enqueueDma (wqV d) (.here qM) (.dma (locS 0)) (View.wordExact_bits rfl) (Memref.isWhole_whole _).wordExact ⟨Or.inl rfl, trivial⟩)
  Prog.lift (.enqueueDma (woV d) (.here pM) (.dma (locS 1)) (View.wordExact_bits rfl) (Memref.isWhole_whole _).wordExact ⟨Or.inl rfl, trivial⟩)
  seqL (sigStep d) offs <| attend d fun ctx => product d ctx <|
    seqL (send1Step d 0) offs <| seqL (send1Step d 1) offs <|
    reduceHalf d 0 <| reduceHalf d 1 <|
    seqL (recv2Step d 0) offs <| seqL (recv2Step d 1) offs <|
    writeOut <|
    seqL (done1Step d 0) offs <| seqL (done1Step d 1) offs <|
    seqL (done2Step d 0) offs <| seqL (done2Step d 1) offs <| pure ⟨⟩

/-- The body: the device reads its number, then runs the phases. -/
def prog : PP F := Prog.lift .deviceId >>= fun d => phases d

end Cert.KernelIdeal.Pf

end
-- ==== Proof.Protocol.lean ====
/-
The exchange's cells, contents and schedule.

Every device has a barrier cell with one duty per partner, two cells for its local copies and, for each of the 31
distances and each half of the columns, a sending and a receiving cell in each of the two exchanges. All of them run
for one round. A duty's payload is what the waiter of the cell may use afterwards: at the barrier the places at a partner that
the device is going to write, at a receiving cell the landed piece, at a sending cell the piece lent to the transfer.
-/
module

public import proofs.«01_k».proof.Proof.Steps
public import Idealize.ShloMosaic.Lib.Tactic
public import Idealize.ShloMosaic.Lib.ShareLeaves
public import Idealize.ShloMosaic.Lib.ValueIdx
public import Idealize.ShloMosaic.Lib.ValueLayout

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

/-! ## Algebra -/

abbrev UB : Type := URounds (GSem nD τ sig) (Fin 31)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Partners -/

/-- The distance of the way back: `32 - (1 + r)` is `1 + rv r`. -/
def rv (r : Fin 31) : Fin 31 := ⟨30 - r.val, by omega⟩
theorem rv_rv (r : Fin 31) : rv (rv r) = r := by revert r; decide
theorem fwd_rv (c : Dev nD) (r : Fin 31) : fwd (fwd c r) (rv r) = c := by revert c r; decide +kernel
theorem bwd_fwd (c : Dev nD) (r : Fin 31) : bwd (fwd c r) r = c := by revert c r; decide +kernel
theorem fwd_bwd (c : Dev nD) (r : Fin 31) : fwd (bwd c r) r = c := by revert c r; decide +kernel
theorem fwd_ne (c : Dev nD) (r : Fin 31) : fwd c r ≠ c := by revert c r; decide +kernel
theorem bwd_eq (c : Dev nD) (r : Fin 31) : bwd c r = fwd c (rv r) := by revert c r; decide +kernel
/-- The device `o` behind. -/
def back (c : Dev nD) (o : Fin 32) : Dev nD := ⟨(c.val + (32 - o.val)) % 32, Nat.mod_lt _ (by decide)⟩
theorem back_slot (c : Dev nD) (r : Fin 31) : back c (slot r) = bwd c r := by revert c r; decide +kernel
theorem back_zero (c : Dev nD) : back c 0 = c := by revert c; decide +kernel

/-! ## Cells -/

/-- A device's cells: 0 the barrier, 1 and 2 the local copies; a transfer cell by exchange and side, half, distance. -/
abbrev CI : Type := Fin 3 ⊕ (Fin 4 × Fin 2 × Fin 31)
def xS (k : Fin 4) (h : Fin 2) (r : Fin 31) : DmaSem sig :=
  match k with | 0 => s1S h r | 1 => r1S h r | 2 => s2S h r | 3 => r2S h r
abbrev csem : CI → SemLoc sig
  | .inl 0 => .reg barS
  | .inl 1 => .dma (locS 0)
  | .inl 2 => .dma (locS 1)
  | .inr (k, h, r) => .dma (xS k h r)
/-- The semaphores of distance 0, which the program does not use. -/
def idleS (k : Fin 4) (h : Fin 2) : DmaSem sig :=
  match k with | 0 => semAt cc0_scratch6 h 0 | 1 => semAt cc0_scratch7 h 0 | 2 => semAt cc0_scratch8 h 0 | 3 => semAt cc0_scratch9 h 0
/-- A semaphore's place among the cells, read off its number. -/
def cellIx : SemLoc sig → Option CI
  | .reg _ => some (.inl 0)
  | .dma q =>
    if q.val < 4 then none else if q.val = 4 then some (.inl 1) else if q.val = 5 then some (.inl 2)
    else if h0 : (q.val - 6) % 32 = 0 then none
    else some (.inr (⟨(q.val - 6) / 64 % 4, Nat.mod_lt _ (by decide)⟩, ⟨(q.val - 6) / 32 % 2, Nat.mod_lt _ (by decide)⟩,
      ⟨(q.val - 6) % 32 - 1, by have := Nat.mod_lt (q.val - 6) (show 0 < 32 by decide); omega⟩))
theorem cellIx_inl (i : Fin 3) : cellIx (csem (.inl i)) = some (.inl i) := by revert i; decide +kernel
theorem cellIx_inr (k : Fin 4) (h : Fin 2) (r : Fin 31) : cellIx (csem (.inr (k, h, r))) = some (.inr (k, h, r)) := by
  revert k h r; decide +kernel
theorem cellIx_csem (i : CI) : cellIx (csem i) = some i := by
  rcases i with i | ⟨k, h, r⟩
  · exact cellIx_inl i
  · exact cellIx_inr k h r
theorem csem_inj : Function.Injective csem := fun a b h => by
  have := cellIx_csem a; rw [h, cellIx_csem] at this; exact (Option.some.inj this).symm

abbrev cell (c : Dev nD) (i : CI) : GSem nD τ sig := ((c : Thread nD τ), csem i)
abbrev barCell (c : Dev nD) : GSem nD τ sig := cell c (.inl 0)
abbrev xCell (c : Dev nD) (k : Fin 4) (h : Fin 2) (r : Fin 31) : GSem nD τ sig := cell c (.inr (k, h, r))

/-! ## Contents -/

abbrev rX : Rect S2x256x512 := Rect.unit (s := S2x256x512) ![0, 0, 0] S2x256x512.size inb_S2x256x512_S2x256x512_0_0_0
abbrev rQ : Rect S512x256 := Rect.unit (s := S512x256) ![0, 0] S512x256.size inb_S512x256_S512x256_0_0
abbrev rP : Rect S256x512 := Rect.unit (s := S256x512) ![0, 0] S256x512.size inb_S256x512_S256x512_0_0
abbrev rG : Rect S32x16x512 := Rect.unit (s := S32x16x512) ![0, 0, 0] S32x16x512.size inb_S32x16x512_S32x16x512_0_0_0

def xC (c : Dev nD) : (cc0_stg0_0 : Ref sig .tc).ty.Contents (Elt F) := (win0_0.blk (0 : Fin 1)).view.read (Elt F) (m ((c : Thread nD τ).loc main_arg0))
def kC (c : Dev nD) : (cc0_stg1_0 : Ref sig .tc).ty.Contents (Elt F) := (win0_1.blk (0 : Fin 1)).view.read (Elt F) (m ((c : Thread nD τ).loc main_arg2))
def vC (c : Dev nD) : (cc0_stg2_0 : Ref sig .tc).ty.Contents (Elt F) := (win0_2.blk (0 : Fin 1)).view.read (Elt F) (m ((c : Thread nD τ).loc main_arg3))
/-- The device's columns of `Wq` and rows of `Wo`. -/
def wqC (c : Dev nD) : (cc0_scratch0 : Ref sig .tc).ty.Contents (Elt F) := (wqV c).view.read (Elt F) (m ((c : Thread nD τ).loc main_arg1))
def woC (c : Dev nD) : (cc0_scratch1 : Ref sig .tc).ty.Contents (Elt F) := (woV c).view.read (Elt F) (m ((c : Thread nD τ).loc main_arg4))
/-- The device's context rows, and its partial product. -/
def ctxC (c : Dev nD) : FVec F S512x256 .bf16 :=
  ctxOf (xM.view.readAt (Elt F) rX.toLoadRect (xC m c)) (qM.view.readAt (Elt F) rQ.toLoadRect (wqC m c))
    (fun b i => kM.view.readAt (Elt F) (kvR b i).toLoadRect (kC m c)) (fun b i => vM.view.readAt (Elt F) (kvR b i).toLoadRect (vC m c))
def prtC (c : Dev nD) : (cc0_scratch2 : Ref sig .tc).ty.Contents (Elt F) :=
  k0_pay23 (ctxC m c) (pM.view.readAt (Elt F) rP.toLoadRect (woC m c))

theorem grp_lt (c : Dev nD) (i : Fin 16) : 16 * c.val + i.val < 512 := by have h : c.val < 32 := c.isLt; omega
/-- The pieces received by a device: in slot `o` its row group of the partial product of the device `o` behind. -/
def rcvC (c : Dev nD) : (cc0_scratch3 : Ref sig .tc).ty.Contents (Elt F) :=
  fun i : S32x16x512.Idx => prtC m (back c (i 0)) (ix2 (⟨16 * c.val + (i 1).val, grp_lt c (i 1)⟩ : Fin 512) (⟨(i 2).val, (i 2).isLt⟩ : Fin 512))

/-- The half of the columns a column is in. -/
def hOf (j : Fin 512) : Fin 2 := ⟨j.val / 256, by omega⟩
theorem hOf_sub (j : Fin 512) : j.val - 256 * (hOf j).val < 256 := by unfold hOf; simp only; omega
/-- The reduced rows of all devices. -/
def gatC : (cc0_scratch4 : Ref sig .tc).ty.Contents (Elt F) :=
  fun i : S32x16x512.Idx => redOf (hOf (i 2)) (rM.view.readAt (Elt F) (hR (hOf (i 2))).toLoadRect (rcvC m (i 0)))
    (ix3 (0 : Fin 1) (⟨(i 1).val, (i 1).isLt⟩ : Fin 16) (⟨(i 2).val - 256 * (hOf (i 2)).val, hOf_sub (i 2)⟩ : Fin 256))
/-- The output block. -/
def outC : (cc0_stg3_0 : Ref sig .tc).ty.Contents (Elt F) := k0_pay27 (gM.view.readAt (Elt F) rG.toLoadRect (gatC m))

/-! ## Pieces held -/

def rPts (c : Dev nD) (o : Fin 32) (h : Fin 2) (f : (cc0_scratch3 : Ref sig .tc).ty.Contents (Elt F)) : sProp 𝕄 :=
  (slotV rM o h).view.loc (c : Thread nD τ) ↦[(slotV rM o h).view.set]{fullShare} f
def gPts (c : Dev nD) (o : Fin 32) (h : Fin 2) (q : PosShare TreeShare) (f : (cc0_scratch4 : Ref sig .tc).ty.Contents (Elt F)) : sProp 𝕄 :=
  (slotV gM o h).view.loc (c : Thread nD τ) ↦[(slotV gM o h).view.set]{q} f
def aPts (c : Dev nD) (h : Fin 2) (r : Fin 31) (f : (cc0_scratch2 : Ref sig .tc).ty.Contents (Elt F)) : sProp 𝕄 :=
  (aV c h r).view.loc (c : Thread nD τ) ↦[(aV c h r).view.set]{fullShare} f
def wqPts (c : Dev nD) : sProp 𝕄 := (wqV c).view.loc (c : Thread nD τ) ↦[(wqV c).view.set]{fullShare} (m ((c : Thread nD τ).loc main_arg1))
def woPts (c : Dev nD) : sProp 𝕄 := (woV c).view.loc (c : Thread nD τ) ↦[(woV c).view.set]{fullShare} (m ((c : Thread nD τ).loc main_arg4))
def qPts (c : Dev nD) (f : (cc0_scratch0 : Ref sig .tc).ty.Contents (Elt F)) : sProp 𝕄 :=
  qM.view.loc (c : Thread nD τ) ↦[qM.view.set]{fullShare} f
def pPts (c : Dev nD) (f : (cc0_scratch1 : Ref sig .tc).ty.Contents (Elt F)) : sProp 𝕄 :=
  pM.view.loc (c : Thread nD τ) ↦[pM.view.set]{fullShare} f

/-- A device as a row group. -/
abbrev grp (c : Dev nD) : Fin 32 := ⟨c.val, c.isLt⟩
/-- One of 32 equal shares. -/
abbrev part (i : Fin 32) : PosShare TreeShare := ShareLeaves.leaf 5 fullShare i

section Storable
omit [FloatOps F]
instance rPts_storable (c : Dev nD) (o h) (f) : BI.Storable (upEmb : UEmb _ 𝕄) (rPts (F := F) c o h f) := by unfold rPts; infer_instance
instance gPts_storable (c : Dev nD) (o h q) (f) : BI.Storable (upEmb : UEmb _ 𝕄) (gPts (F := F) c o h q f) := by unfold gPts; infer_instance
instance aPts_storable (c : Dev nD) (h r) (f) : BI.Storable (upEmb : UEmb _ 𝕄) (aPts (F := F) c h r f) := by unfold aPts; infer_instance
instance wqPts_storable (c : Dev nD) : BI.Storable (upEmb : UEmb _ 𝕄) (wqPts (F := F) m c) := by unfold wqPts; infer_instance
instance woPts_storable (c : Dev nD) : BI.Storable (upEmb : UEmb _ 𝕄) (woPts (F := F) m c) := by unfold woPts; infer_instance
instance qPts_storable (c : Dev nD) (f) : BI.Storable (upEmb : UEmb _ 𝕄) (qPts (F := F) c f) := by unfold qPts; infer_instance
instance pPts_storable (c : Dev nD) (f) : BI.Storable (upEmb : UEmb _ 𝕄) (pPts (F := F) c f) := by unfold pPts; infer_instance
end Storable

/-! ## The schedule -/

/-- What the partner at distance `1 + r` hands over at the barrier: there, the slot the device's piece lands in and the device's row
    group of the gathered buffer, both halves of each. -/
def barPay (c : Dev nD) (r : Fin 31) : sProp 𝕄 :=
  iprop(((∃ f, rPts (fwd c r) (slot r) 0 f) ∗ (∃ f, rPts (fwd c r) (slot r) 1 f))
    ∗ ((∃ f, gPts (fwd c r) (grp c) 0 fullShare f) ∗ (∃ f, gPts (fwd c r) (grp c) 1 fullShare f)))

def pay (c : Dev nD) : CI → Fin 31 → sProp 𝕄
  | .inl 0, r => barPay c r
  | .inl 1, _ => iprop(qPts c (wqC m c) ∗ wqPts m c)
  | .inl 2, _ => iprop(pPts c (woC m c) ∗ woPts m c)
  | .inr (0, h, r), _ => aPts c h r (prtC m c)
  | .inr (1, h, r), _ => rPts c (slot r) h (rcvC m c)
  | .inr (2, h, r), _ => gPts c (grp c) h (part (slot r)) (gatC m)
  | .inr (3, h, r), _ => gPts c (grp (bwd c r)) h fullShare (gatC m)

instance pay_storable (c : Dev nD) : ∀ (i : CI) (d : Fin 31), BI.Storable (upEmb : UEmb _ 𝕄) (pay (F := F) m c i d)
  | .inl 0, r => by unfold pay barPay; infer_instance
  | .inl 1, _ => by unfold pay; infer_instance
  | .inl 2, _ => by unfold pay; infer_instance
  | .inr (0, h, r), _ => by unfold pay; infer_instance
  | .inr (1, h, r), _ => by unfold pay; infer_instance
  | .inr (2, h, r), _ => by unfold pay; infer_instance
  | .inr (3, h, r), _ => by unfold pay; infer_instance

/-- The credit of a transferred piece, and of the two local copies. -/
abbrev N : ℕ := (slotV rM 0 0).view.dmaCredit
abbrev Nq : ℕ := qM.view.dmaCredit
abbrev Np : ℕ := pM.view.dmaCredit
def duty : CI → Finset (Fin 31) | .inl 0 => Finset.univ | _ => {0}
def amt : CI → ℕ | .inl 0 => 1 | .inl 1 => Nq | .inl 2 => Np | .inr _ => N
theorem amt_pos (i : CI) : 0 < amt i := by
  rcases i with i | x
  · match i with
    | 0 => exact Nat.one_pos
    | 1 => exact View.dmaCredit_pos _ (by decide)
    | 2 => exact View.dmaCredit_pos _ (by decide)
  · exact View.dmaCredit_pos _ (by decide)

def dutiesAt (g : GSem nD τ sig) (r : ℕ) : Finset (Fin 31) :=
  if r = 0 ∧ g.1.2 = .tc then (match cellIx g.2 with | some i => duty i | none => ∅) else ∅

def Rd : Rounds.Schedule (GSem nD τ sig) (Fin 31) 𝕄 where
  duties := dutiesAt
  unitless _ := False
  amount g _ _ := match cellIx g.2 with | some i => amt i | none => 1
  payload g _ d := match cellIx g.2 with | some i => pay m g.1.1 i d | none => iprop(emp)
  amount_pos g _ _ _ := by
    cases h : cellIx g.2 with
    | none => exact Nat.one_pos
    | some i => exact amt_pos i

instance Rd_payload_storable (g : GSem nD τ sig) (r : ℕ) (d : Fin 31) :
    BI.Storable (upEmb : UEmb _ 𝕄) ((Rd (F := F) m).payload g r d) := by
  show BI.Storable upEmb (match cellIx g.2 with | some i => pay m g.1.1 i d | none => iprop(emp))
  cases cellIx g.2 <;> infer_instance

theorem duties_cell (c : Dev nD) (i : CI) : (Rd (F := F) m).duties (cell c i) 0 = duty i := by
  show dutiesAt (cell c i) 0 = duty i
  unfold dutiesAt
  rw [if_pos ⟨rfl, rfl⟩, cellIx_csem]
theorem duties_later (g : GSem nD τ sig) : ∀ r, 1 ≤ r → (Rd (F := F) m).duties g r = ∅ := fun r hr => if_neg fun h => by omega
theorem amount_cell (c : Dev nD) (i : CI) (r : ℕ) (d : Fin 31) : (Rd (F := F) m).amount (cell c i) r d = amt i := by
  show (match cellIx (csem i) with | some i => amt i | none => 1) = _
  rw [cellIx_csem]
theorem payload_cell (c : Dev nD) (i : CI) (r : ℕ) (d : Fin 31) : (Rd (F := F) m).payload (cell c i) r d = pay m c i d := by
  show (match cellIx (csem i) with | some i => pay m c i d | none => iprop(emp)) = _
  rw [cellIx_csem]
theorem expect_cell (c : Dev nD) (i : CI) : (Rd (F := F) m).expect (cell c i) 0 = (duty i).card * amt i := by
  unfold Schedule.expect Schedule.amountOf
  rw [duties_cell, Finset.sum_congr rfl fun d _ => amount_cell m c i 0 d, Finset.sum_const, smul_eq_mul]
theorem rest_cell (c : Dev nD) (i : CI) :
    bigSep ((Rd (F := F) m).duties (cell c i) 0 \ ∅) (fun d => (Rd (F := F) m).payload (cell c i) 0 d) = bigSep (duty i) (pay m c i) := by
  rw [Finset.sdiff_empty, duties_cell]
  exact bigSep_congr fun d _ => payload_cell m c i 0 d
theorem rest_one (c : Dev nD) (i : CI) (hi : duty i = {0}) :
    bigSep ((Rd (F := F) m).duties (cell c i) 0 \ ∅) (fun d => (Rd (F := F) m).payload (cell c i) 0 d) = pay m c i 0 := by
  rw [rest_cell, hi, bigSep_singleton]
theorem expect_one (c : Dev nD) (i : CI) (hi : duty i = {0}) : (Rd (F := F) m).expect (cell c i) 0 = amt i := by
  rw [expect_cell, hi, Finset.card_singleton, Nat.one_mul]

/-! ## Levels and what a device owes at launch -/

/-- One unit to every partner's barrier cell, then a piece's credit to a receiving cell of every partner, in program
    order: the order in which the debts are paid. -/
def rem (f : Fin 31 → CellTallies nD τ sig Unit) (O : CellTallies nD τ sig Unit) : List (Fin 31) → CellTallies nD τ sig Unit
  | [] => O
  | r :: l => rem f O l + f r
def barOwe (c : Dev nD) (r : Fin 31) : CellTallies nD τ sig Unit := tallyAt (barCell (fwd c r)) () 1
def xOwe (c : Dev nD) (k : Fin 4) (h : Fin 2) (r : Fin 31) : CellTallies nD τ sig Unit := tallyAt (xCell (fwd c r) k h r) () N
def owe31 (c : Dev nD) : CellTallies nD τ sig Unit := rem (xOwe c 3 1) 0 offs
def owe30 (c : Dev nD) : CellTallies nD τ sig Unit := rem (xOwe c 3 0) (owe31 c) offs
def owe11 (c : Dev nD) : CellTallies nD τ sig Unit := rem (xOwe c 1 1) (owe30 c) offs
def owe10 (c : Dev nD) : CellTallies nD τ sig Unit := rem (xOwe c 1 0) (owe11 c) offs
def O₀ (c : Dev nD) : CellTallies nD τ sig Unit := rem (barOwe c) (owe10 c) offs

def L (g : GSem nD τ sig) : Finset Unit := if g.1.2 = .tc then {()} else ∅
/-- Barrier cells at 1, receiving cells at 2 and 3, everything else at 0. -/
def lvI : Option CI → ℕ | some (.inl 0) => 1 | some (.inr (1, _, _)) => 2 | some (.inr (3, _, _)) => 3 | _ => 0
def lv (g : GSem nD τ sig) (_ : Unit) : ℕ := lvI (cellIx g.2)
theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (i : CI) (u : Unit) : lv (cell c i) u = lvI (some i) := by unfold lv; rw [cellIx_csem]

/-- Debts only at cells of level above `n`. -/
def Above (n : ℕ) (O : CellTallies nD τ sig Unit) : Prop := ∀ g u, 0 < O g u → L g = {()} ∧ n < lv g u
theorem above_zero (n : ℕ) : Above n 0 := fun g u h => absurd h (Nat.lt_irrefl 0)
theorem above_add {n : ℕ} {O D : CellTallies nD τ sig Unit} (h : Above n O) (h' : Above n D) : Above n (O + D) := fun g u hg => by
  rw [Pi.add_apply, Finsupp.add_apply] at hg
  by_cases h0 : 0 < O g u
  · exact h g u h0
  · exact h' g u (by omega)
theorem above_tally {n : ℕ} (c : Dev nD) (i : CI) (k : ℕ) (h : n < lvI (some i)) : Above n (tallyAt (cell c i) () k) := fun g u hg => by
  obtain ⟨rfl, -⟩ := Pipeline.tallyAt_pos hg
  exact ⟨L_tc _ _, by rw [lv_cell]; exact h⟩
theorem above_rem {n : ℕ} {f : Fin 31 → CellTallies nD τ sig Unit} {O : CellTallies nD τ sig Unit} (hf : ∀ r, Above n (f r)) (hO : Above n O) :
    ∀ l, Above n (rem f O l)
  | [] => hO
  | r :: l => above_add (above_rem hf hO l) (hf r)
theorem above31 (c : Dev nD) : Above 2 (owe31 c) := above_rem (fun r => above_tally _ _ _ (Nat.lt_succ_self 2)) (above_zero _) _
theorem above30 (c : Dev nD) : Above 2 (owe30 c) := above_rem (fun r => above_tally _ _ _ (Nat.lt_succ_self 2)) (above31 c) _
theorem Above.mono {n n' : ℕ} {O : CellTallies nD τ sig Unit} (h : n' ≤ n) (hO : Above n O) : Above n' O :=
  fun g u hg => ⟨(hO g u hg).1, lt_of_le_of_lt h (hO g u hg).2⟩
theorem above11 (c : Dev nD) : Above 1 (owe11 c) := above_rem (fun r => above_tally _ _ _ (Nat.lt_succ_self 1)) ((above30 c).mono (by decide)) _
theorem above10 (c : Dev nD) : Above 1 (owe10 c) := above_rem (fun r => above_tally _ _ _ (Nat.lt_succ_self 1)) (above11 c) _
theorem above0 (c : Dev nD) : Above 0 (O₀ c) := above_rem (fun r => above_tally _ _ _ (by decide)) ((above10 c).mono (by decide)) _

omit [FloatOps F] in
/-- A device may wait on a cell while its debts lie above the cell's level. -/
theorem mayWait (c : Dev nD) (sm : SemLoc sig) (n : ℕ) (hn : lvI (cellIx sm) ≤ n) {O : CellTallies nD τ sig Unit} (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by rw [(hO g u hg).1]; exact Finset.mem_singleton_self _)
    (fun p hp => by rw [Finset.mem_singleton.mp hp]; exact hn)
    (fun g u hg => (hO g u hg).2)

end Cert.KernelIdeal.Pf
-- ==== Proof.Geometry.lean ====
/-
Where the pieces lie. A slot of an exchange buffer is a row group and a half of the columns; the slots are disjoint and
make up the buffer, and the pieces of the partial product do the same. What a transfer or a store writes into its place
is the contents the schedule names there.
-/
module

public import proofs.«01_k».proof.Proof.Protocol
public import Idealize.ShloMosaic.Lib.Ring

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

/-! ## Sets -/

theorem forall3 {P : Fin 3 → Prop} : (∀ a, P a) ↔ P 0 ∧ P 1 ∧ P 2 := by
  rw [Fin.forall_fin_succ, Fin.forall_fin_two]; rfl
theorem forall2 {P : Fin 2 → Prop} : (∀ a, P a) ↔ P 0 ∧ P 1 := Fin.forall_fin_two

def slotSet (o : Fin 32) (h : Fin 2) : Finset S32x16x512.Idx := Finset.univ.filter fun i => (i 0).val = o.val ∧ (i 2).val / 256 = h.val
theorem mem_slotSet {o : Fin 32} {h : Fin 2} {i : S32x16x512.Idx} : i ∈ slotSet o h ↔ (i 0).val = o.val ∧ (i 2).val / 256 = h.val := by
  unfold slotSet; rw [Finset.mem_filter]; exact and_iff_right (Finset.mem_univ _)

theorem mem_slotRect (o : Fin 32) (h : Fin 2) (i : S32x16x512.Idx) :
    i ∈ (Rect.unit (s := S32x16x512) (sOff o.val h) S1x16x256.size (sOff_inb o h)).set ↔ i ∈ slotSet o h := by
  refine Rect.mem_set_unit.trans (forall3.trans ?_)
  rw [mem_slotSet]
  have h0 : (i 0).val < 32 := (i 0).isLt
  have h1 : (i 1).val < 16 := (i 1).isLt
  have h2 : (i 2).val < 512 := (i 2).isLt
  have hh := h.isLt
  show (o.val ≤ (i 0).val ∧ (i 0).val < o.val + 1) ∧ (0 ≤ (i 1).val ∧ (i 1).val < 0 + 16) ∧ (256 * h.val ≤ (i 2).val ∧ (i 2).val < 256 * h.val + 256) ↔ _
  omega

omit [FloatOps F] in
theorem rSet (o : Fin 32) (h : Fin 2) : (slotV rM o h).view.set = slotSet o h := by
  refine (View.set_reshape _ _).trans ((View.set_slice_whole _ _).trans ?_)
  exact Finset.ext fun i => mem_slotRect o h i
omit [FloatOps F] in
theorem gSet (o : Fin 32) (h : Fin 2) : (slotV gM o h).view.set = slotSet o h := by
  refine (View.set_reshape _ _).trans ((View.set_slice_whole _ _).trans ?_)
  exact Finset.ext fun i => mem_slotRect o h i

/-- The place of an element of a slot. -/
def sIx (o : Fin 32) (h : Fin 2) (x : S16x256.Idx) : S32x16x512.Idx :=
  ix3 o (⟨(x 0).val, (x 0).isLt⟩ : Fin 16) (⟨256 * h.val + (x 1).val, by have := h.isLt; have : (x 1).val < 256 := (x 1).isLt; omega⟩ : Fin 512)
theorem rect_sIx (o : Fin 32) (h : Fin 2) (x : S16x256.Idx) (hn) :
    (Rect.unit (s := S32x16x512) (sOff o.val h) S1x16x256.size (sOff_inb o h)).emb (Shape.reshapeEquiv (s := S1x16x256) (s' := S16x256) hn x) = sIx o h x := by
  have hx : x = ix2 (⟨(x 0).val, (x 0).isLt⟩ : Fin 16) (⟨(x 1).val, (x 1).isLt⟩ : Fin 256) := by
    funext a; revert a; exact forall2.mpr ⟨rfl, rfl⟩
  rw [hx, reshapeEquiv_ix2_1ab]
  funext a
  apply Fin.ext
  revert a
  refine forall3.mpr ⟨?_, ?_, ?_⟩
  · show o.val + 1 * 0 = o.val; omega
  · show 0 + 1 * (x 0).val = (x 0).val; omega
  · show 256 * h.val + 1 * (x 1).val = 256 * h.val + (x 1).val; omega

omit [FloatOps F] in
theorem r_emb (o : Fin 32) (h : Fin 2) (x : S16x256.Idx) : (slotV rM o h).view.emb x = sIx o h x := rect_sIx o h x _
omit [FloatOps F] in
theorem g_emb (o : Fin 32) (h : Fin 2) (x : S16x256.Idx) : (slotV gM o h).view.emb x = sIx o h x := rect_sIx o h x _
theorem exists_sIx {o : Fin 32} {h : Fin 2} {i : S32x16x512.Idx} (hi : i ∈ slotSet o h) : ∃ x, i = sIx o h x := by
  rw [mem_slotSet] at hi
  obtain ⟨h0, h2⟩ := hi
  refine ⟨ix2 (⟨(i 1).val, (i 1).isLt⟩ : Fin 16) (⟨(i 2).val - 256 * h.val, by have : (i 2).val < 512 := (i 2).isLt; omega⟩ : Fin 256), ?_⟩
  funext a
  apply Fin.ext
  revert a
  refine forall3.mpr ⟨h0, rfl, ?_⟩
  show (i 2).val = 256 * h.val + ((i 2).val - 256 * h.val); omega

/-- Row group `g` of the partial product, a half of its columns. -/
def pieceSet (g : Fin 32) (h : Fin 2) : Finset S512x512.Idx := Finset.univ.filter fun i => (i 0).val / 16 = g.val ∧ (i 1).val / 256 = h.val
theorem mem_pieceSet {g : Fin 32} {h : Fin 2} {i : S512x512.Idx} : i ∈ pieceSet g h ↔ (i 0).val / 16 = g.val ∧ (i 1).val / 256 = h.val := by
  unfold pieceSet; rw [Finset.mem_filter]; exact and_iff_right (Finset.mem_univ _)
omit [FloatOps F] in
theorem aSet (c : Dev nD) (h : Fin 2) (r : Fin 31) : (aV c h r).view.set = pieceSet (grp (fwd c r)) h := by
  refine (View.set_slice_whole _ _).trans ?_
  refine Finset.ext fun (i : S512x512.Idx) => ?_
  refine Rect.mem_set_unit.trans (forall2.trans ?_)
  rw [mem_pieceSet, aOff_eq]
  have h0 : (i 0).val < 512 := (i 0).isLt
  have h1 : (i 1).val < 512 := (i 1).isLt
  have hh := h.isLt
  show (16 * (fwd c r).val ≤ (i 0).val ∧ (i 0).val < 16 * (fwd c r).val + 16) ∧ (256 * h.val ≤ (i 1).val ∧ (i 1).val < 256 * h.val + 256) ↔ _
  rw [show (grp (fwd c r)).val = (fwd c r).val from rfl]
  omega
omit [FloatOps F] in
theorem a_emb (c : Dev nD) (h : Fin 2) (r : Fin 31) (x : S16x256.Idx) :
    (aV c h r).view.emb x = ix2 (⟨16 * (fwd c r).val + (x 0).val, grp_lt (fwd c r) (⟨(x 0).val, (x 0).isLt⟩ : Fin 16)⟩ : Fin 512)
      (⟨256 * h.val + (x 1).val, by have := h.isLt; have : (x 1).val < 256 := (x 1).isLt; omega⟩ : Fin 512) := by
  show (Rect.unit (s := S512x512) (aOff c h r) S16x256.size (aOff_inb c h r)).emb x = _
  funext a
  apply Fin.ext
  have e := congrFun (aOff_eq c h r)
  revert a
  refine forall2.mpr ⟨?_, ?_⟩
  · show aOff c h r 0 + 1 * (x 0).val = _
    rw [e 0]; show 16 * (fwd c r).val + 1 * (x 0).val = 16 * (fwd c r).val + (x 0).val; omega
  · show aOff c h r 1 + 1 * (x 1).val = _
    rw [e 1]; show 256 * h.val + 1 * (x 1).val = 256 * h.val + (x 1).val; omega

/-! ## Buffers as their pieces -/

theorem slot_disj (b b' : Fin 2 × Fin 32) (h : b ≠ b') : Disjoint (slotSet b.2 b.1) (slotSet b'.2 b'.1) := by
  rw [Finset.disjoint_left]
  intro i hi hi'
  rw [mem_slotSet] at hi hi'
  exact h (Prod.ext (Fin.ext (hi.2.symm.trans hi'.2)) (Fin.ext (hi.1.symm.trans hi'.1)))
theorem slot_cover : Finset.univ.biUnion (fun b : Fin 2 × Fin 32 => slotSet b.2 b.1) = Finset.univ := by
  refine Finset.ext fun i => ⟨fun _ => Finset.mem_univ _, fun _ => Finset.mem_biUnion.mpr ⟨(hOf (i 2), i 0), Finset.mem_univ _, ?_⟩⟩
  exact mem_slotSet.mpr ⟨rfl, rfl⟩
theorem piece_disj (b b' : Fin 2 × Fin 32) (h : b ≠ b') : Disjoint (pieceSet b.2 b.1) (pieceSet b'.2 b'.1) := by
  rw [Finset.disjoint_left]
  intro i hi hi'
  rw [mem_pieceSet] at hi hi'
  exact h (Prod.ext (Fin.ext (hi.2.symm.trans hi'.2)) (Fin.ext (hi.1.symm.trans hi'.1)))
theorem piece_cover : Finset.univ.biUnion (fun b : Fin 2 × Fin 32 => pieceSet b.2 b.1) = Finset.univ := by
  refine Finset.ext fun (i : S512x512.Idx) => ⟨fun _ => Finset.mem_univ _, fun _ => Finset.mem_biUnion.mpr
    ⟨(hOf (i 1), ⟨(i 0).val / 16, by have : (i 0).val < 512 := (i 0).isLt; omega⟩), Finset.mem_univ _, ?_⟩⟩
  exact mem_pieceSet.mpr ⟨rfl, rfl⟩

/-- All of a device's receiving buffer, gathered buffer, partial product. -/
def rAllPts (c : Dev nD) (f : (cc0_scratch3 : Ref sig .tc).ty.Contents (Elt F)) : sProp 𝕄 := ((c : Thread nD τ).loc cc0_scratch3) ↦{fullShare} f
def gAllPts (c : Dev nD) (q : PosShare TreeShare) (f : (cc0_scratch4 : Ref sig .tc).ty.Contents (Elt F)) : sProp 𝕄 := ((c : Thread nD τ).loc cc0_scratch4) ↦{q} f
def aAllPts (c : Dev nD) (f : (cc0_scratch2 : Ref sig .tc).ty.Contents (Elt F)) : sProp 𝕄 := ((c : Thread nD τ).loc cc0_scratch2) ↦{fullShare} f
/-- A row group of the partial product, a half of its columns. -/
def aGrp (c : Dev nD) (g : Fin 32) (h : Fin 2) (f : (cc0_scratch2 : Ref sig .tc).ty.Contents (Elt F)) : sProp 𝕄 :=
  ((c : Thread nD τ).loc cc0_scratch2) ↦[pieceSet g h]{fullShare} f

omit [FloatOps F] in
theorem rPts_set (c : Dev nD) (o h) (f) : rPts (F := F) c o h f = (((c : Thread nD τ).loc cc0_scratch3) ↦[slotSet o h]{fullShare} f) := by
  unfold rPts; rw [rSet]
omit [FloatOps F] in
theorem gPts_set (c : Dev nD) (o h q) (f) : gPts (F := F) c o h q f = (((c : Thread nD τ).loc cc0_scratch4) ↦[slotSet o h]{q} f) := by
  unfold gPts; rw [gSet]
omit [FloatOps F] in
theorem aPts_grp (c : Dev nD) (h r) (f) : aPts (F := F) c h r f = aGrp c (grp (fwd c r)) h f := by
  unfold aPts aGrp; rw [aSet]

omit [FloatOps F] in
theorem rAll_split (c : Dev nD) (f) : rAllPts (F := F) c f = bigSep Finset.univ fun h : Fin 2 => bigSep Finset.univ fun o : Fin 32 => rPts c o h f := by
  refine (Ring.pointsTo_blocks (ℓ := (c : Thread nD τ).loc cc0_scratch3) (fun b : Fin 2 × Fin 32 => slotSet b.2 b.1) slot_disj slot_cover f).trans
    ((bigSep_univ_prod _).trans ?_)
  exact bigSep_congr fun h _ => bigSep_congr fun o _ => (rPts_set c o h f).symm
omit [FloatOps F] in
theorem gAll_split (c : Dev nD) (q) (f) : gAllPts (F := F) c q f = bigSep Finset.univ fun h : Fin 2 => bigSep Finset.univ fun o : Fin 32 => gPts c o h q f := by
  refine (Ring.pointsTo_blocks (ℓ := (c : Thread nD τ).loc cc0_scratch4) (fun b : Fin 2 × Fin 32 => slotSet b.2 b.1) slot_disj slot_cover f).trans
    ((bigSep_univ_prod _).trans ?_)
  exact bigSep_congr fun h _ => bigSep_congr fun o _ => (gPts_set c o h q f).symm
omit [FloatOps F] in
theorem aAll_split (c : Dev nD) (f) : aAllPts (F := F) c f = bigSep Finset.univ fun h : Fin 2 => bigSep Finset.univ fun g : Fin 32 => aGrp c g h f := by
  exact (Ring.pointsTo_blocks (ℓ := (c : Thread nD τ).loc cc0_scratch2) (fun b : Fin 2 × Fin 32 => pieceSet b.2 b.1) piece_disj piece_cover f).trans
    (bigSep_univ_prod _)

/-- One index and the images of the others. -/
theorem bigSep_around {M : Type} [URA M] (a : Fin 32) (g : Fin 31 → Fin 32) (hg : Function.Injective g) (ha : ∀ r, g r ≠ a) (Φ : Fin 32 → sProp M) :
    bigSep Finset.univ Φ = iprop(Φ a ∗ bigSep Finset.univ fun r => Φ (g r)) := by
  have hu : (Finset.univ : Finset (Fin 32)) = insert a (Finset.univ.map ⟨g, hg⟩) := by
    refine (Finset.eq_univ_of_card _ ?_).symm
    rw [Finset.card_insert_of_notMem, Finset.card_map, Finset.card_univ, Fintype.card_fin, Fintype.card_fin]
    intro h; obtain ⟨r, -, e⟩ := Finset.mem_map.mp h; exact ha r e
  rw [hu, bigSep_insert, bigSep_map]
  · rfl
  · intro h; obtain ⟨r, -, e⟩ := Finset.mem_map.mp h; exact ha r e
theorem slot_inj : Function.Injective slot := by decide
theorem slot_ne (r : Fin 31) : slot r ≠ 0 := by revert r; decide
theorem fwd_inj (c : Dev nD) : Function.Injective fun r => grp (fwd c r) := by revert c; decide +kernel
theorem bwd_inj (c : Dev nD) : Function.Injective fun r => grp (bwd c r) := by revert c; decide +kernel
theorem grp_fwd_ne (c : Dev nD) (r : Fin 31) : grp (fwd c r) ≠ grp c := by revert c r; decide +kernel
theorem grp_bwd_ne (c : Dev nD) (r : Fin 31) : grp (bwd c r) ≠ grp c := by revert c r; decide +kernel

/-! ## What is written -/

/-- A received piece: row group of the receiver in the sender's partial product. -/
theorem rcv_written (c : Dev nD) (h : Fin 2) (r : Fin 31) (f : (cc0_scratch3 : Ref sig .tc).ty.Contents (Elt F)) :
    ∀ i ∈ (slotV rM (slot r) h).view.set, (slotV rM (slot r) h).view.write (Elt F) f ((aV c h r).view.read (Elt F) (prtC m c)) Finset.univ i = rcvC m (fwd c r) i := by
  intro i hi
  rw [rSet] at hi
  obtain ⟨x, rfl⟩ := exists_sIx hi
  rw [← r_emb, View.write_emb_of_mem _ _ (Finset.mem_univ x), r_emb]
  show prtC m c ((aV c h r).view.emb x) = prtC m (back (fwd c r) (slot r)) _
  rw [a_emb, back_slot, bwd_fwd]
  rfl

/-- A gathered piece: the same place, the same contents. -/
theorem gat_written (o : Fin 32) (h : Fin 2) (f g : (cc0_scratch4 : Ref sig .tc).ty.Contents (Elt F)) :
    ∀ i ∈ (slotV gM o h).view.set, (slotV gM o h).view.write (Elt F) f ((slotV gM o h).view.read (Elt F) g) Finset.univ i = g i := by
  intro i hi
  rw [gSet] at hi
  obtain ⟨x, rfl⟩ := exists_sIx hi
  rw [← g_emb, View.write_emb_of_mem _ _ (Finset.mem_univ x)]
  rfl

/-- The piece that stays, stored in slot 0. -/
theorem own_off (c : Dev nD) : k0_off3 c = ![16 * c.val, 0] := by revert c; decide +kernel
theorem pay24_apply (v : Vec F S16x512 .bf16) (u : Fin 1) (i : Fin 16) (j : Fin 512) : k0_pay24 v (ix3 u i j) = v (ix2 i j) := by
  unfold k0_pay24
  rw [shapeCast_self]
  exact shapeCast_ab_1ab_apply v _ u i j
theorem slot0_write (f : (cc0_scratch3 : Ref sig .tc).ty.Contents (Elt F)) (v : Vec F S1x16x512 .bf16) (i : S32x16x512.Idx) (hi : (i 0).val = 0) :
    (rM.access rOwn : View sig .tc _ _ _).write (Elt F) f v Finset.univ i = v (ix3 (0 : Fin 1) (⟨(i 1).val, (i 1).isLt⟩ : Fin 16) (⟨(i 2).val, (i 2).isLt⟩ : Fin 512)) := by
  have he : (rM.access rOwn : View sig .tc _ _ _).emb (ix3 (0 : Fin 1) (⟨(i 1).val, (i 1).isLt⟩ : Fin 16) (⟨(i 2).val, (i 2).isLt⟩ : Fin 512)) = i := by
    show rOwn.emb _ = i
    funext a
    apply Fin.ext
    revert a
    refine forall3.mpr ⟨?_, ?_, ?_⟩
    · show 0 + 1 * 0 = (i 0).val; rw [hi]
    · show 0 + 1 * (i 1).val = (i 1).val; omega
    · show 0 + 1 * (i 2).val = (i 2).val; omega
  refine (congrArg _ he.symm).trans ((View.write_emb_of_mem _ _ (Finset.mem_univ _)).trans ?_)
  rfl
theorem own_written (c : Dev nD) (f : (cc0_scratch3 : Ref sig .tc).ty.Contents (Elt F)) (h : Fin 2) :
    ∀ i ∈ slotSet 0 h, (rM.access rOwn : View sig .tc _ _ _).write (Elt F) f (k0_pay24 (aM.view.readAt (Elt F)
      (Rect.unit (s := S512x512) (k0_off3 c) S16x512.size (k0_off3_inb c)).toLoadRect (prtC m c))) Finset.univ i = rcvC m c i := by
  intro i hi
  rw [mem_slotSet] at hi
  refine (slot0_write f _ i hi.1).trans ((pay24_apply _ _ _ _).trans ?_)
  have hp : (aM.access (Rect.unit (s := S512x512) (k0_off3 c) S16x512.size (k0_off3_inb c)) : View sig .tc _ _ _).emb
      (ix2 (⟨(i 1).val, (i 1).isLt⟩ : Fin 16) (⟨(i 2).val, (i 2).isLt⟩ : Fin 512))
      = ix2 (⟨16 * c.val + (i 1).val, grp_lt c (i 1)⟩ : Fin 512) (⟨(i 2).val, (i 2).isLt⟩ : Fin 512) := by
    show (Rect.unit (s := S512x512) (k0_off3 c) S16x512.size (k0_off3_inb c)).emb _ = _
    have e := congrFun (own_off c)
    funext a
    apply Fin.ext
    revert a
    refine forall2.mpr ⟨?_, ?_⟩
    · show k0_off3 c 0 + 1 * (i 1).val = 16 * c.val + (i 1).val; rw [e 0]; show 16 * c.val + 1 * (i 1).val = _; omega
    · show k0_off3 c 1 + 1 * (i 2).val = (i 2).val; rw [e 1]; show 0 + 1 * (i 2).val = _; omega
  have h0 : back c (i 0) = c := by rw [show (i 0) = (0 : Fin 32) from Fin.ext hi.1]; exact back_zero c
  show prtC m c ((aM.access (Rect.unit (s := S512x512) (k0_off3 c) S16x512.size (k0_off3_inb c)) : View sig .tc _ _ _).emb _) = _
  rw [hp]
  unfold rcvC
  rw [h0]

end Cert.KernelIdeal.Pf
-- ==== Proof.Rules.lean ====
/-
One rule for each of the program's repeated steps, and the rule for a run of such a step over the partners.
-/
module

public import proofs.«01_k».proof.Proof.Geometry
public import Idealize.ShloMosaic.Lib.Pipeline.BigSepL

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

abbrev 𝒱₀ : Variants := Variants.none

/-- The weakest precondition of a device's program. -/
abbrev WP (c : Dev nD) (p : PP F) (Q : PUnit → sProp 𝕄) : sProp 𝕄 :=
  wp frame (wpE (defs₀ (F := F)) 𝒱₀ (c : Thread nD τ) none) Set.univ p Q

/-! ## A run of steps -/

/-- A step that turns `A b` into `B b` and moves the state `R` on, run over a list. -/
theorem wp_seqL {β : Type} (c : Dev nD) (step : β → PP F) (R : List β → sProp 𝕄) (A B : β → sProp 𝕄)
    (hstep : ∀ b l (k : PP F) Q, iprop(R (b :: l) ∗ A b) ⊢ iprop((iprop(R l ∗ B b) -∗ WP c k Q) -∗ WP c (step b >>= fun _ => k) Q)) :
    ∀ l (k : PP F) Q, iprop(R l ∗ bigSepL l A) ⊢ iprop((iprop(R [] ∗ bigSepL l B) -∗ WP c k Q) -∗ WP c (seqL step l k) Q)
  | [], k, Q => by
    iintro ⟨HR, -⟩ Hk
    unfold seqL
    iapply Hk
    isplitl [HR]; · iexact HR
    rw [bigSepL_nil]; iempintro
  | b :: l, k, Q => by
    rw [bigSepL_cons', bigSepL_cons']
    iintro ⟨HR, HA, HL⟩ Hk
    unfold seqL
    iapply (hstep b l (seqL step l k) Q) $$ [HR HA]
    · isplitl [HR] <;> iassumption
    iintro ⟨HR, HB⟩
    iapply (wp_seqL c step R A B hstep l k Q) $$ [HR HL]
    · isplitl [HR] <;> iassumption
    iintro ⟨HR, HBs⟩
    iapply Hk
    isplitl [HR]; · iexact HR
    isplitl [HB] <;> iassumption

/-- The same over all partners, in the program's order. -/
theorem wp_offs (c : Dev nD) (step : Fin 31 → PP F) (R : List (Fin 31) → sProp 𝕄) (A B : Fin 31 → sProp 𝕄)
    (hstep : ∀ b l (k : PP F) Q, iprop(R (b :: l) ∗ A b) ⊢ iprop((iprop(R l ∗ B b) -∗ WP c k Q) -∗ WP c (step b >>= fun _ => k) Q))
    (k : PP F) (Q) :
    iprop(R offs ∗ bigSep Finset.univ A) ⊢ iprop((iprop(R [] ∗ bigSep Finset.univ B) -∗ WP c k Q) -∗ WP c (seqL step offs k) Q) := by
  rw [bigSep_univ_eq_bigSepL offs (by decide) (by decide) A, bigSep_univ_eq_bigSepL offs (by decide) (by decide) B]
  exact wp_seqL c step R A B hstep offs k Q

/-! ## What every device may use at any time -/

section
variable (K : Dev nD × CI → ℕ)

/-- The cells' invariants, that round 0 of each is reached, and the levels. -/
def recs : sProp 𝕄 :=
  iprop(bigSep Finset.univ (fun ci : Dev nD × CI => iprop(cellInv ER (Rd m) (K ci) (cell ci.1 ci.2) ∗ reached ER (cell ci.1 ci.2) 0)) ∗ levAts L lv)
instance recs_persistent : BI.Persistent (recs (F := F) m K) := by unfold recs; infer_instance
theorem recs_cell (c : Dev nD) (i : CI) : recs (F := F) m K ⊢ iprop(cellInv ER (Rd m) (K (c, i)) (cell c i) ∗ reached ER (cell c i) 0) := by
  unfold recs
  have h : (bigSep Finset.univ (fun ci : Dev nD × CI => iprop(cellInv ER (Rd m) (K ci) (cell ci.1 ci.2) ∗ reached ER (cell ci.1 ci.2) 0)) : sProp 𝕄)
      ⊢ iprop(cellInv ER (Rd m) (K (c, i)) (cell c i) ∗ reached ER (cell c i) 0) := bigSep_elim (Finset.mem_univ ((c, i) : Dev nD × CI))
  iintro ⟨H, -⟩
  iapply h; iexact H
theorem recs_lev : recs (F := F) m K ⊢ levAts L lv := by
  unfold recs
  iintro ⟨-, H⟩; iexact H

theorem recs_may (c : Dev nD) (sm : SemLoc sig) (n : ℕ) (hn : lvI (cellIx sm) ≤ n) {O : CellTallies nD τ sig Unit} (hO : Above n O) :
    recs (F := F) m K ⊢ MayWait (c : Thread nD τ) sm () O := by
  unfold recs
  have h := mayWait (F := F) c sm n hn hO
  iintro ⟨-, H⟩
  iapply h; iexact H

/-- What the device owes, whatever it waited for. -/
def ow (c : Dev nD) (O : CellTallies nD τ sig Unit) : sProp 𝕄 := iprop(∃ W, owes (c : Thread nD τ) O W)
def tok (c : Dev nD) (i : CI) (d : Fin 31) : sProp 𝕄 := dutyTok ER (cell c i) 0 d
def crd (c : Dev nD) (i : CI) (k : ℕ) : sProp 𝕄 := cred (tallyAt (cell c i) () k)
def at0 (c : Dev nD) (i : CI) : sProp 𝕄 := atPos ER (cell c i) 0 ∅ 0
def zer (c : Dev nD) (i : CI) : sProp 𝕄 := semVal (cell c i) 0

/-! ## Waits -/

/-- A wait for all a cell expects: its payload, and the cell closed. -/
theorem wp_wait_cell (c : Dev nD) (i : CI) (n : ℕ) (hn : (Rd (F := F) m).expect (cell c i) 0 = n) (O : CellTallies nD τ sig Unit)
    (hO : Above (lvI (some i)) O) {w : PE F PUnit}
    (hw : ∀ Kt : PUnit → sProp 𝕄, wpE (defs₀ (F := F)) 𝒱₀ (c : Thread nD τ) none Set.univ w Kt = waitSpec (c : Thread nD τ) Set.univ (csem i) n Kt)
    (k : PUnit → PP F) (Q : PUnit → sProp 𝕄) :
    iprop(recs m K ∗ ow c O ∗ crd c i n ∗ at0 c i)
      ⊢ iprop((iprop(ow c O ∗ bigSep (duty i) (pay m c i) ∗ zer c i) -∗ WP c (k ⟨⟩) Q) -∗ WP c (.op w k) Q) := by
  have hmay := recs_may m K c (csem i) (lvI (some i)) (by rw [cellIx_csem]) hO
  unfold ow crd at0 zer
  iintro ⟨#Hrec, ⟨%W, HO⟩, Hc, Hat⟩ Hk
  ihave Hci := (recs_cell m K c i) $$ Hrec
  icases Hci with ⟨#HI, -⟩
  iapply (Rounds.wp_wait_rest_token 𝒱₀ ER (Rd m) (c : Thread nD τ) none (κ := K (c, i)) (k' := n) hw (Set.mem_univ _) () (O := O) (W := W) (R := 0) (m := 0) (T := ∅)
      ((Nat.zero_add n).trans hn.symm)) $$ [Hc HO Hat]
  · isplitr; · iexact HI
    isplitl [Hc]; · iexact Hc
    isplitl [HO]; · iexact HO
    isplitr; · iapply hmay; iexact Hrec
    iexact Hat
  iintro ⟨HO, Hat, -, Hpay⟩
  ihave Hpay := (Entails.of_eq (rest_cell m c i)) $$ Hpay
  imod (Rounds.cell_close ER (Rd m) (Set.mem_univ (K (c, i))) (fun h => h) (R := 0 + 1) (duties_later m (cell c i))) $$ [Hat] with Hz
  · isplitr; · iexact HI
    iexact Hat
  iapply Hk
  isplitl [HO]; · iexists _; iexact HO
  isplitl [Hpay] <;> iassumption

/-- The same at a cell of one duty. -/
theorem wp_wait_one (c : Dev nD) (i : CI) (hi : duty i = {0}) (O : CellTallies nD τ sig Unit)
    (hO : Above (lvI (some i)) O) {w : PE F PUnit}
    (hw : ∀ Kt : PUnit → sProp 𝕄, wpE (defs₀ (F := F)) 𝒱₀ (c : Thread nD τ) none Set.univ w Kt = waitSpec (c : Thread nD τ) Set.univ (csem i) (amt i) Kt)
    (k : PUnit → PP F) (Q : PUnit → sProp 𝕄) :
    iprop(recs m K ∗ ow c O ∗ crd c i (amt i) ∗ at0 c i)
      ⊢ iprop((iprop(ow c O ∗ pay m c i 0 ∗ zer c i) -∗ WP c (k ⟨⟩) Q) -∗ WP c (.op w k) Q) := by
  have h := wp_wait_cell m K c i (amt i) (expect_one m c i hi) O hO hw k Q
  rw [hi, bigSep_singleton] at h
  exact h

/-! ## The repeated steps -/

/-- What the signal to the partner at distance `1 + r` hands over: the device's slot for that partner's piece and that
    partner's row group of the device's gathered buffer, both halves of each. -/
def sigPay (c : Dev nD) (r : Fin 31) : sProp 𝕄 :=
  iprop(((∃ f, rPts c (slot (rv r)) 0 f) ∗ (∃ f, rPts c (slot (rv r)) 1 f))
    ∗ ((∃ f, gPts c (grp (fwd c r)) 0 fullShare f) ∗ (∃ f, gPts c (grp (fwd c r)) 1 fullShare f)))
theorem sigPay_eq (c : Dev nD) (r : Fin 31) : pay (F := F) m (fwd c r) (.inl 0) (rv r) = sigPay c r := by
  show barPay (fwd c r) (rv r) = sigPay c r
  unfold barPay sigPay; rw [fwd_rv]

theorem sig_step (c : Dev nD) (O : CellTallies nD τ sig Unit) (r : Fin 31) (l : List (Fin 31)) (k : PP F) (Q : PUnit → sProp 𝕄) :
    iprop((recs m K ∗ ow c (rem (barOwe c) O (r :: l))) ∗ (tok (fwd c r) (.inl 0) (rv r) ∗ sigPay c r))
      ⊢ iprop((iprop((recs m K ∗ ow c (rem (barOwe c) O l)) ∗ emp) -∗ WP c k Q) -∗ WP c (sigStep c r >>= fun _ => k) Q) := by
  show _ ⊢ iprop(_ -∗ WP c (.op (.semSignal (tgt c r : Thread nD τ) barS 1) fun _ => k) Q)
  rw [tgt_eq]
  unfold ow tok
  iintro ⟨⟨#Hrec, ⟨%W, HO⟩⟩, Ht, Hp⟩ Hk
  ihave Hci := (recs_cell m K (fwd c r) (.inl 0)) $$ Hrec
  icases Hci with ⟨#HI, #Hr⟩
  iapply (Rounds.wp_signal 𝒱₀ ER (Rd m) (c : Thread nD τ) none (dst := (fwd c r : Thread nD τ)) (κ := K (fwd c r, .inl 0)) (r := 0)
      (d := rv r) (by rw [duties_cell m (fwd c r) (.inl 0)]; exact Finset.mem_univ _) (amount_cell m (fwd c r) (.inl 0) 0 (rv r)) () (rem (barOwe c) O l) rfl)
    $$ [HO Ht Hp]
  · isplitr; · iexact HI
    isplitl [HO]; · iexact HO
    isplitl [Ht]; · iexact Ht
    isplitl [Hp]
    · iapply (Entails.of_eq ((payload_cell m (fwd c r) (.inl 0) 0 (rv r)).trans (sigPay_eq m c r)).symm); iexact Hp
    iexact Hr
  iintro HO
  iapply Hk
  isplitl [HO]
  · isplitr; · iexact Hrec
    iexists W; iexact HO
  iempintro

omit [FloatOps F] in
theorem credR (o : Fin 32) (h : Fin 2) : (slotV rM o h).view.dmaCredit = N := rfl
omit [FloatOps F] in
theorem credG (o : Fin 32) (h : Fin 2) : (slotV gM o h).view.dmaCredit = N := rfl
omit [FloatOps F] in
theorem credA (c : Dev nD) (h : Fin 2) (r : Fin 31) : (aV c h r).view.dmaCredit = N := rfl
omit [FloatOps F] in
theorem credF (M : Memref sig .tc .vmem S32x16x512 .bf16) {f : Fin 3 → Nat} {o : Fin 32} {h : Fin 2} (e : f = sOff o.val h) : (slotF M e).view.dmaCredit = N := rfl

/-- A wait for a transferred piece. -/
theorem x_wait (c : Dev nD) (i : CI) (hi : duty i = {0}) (hn : amt i = N) (n : ℕ) (hN : n = N) (sm : DmaSem sig) (hs : csem i = .dma sm) (P : sProp 𝕄) (hP : pay m c i 0 = P) (O : CellTallies nD τ sig Unit)
    (hO : Above (lvI (some i)) O) {w : PE F PUnit}
    (hw : ∀ Kt : PUnit → sProp 𝕄, wpE (defs₀ (F := F)) 𝒱₀ (c : Thread nD τ) none Set.univ w Kt = waitSpec (c : Thread nD τ) Set.univ (.dma sm) n Kt)
    (k : PP F) (Q : PUnit → sProp 𝕄) :
    iprop((recs m K ∗ ow c O) ∗ (crd c i N ∗ at0 c i))
      ⊢ iprop((iprop((recs m K ∗ ow c O) ∗ (P ∗ zer c i)) -∗ WP c k Q) -∗ WP c (Prog.lift w >>= fun _ => k) Q) := by
  subst hP
  subst hN
  rw [← hs] at hw
  have h := wp_wait_one m K c i hi O hO (by rw [hn]; exact hw) (fun _ => k) Q
  rw [hn] at h
  show _ ⊢ iprop(_ -∗ WP c (.op w fun _ => k) Q)
  iintro ⟨⟨#Hrec, HO⟩, Hc, Ha⟩ Hk
  iapply h $$ [HO Hc Ha]
  · isplitr; · iexact Hrec
    isplitl [HO]; · iexact HO
    isplitl [Hc] <;> iassumption
  iintro ⟨HO, Hp, Hz⟩
  iapply Hk
  isplitl [HO]
  · isplitr; · iexact Hrec
    iexact HO
  isplitl [Hp] <;> iassumption

theorem recv1_step (c : Dev nD) (h : Fin 2) (O : CellTallies nD τ sig Unit) (hO : Above 2 O) (r : Fin 31) (k : PP F) (Q : PUnit → sProp 𝕄) :
    iprop((recs m K ∗ ow c O) ∗ (crd c (.inr (1, h, r)) N ∗ at0 c (.inr (1, h, r))))
      ⊢ iprop((iprop((recs m K ∗ ow c O) ∗ (rPts c (slot r) h (rcvC m c) ∗ zer c (.inr (1, h, r)))) -∗ WP c k Q)
        -∗ WP c (recv1Step h r >>= fun _ => k) Q) :=
  x_wait m K c (.inr (1, h, r)) rfl rfl _ (credR (slot r) h) _ rfl _ rfl O hO (wpE_waitDma2_eq 𝒱₀ (c : Thread nD τ) none Set.univ) k Q

theorem recv2_step (c : Dev nD) (h : Fin 2) (r : Fin 31) (k : PP F) (Q : PUnit → sProp 𝕄) :
    iprop((recs m K ∗ ow c 0) ∗ (crd c (.inr (3, h, r)) N ∗ at0 c (.inr (3, h, r))))
      ⊢ iprop((iprop((recs m K ∗ ow c 0) ∗ (gPts c (grp (bwd c r)) h fullShare (gatC m) ∗ zer c (.inr (3, h, r)))) -∗ WP c k Q)
        -∗ WP c (recv2Step c h r >>= fun _ => k) Q) :=
  x_wait m K c (.inr (3, h, r)) rfl rfl _ (credF gM _) _ rfl _ rfl 0 (above_zero _) (wpE_waitDma2_eq 𝒱₀ (c : Thread nD τ) none Set.univ) k Q

theorem done1_step (c : Dev nD) (h : Fin 2) (r : Fin 31) (k : PP F) (Q : PUnit → sProp 𝕄) :
    iprop((recs m K ∗ ow c 0) ∗ (crd c (.inr (0, h, r)) N ∗ at0 c (.inr (0, h, r))))
      ⊢ iprop((iprop((recs m K ∗ ow c 0) ∗ (aPts c h r (prtC m c) ∗ zer c (.inr (0, h, r)))) -∗ WP c k Q)
        -∗ WP c (done1Step c h r >>= fun _ => k) Q) :=
  x_wait m K c (.inr (0, h, r)) rfl rfl _ (credA c h r) _ rfl _ rfl 0 (above_zero _) (wpE_waitDma2_eq 𝒱₀ (c : Thread nD τ) none Set.univ) k Q

theorem done2_step (c : Dev nD) (h : Fin 2) (r : Fin 31) (k : PP F) (Q : PUnit → sProp 𝕄) :
    iprop((recs m K ∗ ow c 0) ∗ (crd c (.inr (2, h, r)) N ∗ at0 c (.inr (2, h, r))))
      ⊢ iprop((iprop((recs m K ∗ ow c 0) ∗ (gPts c (grp c) h (part (slot r)) (gatC m) ∗ zer c (.inr (2, h, r)))) -∗ WP c k Q)
        -∗ WP c (done2Step c h r >>= fun _ => k) Q) :=
  x_wait m K c (.inr (2, h, r)) rfl rfl _ (credF gM _) _ rfl _ rfl 0 (above_zero _) (wpE_waitDma2_eq 𝒱₀ (c : Thread nD τ) none Set.univ) k Q

end

end Cert.KernelIdeal.Pf
-- ==== Proof.Sends.lean ====
/-
The rules for the two kinds of transfers to a partner.
-/
module

public import proofs.«01_k».proof.Proof.Rules
public import Idealize.ShloMosaic.Lib.Pipeline.BigSepL

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

variable (K : Dev nD × CI → ℕ)

theorem send1_step (c : Dev nD) (h : Fin 2) (O : CellTallies nD τ sig Unit) (r : Fin 31) (l : List (Fin 31)) (k : PP F) (Q : PUnit → sProp 𝕄) :
    iprop((recs m K ∗ ow c (rem (xOwe c 1 h) O (r :: l)))
        ∗ (aPts c h r (prtC m c) ∗ (∃ f, rPts (fwd c r) (slot r) h f) ∗ tok c (.inr (0, h, r)) 0 ∗ tok (fwd c r) (.inr (1, h, r)) 0))
      ⊢ iprop((iprop((recs m K ∗ ow c (rem (xOwe c 1 h) O l)) ∗ crd c (.inr (0, h, r)) N) -∗ WP c k Q)
        -∗ WP c (send1Step c h r >>= fun _ => k) Q) := by
  show _ ⊢ iprop(_ -∗ WP c (.op (.enqueueDma (aV c h r) (.remote (Dev.tc (tgt c r)) (slotV rM (slot r) h) (.dma (s1S h r))) (.dma (r1S h r))
    (aV_words c h r) (slotV_words (Memref.isWhole_whole _) (slot r) h) ⟨⟨rfl, Or.inl rfl⟩, trivial⟩) fun _ => k) Q)
  have e := tgt_eq c r
  generalize tgt c r = n at e ⊢
  subst e
  unfold ow tok crd
  iintro ⟨⟨#Hrec, ⟨%W, HO⟩⟩, Ha, ⟨%f, Hd⟩, Ht, Ht'⟩ Hk
  ihave Hci := (recs_cell m K c (.inr (0, h, r))) $$ Hrec
  icases Hci with ⟨#HI, #Hr⟩
  ihave Hci := (recs_cell m K (fwd c r) (.inr (1, h, r))) $$ Hrec
  icases Hci with ⟨#HI', #Hr'⟩
  have hpay₁ : aPts (F := F) c h r (prtC m c) ⊢ (Rd m).payload (cell c (.inr (0, h, r))) 0 0 :=
    Entails.of_eq (payload_cell m c (.inr (0, h, r)) 0 0).symm
  have hpay₂ : ((slotV rM (slot r) h).view.loc (fwd c r : Thread nD τ) ↦[(slotV rM (slot r) h).view.set]{fullShare}
      (slotV rM (slot r) h).view.write (Elt F) f ((aV c h r).view.read (Elt F) (prtC m c)) Finset.univ : sProp 𝕄)
      ⊢ (Rd m).payload (cell (fwd c r) (.inr (1, h, r))) 0 0 := by
    refine (Entails.of_eq (pointsTo_congr (rcv_written m c h r f))).trans (Entails.of_eq ?_)
    exact (payload_cell m (fwd c r) (.inr (1, h, r)) 0 0).symm
  have hd₁ : (0 : Fin 31) ∈ (Rd (F := F) m).duties ((c : Thread nD τ), .dma (s1S h r)) 0 := by
    rw [show ((c : Thread nD τ), SemLoc.dma (s1S h r)) = cell c (.inr (0, h, r)) from rfl, duties_cell]; exact Finset.mem_singleton_self _
  have hd₂ : (0 : Fin 31) ∈ (Rd (F := F) m).duties ((fwd c r : Thread nD τ), .dma (r1S h r)) 0 := by
    rw [show ((fwd c r : Thread nD τ), SemLoc.dma (r1S h r)) = cell (fwd c r) (.inr (1, h, r)) from rfl, duties_cell]; exact Finset.mem_singleton_self _
  have hk₁ : (Rd (F := F) m).amount ((c : Thread nD τ), .dma (s1S h r)) 0 0 = N := amount_cell m c (.inr (0, h, r)) 0 0
  have hk₂ : (Rd (F := F) m).amount ((fwd c r : Thread nD τ), .dma (r1S h r)) 0 0 = N := amount_cell m (fwd c r) (.inr (1, h, r)) 0 0
  have hO : rem (xOwe c 1 h) O (r :: l) = rem (xOwe c 1 h) O l + tallyAt ((fwd c r : Thread nD τ), .dma (r1S h r)) () N := rfl
  have hN : (slotV rM (slot r) h).view.amount (.dma (r1S h r)) = N := credR (slot r) h
  unfold aPts rPts at *
  have hrule := (Rounds.wp_send_pointsTo (defs := defs₀ (F := F)) (Γ := .empty) 𝒱₀ ER (Rd m) (c : Thread nD τ) none (c' := (fwd c r : Thread nD τ)) (κ₁ := K (c, .inr (0, h, r))) (κ₂ := K (fwd c r, .inr (1, h, r)))
    (r₁ := 0) (r₂ := 0) (d₁ := 0) (d₂ := 0) (fd := f)
    hd₁ hd₂ () () N hN hk₁ hk₂ (rem (xOwe c 1 h) O l) hO (W := W) hpay₁ hpay₂ (src := aV c h r) (dst := slotV rM (slot r) h) (sS := .dma (s1S h r)) (sem := .dma (r1S h r)) (hsc := rfl) (hsrc := aV_words c h r)
    (hdst := slotV_words (Memref.isWhole_whole _) (slot r) h) (hsem := ⟨⟨rfl, Or.inl rfl⟩, trivial⟩) (k := fun _ => k) (Q := Q) (Es := Set.univ))
  iapply hrule $$ [HO Ha Hd Ht Ht']
  · isplitr; · iexact HI
    isplitr; · iexact HI'
    isplitl [Ha]; · iexact Ha
    isplitl [Hd]; · iexact Hd
    isplitl [HO]; · iexact HO
    isplitl [Ht]; · iexact Ht
    isplitr; · iexact Hr
    isplitl [Ht']; · iexact Ht'
    iexact Hr'
  iintro ⟨Hc, HO⟩
  iapply Hk
  isplitl [HO]
  · isplitr; · iexact Hrec
    iexists W; iexact HO
  iexact Hc

theorem send2_core (c : Dev nD) (h : Fin 2) (O : CellTallies nD τ sig Unit) (r : Fin 31) (l : List (Fin 31)) (k : PP F) (Q : PUnit → sProp 𝕄)
    (n : Dev nD) (hn : n = fwd c r) (V : Memref sig .tc .vmem S16x256 .bf16) (hV : V = slotV gM (grp c) h)
    {hsc : (V : Memref sig (Dev.tc n : Thread nD τ).2.kind .vmem S16x256 .bf16).view.ref.isScScratch = false} {hsrc : V.view.WordExact} {hdst : V.view.WordExact}
    {hsem : DmaTarget.Typed .vmem (.dma (r2S h r)) (.remote (Dev.tc n : Thread nD τ) (V : Memref sig (Dev.tc n : Thread nD τ).2.kind .vmem S16x256 .bf16) (.dma (s2S h r)) hsc)} :
    iprop((recs m K ∗ ow c (rem (xOwe c 3 h) O (r :: l)))
        ∗ (gPts c (grp c) h (part (slot r)) (gatC m) ∗ (∃ f, gPts (fwd c r) (grp c) h fullShare f) ∗ tok c (.inr (2, h, r)) 0 ∗ tok (fwd c r) (.inr (3, h, r)) 0))
      ⊢ iprop((iprop((recs m K ∗ ow c (rem (xOwe c 3 h) O l)) ∗ crd c (.inr (2, h, r)) N) -∗ WP c k Q)
        -∗ WP c (.op (.enqueueDma V (.remote (Dev.tc n) V (.dma (s2S h r)) hsc) (.dma (r2S h r)) hsrc hdst hsem) fun _ => k) Q) := by
  subst hn
  subst hV
  unfold ow tok crd
  iintro ⟨⟨#Hrec, ⟨%W, HO⟩⟩, Ha, ⟨%f, Hd⟩, Ht, Ht'⟩ Hk
  ihave Hci := (recs_cell m K c (.inr (2, h, r))) $$ Hrec
  icases Hci with ⟨#HI, #Hr⟩
  ihave Hci := (recs_cell m K (fwd c r) (.inr (3, h, r))) $$ Hrec
  icases Hci with ⟨#HI', #Hr'⟩
  have hpay₁ : gPts (F := F) c (grp c) h (part (slot r)) (gatC m) ⊢ (Rd m).payload (cell c (.inr (2, h, r))) 0 0 :=
    Entails.of_eq (payload_cell m c (.inr (2, h, r)) 0 0).symm
  have hpay₂ : ((slotV gM (grp c) h).view.loc (fwd c r : Thread nD τ) ↦[(slotV gM (grp c) h).view.set]{fullShare}
      (slotV gM (grp c) h).view.write (Elt F) f ((slotV gM (grp c) h).view.read (Elt F) (gatC m)) Finset.univ : sProp 𝕄)
      ⊢ (Rd m).payload (cell (fwd c r) (.inr (3, h, r))) 0 0 := by
    refine (Entails.of_eq (pointsTo_congr (gat_written (grp c) h f (gatC m)))).trans (Entails.of_eq ?_)
    refine ((payload_cell m (fwd c r) (.inr (3, h, r)) 0 0).trans ?_).symm
    show gPts (fwd c r) (grp (bwd (fwd c r) r)) h fullShare (gatC m) = _
    rw [bwd_fwd]; rfl
  have hd₁ : (0 : Fin 31) ∈ (Rd (F := F) m).duties ((c : Thread nD τ), .dma (s2S h r)) 0 := by
    rw [show ((c : Thread nD τ), SemLoc.dma (s2S h r)) = cell c (.inr (2, h, r)) from rfl, duties_cell]; exact Finset.mem_singleton_self _
  have hd₂ : (0 : Fin 31) ∈ (Rd (F := F) m).duties ((fwd c r : Thread nD τ), .dma (r2S h r)) 0 := by
    rw [show ((fwd c r : Thread nD τ), SemLoc.dma (r2S h r)) = cell (fwd c r) (.inr (3, h, r)) from rfl, duties_cell]; exact Finset.mem_singleton_self _
  have hk₁ : (Rd (F := F) m).amount ((c : Thread nD τ), .dma (s2S h r)) 0 0 = N := amount_cell m c (.inr (2, h, r)) 0 0
  have hk₂ : (Rd (F := F) m).amount ((fwd c r : Thread nD τ), .dma (r2S h r)) 0 0 = N := amount_cell m (fwd c r) (.inr (3, h, r)) 0 0
  have hO : rem (xOwe c 3 h) O (r :: l) = rem (xOwe c 3 h) O l + tallyAt ((fwd c r : Thread nD τ), .dma (r2S h r)) () N := rfl
  have hN : (slotV gM (grp c) h).view.amount (.dma (r2S h r)) = N := credG (grp c) h
  unfold gPts at *
  have hrule := (Rounds.wp_send_pointsTo (defs := defs₀ (F := F)) (Γ := .empty) 𝒱₀ ER (Rd m) (c : Thread nD τ) none (c' := (fwd c r : Thread nD τ)) (κ₁ := K (c, .inr (2, h, r))) (κ₂ := K (fwd c r, .inr (3, h, r)))
    (r₁ := 0) (r₂ := 0) (d₁ := 0) (d₂ := 0) (fd := f)
    hd₁ hd₂ () () N hN hk₁ hk₂ (rem (xOwe c 3 h) O l) hO (W := W) hpay₁ hpay₂ (src := slotV gM (grp c) h) (dst := slotV gM (grp c) h) (sS := .dma (s2S h r)) (sem := .dma (r2S h r)) (hsc := hsc) (hsrc := hsrc)
    (hdst := hdst) (hsem := hsem) (k := fun _ => k) (Q := Q) (Es := Set.univ))
  iapply hrule $$ [HO Ha Hd Ht Ht']
  · isplitr; · iexact HI
    isplitr; · iexact HI'
    isplitl [Ha]; · iexact Ha
    isplitl [Hd]; · iexact Hd
    isplitl [HO]; · iexact HO
    isplitl [Ht]; · iexact Ht
    isplitr; · iexact Hr
    isplitl [Ht']; · iexact Ht'
    iexact Hr'
  iintro ⟨Hc, HO⟩
  iapply Hk
  isplitl [HO]
  · isplitr; · iexact Hrec
    iexists W; iexact HO
  iexact Hc

theorem send2_step (c : Dev nD) (h : Fin 2) (O : CellTallies nD τ sig Unit) (r : Fin 31) (l : List (Fin 31)) (k : PP F) (Q : PUnit → sProp 𝕄) :
    iprop((recs m K ∗ ow c (rem (xOwe c 3 h) O (r :: l)))
        ∗ (gPts c (grp c) h (part (slot r)) (gatC m) ∗ (∃ f, gPts (fwd c r) (grp c) h fullShare f) ∗ tok c (.inr (2, h, r)) 0 ∗ tok (fwd c r) (.inr (3, h, r)) 0))
      ⊢ iprop((iprop((recs m K ∗ ow c (rem (xOwe c 3 h) O l)) ∗ crd c (.inr (2, h, r)) N) -∗ WP c k Q)
        -∗ WP c (send2Step c h r >>= fun _ => k) Q) :=
  send2_core m K c h O r l k Q (tgt c r) (tgt_eq c r) (slotF gM (gOff_eq c h)) (slotF_eq gM (o := grp c) (gOff_eq c h))

end Cert.KernelIdeal.Pf
-- ==== Proof.Local.lean ====
/-
The steps on a device's own buffers: the local copies, the stores, the places the loads read.
-/
module

public import proofs.«01_k».proof.Proof.Sends
public import Idealize.ShloMosaic.Lib.Pipeline.BigSepL

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

variable (K : Dev nD × CI → ℕ)

/-! ## Places -/

omit [FloatOps F] in
theorem set_gR (c : Dev nD) (h : Fin 2) : (gR c h).set = slotSet (grp c) h := by
  refine Finset.ext fun (i : S32x16x512.Idx) => ?_
  refine Iff.trans ?_ (mem_slotRect (grp c) h i)
  refine Rect.mem_set_unit.trans (Iff.trans ?_ Rect.mem_set_unit.symm)
  rw [gStOff_eq]
omit [FloatOps F] in
theorem setOn_gR (c : Dev nD) (h : Fin 2) : gM.view.setOn (gR c h).toLoadRect.set ⊆ slotSet (grp c) h := by
  refine (subset_of_eq ?_).trans (subset_of_eq (set_gR c h))
  exact Finset.map_refl
omit [FloatOps F] in
theorem access_gR (c : Dev nD) (h : Fin 2) : (gM.access (gR c h)).setOn Finset.univ ⊆ slotSet (grp c) h :=
  (subset_of_eq (View.set_slice_whole _ _)).trans (subset_of_eq (set_gR c h))

/-- Slot 0 and half `h` of the receiving buffer. -/
def ownSet : Finset S32x16x512.Idx := slotSet 0 0 ∪ slotSet 0 1
def halfSet (h : Fin 2) : Finset S32x16x512.Idx := Finset.univ.biUnion fun o : Fin 32 => slotSet o h
theorem mem_ownSet (i : S32x16x512.Idx) : i ∈ ownSet ↔ (i 0).val = 0 := by
  unfold ownSet
  rw [Finset.mem_union, mem_slotSet, mem_slotSet]
  have h2 : (i 2).val < 512 := (i 2).isLt
  show ((i 0).val = 0 ∧ (i 2).val / 256 = 0) ∨ ((i 0).val = 0 ∧ (i 2).val / 256 = 1) ↔ _
  omega
theorem mem_halfSet (h : Fin 2) (i : S32x16x512.Idx) : i ∈ halfSet h ↔ (i 2).val / 256 = h.val := by
  unfold halfSet
  rw [Finset.mem_biUnion]
  exact ⟨fun ⟨o, _, ho⟩ => (mem_slotSet.mp ho).2, fun hi => ⟨i 0, Finset.mem_univ _, mem_slotSet.mpr ⟨rfl, hi⟩⟩⟩
theorem mem_rOwn (i : S32x16x512.Idx) (hi : i ∈ rOwn.set) : i ∈ ownSet := by
  have h := Rect.mem_set_unit.mp hi (0 : Fin 3)
  have h' : (i 0).val < 0 + 1 := h.2
  rw [mem_ownSet]; omega
omit [FloatOps F] in
theorem setOn_rOwn : rM.view.setOn rOwn.toLoadRect.set ⊆ ownSet :=
  (subset_of_eq (Finset.map_refl : _ = rOwn.set)).trans fun i hi => mem_rOwn i hi
omit [FloatOps F] in
theorem access_rOwn : (rM.access rOwn).setOn Finset.univ ⊆ ownSet :=
  (subset_of_eq (View.set_slice_whole _ _)).trans fun i hi => mem_rOwn i hi
omit [FloatOps F] in
theorem setOn_hR (h : Fin 2) : rM.view.setOn (hR h).toLoadRect.set ⊆ halfSet h := by
  refine (subset_of_eq (Finset.map_refl : _ = (hR h).set)).trans fun (i : S32x16x512.Idx) hi => ?_
  have h2 := Rect.mem_set_unit.mp hi (2 : Fin 3)
  have h3 : 256 * h.val ≤ (i 2).val ∧ (i 2).val < 256 * h.val + 256 := h2
  rw [mem_halfSet]; omega

def rOwnPts (c : Dev nD) (f : (cc0_scratch3 : Ref sig .tc).ty.Contents (Elt F)) : sProp 𝕄 := ((c : Thread nD τ).loc cc0_scratch3) ↦[ownSet]{fullShare} f
def rHalfPts (c : Dev nD) (h : Fin 2) (f : (cc0_scratch3 : Ref sig .tc).ty.Contents (Elt F)) : sProp 𝕄 := ((c : Thread nD τ).loc cc0_scratch3) ↦[halfSet h]{fullShare} f
omit [FloatOps F] in
theorem own_disj : Disjoint (slotSet 0 0) (slotSet 0 1) := slot_disj (0, 0) (1, 0) (by decide)
omit [FloatOps F] in
theorem rOwn_split (c : Dev nD) (f) : rOwnPts (F := F) c f ⊢ iprop(rPts c 0 0 f ∗ rPts c 0 1 f) := by
  rw [rPts_set, rPts_set]
  exact (pointsTo_union own_disj).1
omit [FloatOps F] in
theorem rOwn_join (c : Dev nD) (f g) : iprop(rPts (F := F) c 0 0 f ∗ rPts c 0 1 g) ⊢ iprop(∃ f', rOwnPts c f') := by
  rw [rPts_set, rPts_set]
  refine (pointsTo_join own_disj).trans ?_
  iintro H; iexists _; unfold rOwnPts; iexact H
omit [FloatOps F] in
theorem rHalf_split (c : Dev nD) (h : Fin 2) (f) : rHalfPts (F := F) c h f = bigSep Finset.univ fun o : Fin 32 => rPts c o h f := by
  refine (pointsTo_biUnion (ℓ := (c : Thread nD τ).loc cc0_scratch3) Finset.univ (fun o : Fin 32 => slotSet o h) fun a _ b _ hab => slot_disj (h, a) (h, b) (fun e => hab (congrArg Prod.snd e))).trans ?_
  exact bigSep_congr fun o _ => (rPts_set c o h f).symm

/-! ## Stores -/

/-- The reduced rows, stored in the device's row group. -/
theorem red_written (c : Dev nD) (h : Fin 2) (f : (cc0_scratch4 : Ref sig .tc).ty.Contents (Elt F)) (v : Vec F S1x16x256 .bf16) (i : S32x16x512.Idx)
    (hi : i ∈ slotSet (grp c) h) :
    (gM.access (gR c h) : View sig .tc _ _ _).write (Elt F) f v Finset.univ i
      = v (ix3 (0 : Fin 1) (⟨(i 1).val, (i 1).isLt⟩ : Fin 16) (⟨(i 2).val - 256 * h.val, by have := (mem_slotSet.mp hi).2; have : (i 2).val < 512 := (i 2).isLt; omega⟩ : Fin 256)) := by
  have hs := mem_slotSet.mp hi
  generalize hj : (⟨(i 2).val - 256 * h.val, _⟩ : Fin 256) = j
  have hj' : j.val = (i 2).val - 256 * h.val := by rw [← hj]
  have he : (gM.access (gR c h) : View sig .tc _ _ _).emb (ix3 (0 : Fin 1) (⟨(i 1).val, (i 1).isLt⟩ : Fin 16) j) = i := by
    show (gR c h).emb _ = i
    have e := congrFun (gStOff_eq c h)
    funext a
    apply Fin.ext
    revert a
    refine forall3.mpr ⟨?_, ?_, ?_⟩
    · show gStOff c h 0 + 1 * 0 = (i 0).val; rw [e 0]; exact hs.1.symm
    · show gStOff c h 1 + 1 * (i 1).val = (i 1).val; rw [e 1]; show 0 + 1 * (i 1).val = (i 1).val; omega
    · show gStOff c h 2 + 1 * j.val = (i 2).val; rw [e 2]; show 256 * h.val + 1 * j.val = (i 2).val; omega
  refine (congrArg _ he.symm).trans ((View.write_emb_of_mem _ _ (Finset.mem_univ _)).trans ?_)
  rfl
theorem gat_stored (c : Dev nD) (h : Fin 2) (f : (cc0_scratch4 : Ref sig .tc).ty.Contents (Elt F)) :
    ∀ i ∈ slotSet (grp c) h, (gM.access (gR c h) : View sig .tc _ _ _).write (Elt F) f (redOf h (rM.view.readAt (Elt F) (hR h).toLoadRect (rcvC m c))) Finset.univ i = gatC m i := by
  intro i hi
  have hs := mem_slotSet.mp hi
  have h0 : i 0 = grp c := Fin.ext hs.1
  have h2 : hOf (i 2) = h := Fin.ext hs.2
  refine (red_written c h f _ i hi).trans ?_
  unfold gatC
  subst h2
  rw [h0]

/-! ## Local copies -/

theorem copyq_step (c : Dev nD) (f) (k : PUnit → PP F) (Q : PUnit → sProp 𝕄):
    iprop(recs m K ∗ (qPts c f ∗ wqPts m c ∗ tok c (.inl 1) 0))
      ⊢ iprop((crd c (.inl 1) Nq -∗ WP c (k ⟨⟩) Q) -∗ WP c (.op (.enqueueDma (wqV c) (.here qM) (.dma (locS 0)) (View.wordExact_bits rfl) (Memref.isWhole_whole _).wordExact ⟨Or.inl rfl, trivial⟩) k) Q) := by
  unfold tok crd
  iintro ⟨#Hrec, Hq, Hw, Ht⟩ Hk
  ihave Hci := (recs_cell m K c (.inl 1)) $$ Hrec
  icases Hci with ⟨#HI, #Hr⟩
  have hpay : iprop((qM.view.loc (c : Thread nD τ) ↦[qM.view.set]{fullShare} (qM.view.write (Elt F) f ((wqV c).view.read (Elt F) (m ((c : Thread nD τ).loc main_arg1))) Finset.univ))
      ∗ ((wqV c).view.loc (c : Thread nD τ) ↦[(wqV c).view.set]{fullShare} (m ((c : Thread nD τ).loc main_arg1)))) ⊢ (Rd m).payload (cell c (.inl 1)) 0 0 := by
    rw [payload_cell m c (.inl 1) 0 0]
    show _ ⊢ iprop(qPts c (wqC m c) ∗ wqPts m c)
    unfold qPts wqPts wqC
    rw [show qM.view.write (Elt F) f ((wqV c).view.read (Elt F) (m ((c : Thread nD τ).loc main_arg1))) Finset.univ
      = (wqV c).view.read (Elt F) (m ((c : Thread nD τ).loc main_arg1)) from View.write_whole_univ cc0_scratch0 _ _]
  have hd : (0 : Fin 31) ∈ (Rd (F := F) m).duties ((c : Thread nD τ), .dma (locS 0)) 0 := by
    rw [show ((c : Thread nD τ), SemLoc.dma (locS 0)) = cell c (.inl 1) from rfl, duties_cell]; exact Finset.mem_singleton_self _
  have hk : (Rd (F := F) m).amount ((c : Thread nD τ), .dma (locS 0)) 0 0 = Nq := amount_cell m c (.inl 1) 0 0
  unfold qPts wqPts
  have hrule := (Rounds.wp_copy_pointsTo (defs := defs₀ (F := F)) (Γ := .empty) 𝒱₀ ER (Rd m) (c : Thread nD τ) none (κ := K (c, .inl 1))
    (r := 0) (d := 0) (fd := f) hd () Nq rfl hk hpay (src := wqV c) (dst := qM) (sem := .dma (locS 0)) (hsrc := View.wordExact_bits rfl)
    (hdst := (Memref.isWhole_whole _).wordExact) (hsem := ⟨Or.inl rfl, trivial⟩) (k := k) (Q := Q) (Es := Set.univ))
  iapply hrule $$ [Hq Hw Ht]
  · isplitr; · iexact HI
    isplitl [Hw]; · iexact Hw
    isplitl [Hq]; · iexact Hq
    isplitl [Ht]; · iexact Ht
    iexact Hr
  iexact Hk

theorem copyp_step (c : Dev nD) (f) (k : PUnit → PP F) (Q : PUnit → sProp 𝕄):
    iprop(recs m K ∗ (pPts c f ∗ woPts m c ∗ tok c (.inl 2) 0))
      ⊢ iprop((crd c (.inl 2) Np -∗ WP c (k ⟨⟩) Q) -∗ WP c (.op (.enqueueDma (woV c) (.here pM) (.dma (locS 1)) (View.wordExact_bits rfl) (Memref.isWhole_whole _).wordExact ⟨Or.inl rfl, trivial⟩) k) Q) := by
  unfold tok crd
  iintro ⟨#Hrec, Hq, Hw, Ht⟩ Hk
  ihave Hci := (recs_cell m K c (.inl 2)) $$ Hrec
  icases Hci with ⟨#HI, #Hr⟩
  have hpay : iprop((pM.view.loc (c : Thread nD τ) ↦[pM.view.set]{fullShare} (pM.view.write (Elt F) f ((woV c).view.read (Elt F) (m ((c : Thread nD τ).loc main_arg4))) Finset.univ))
      ∗ ((woV c).view.loc (c : Thread nD τ) ↦[(woV c).view.set]{fullShare} (m ((c : Thread nD τ).loc main_arg4)))) ⊢ (Rd m).payload (cell c (.inl 2)) 0 0 := by
    rw [payload_cell m c (.inl 2) 0 0]
    show _ ⊢ iprop(pPts c (woC m c) ∗ woPts m c)
    unfold pPts woPts woC
    rw [show pM.view.write (Elt F) f ((woV c).view.read (Elt F) (m ((c : Thread nD τ).loc main_arg4))) Finset.univ
      = (woV c).view.read (Elt F) (m ((c : Thread nD τ).loc main_arg4)) from View.write_whole_univ cc0_scratch1 _ _]
  have hd : (0 : Fin 31) ∈ (Rd (F := F) m).duties ((c : Thread nD τ), .dma (locS 1)) 0 := by
    rw [show ((c : Thread nD τ), SemLoc.dma (locS 1)) = cell c (.inl 2) from rfl, duties_cell]; exact Finset.mem_singleton_self _
  have hk : (Rd (F := F) m).amount ((c : Thread nD τ), .dma (locS 1)) 0 0 = Np := amount_cell m c (.inl 2) 0 0
  unfold pPts woPts
  have hrule := (Rounds.wp_copy_pointsTo (defs := defs₀ (F := F)) (Γ := .empty) 𝒱₀ ER (Rd m) (c : Thread nD τ) none (κ := K (c, .inl 2))
    (r := 0) (d := 0) (fd := f) hd () Np rfl hk hpay (src := woV c) (dst := pM) (sem := .dma (locS 1)) (hsrc := View.wordExact_bits rfl)
    (hdst := (Memref.isWhole_whole _).wordExact) (hsem := ⟨Or.inl rfl, trivial⟩) (k := k) (Q := Q) (Es := Set.univ))
  iapply hrule $$ [Hq Hw Ht]
  · isplitr; · iexact HI
    isplitl [Hw]; · iexact Hw
    isplitl [Hq]; · iexact Hq
    isplitl [Ht]; · iexact Ht
    iexact Hr
  iexact Hk

end Cert.KernelIdeal.Pf
-- ==== Proof.Phases.lean ====
/-
The phases of the program, each from what it needs to what it leaves.
-/
module

public import proofs.«01_k».proof.Proof.Local
public import Idealize.ShloMosaic.Lib.Pipeline.BigSepL

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

variable (K : Dev nD × CI → ℕ)

/-! ## The whole buffers a device reads or writes -/

def xPts (c : Dev nD) : sProp 𝕄 := ((c : Thread nD τ).loc cc0_stg0_0) ↦{fullShare} (xC m c)
def kPts (c : Dev nD) : sProp 𝕄 := ((c : Thread nD τ).loc cc0_stg1_0) ↦{fullShare} (kC m c)
def vPts (c : Dev nD) : sProp 𝕄 := ((c : Thread nD τ).loc cc0_stg2_0) ↦{fullShare} (vC m c)
def oPts (c : Dev nD) (f : (cc0_stg3_0 : Ref sig .tc).ty.Contents (Elt F)) : sProp 𝕄 := ((c : Thread nD τ).loc cc0_stg3_0) ↦{fullShare} f

/-- A wait for a local copy. -/
theorem loc_wait (c : Dev nD) (i : CI) (hi : duty i = {0}) (n : ℕ) (hn : amt i = n) (sm : DmaSem sig) (hs : csem i = .dma sm) (P : sProp 𝕄) (hP : pay m c i 0 = P)
    (O : CellTallies nD τ sig Unit) (hO : Above (lvI (some i)) O) {w : PE F PUnit}
    (hw : ∀ Kt : PUnit → sProp 𝕄, wpE (defs₀ (F := F)) 𝒱₀ (c : Thread nD τ) none Set.univ w Kt = waitSpec (c : Thread nD τ) Set.univ (.dma sm) n Kt)
    (k : PUnit → PP F) (Q : PUnit → sProp 𝕄) :
    iprop(recs m K ∗ (ow c O ∗ crd c i n ∗ at0 c i))
      ⊢ iprop((iprop(ow c O ∗ P ∗ zer c i) -∗ WP c (k ⟨⟩) Q) -∗ WP c (.op w k) Q) := by
  subst hP hn
  rw [← hs] at hw
  exact wp_wait_one m K c i hi O hO hw k Q

theorem hz2 : (![0, 0] : Fin 2 → Nat) = fun _ => 0 := funext fun a => by revert a; exact forall2.mpr ⟨rfl, rfl⟩
theorem hz3 : (![0, 0, 0] : Fin 3 → Nat) = fun _ => 0 := funext fun a => by revert a; exact forall3.mpr ⟨rfl, rfl, rfl⟩

theorem ctx_wp (c : Dev nD) (k : FVec F S512x256 .bf16 → PP F) (Q : PUnit → sProp 𝕄) (z : FVec F S512x256 .bf16) (hz : z = ctxC m c) :
    WP c (k (ctxC m c)) Q ⊢ WP c (k z) Q := Entails.of_eq (by rw [hz])

/-- The context rows, the operands loaded one head at a time. -/
theorem ph_attend (c : Dev nD) (O : CellTallies nD τ sig Unit) (hO : Above 0 O) (k : FVec F S512x256 .bf16 → PP F) (Q : PUnit → sProp 𝕄) :
    iprop(recs m K ∗ (ow c O ∗ crd c (.inl 1) Nq ∗ at0 c (.inl 1)) ∗ (xPts m c ∗ kPts m c ∗ vPts m c))
      ⊢ iprop((iprop(ow c O ∗ (qPts c (wqC m c) ∗ wqPts m c ∗ zer c (.inl 1)) ∗ (xPts m c ∗ kPts m c ∗ vPts m c)) -∗ WP c (k (ctxC m c)) Q)
        -∗ WP c (attend c k) Q) := by
  simp only [attend, kvLoad, Prog.lift, Prog.bind_op, Prog.bind_ret, Prog.pure_eq_ret]
  unfold xPts kPts vPts
  iintro ⟨#Hrec, Hw, Hx, Hkk, Hv⟩ Hk
  iapply (loc_wait m K c (.inl 1) rfl Nq rfl (locS 0) rfl iprop(qPts c (wqC m c) ∗ wqPts m c) rfl O hO (wpE_waitDma2_eq 𝒱₀ (c : Thread nD τ) none Set.univ) _ Q) $$ [Hw]
  · isplitr; · iexact Hrec
    iexact Hw
  iintro ⟨HO, ⟨Hq, Hwq⟩, Hz⟩
  iapply (wp_load 𝒱₀ (c : Thread nD τ) none Set.univ (m := xM) (Finset.subset_univ _)) $$ Hx; iintro Hx
  unfold qPts
  iapply (wp_load 𝒱₀ (c : Thread nD τ) none Set.univ (m := qM) (by rw [View.set_whole]; exact Finset.subset_univ _)) $$ Hq; iintro Hq
  iapply (wp_load 𝒱₀ (c : Thread nD τ) none Set.univ (m := kM) (Finset.subset_univ _)) $$ Hkk; iintro Hkk
  iapply (wp_load 𝒱₀ (c : Thread nD τ) none Set.univ (m := vM) (Finset.subset_univ _)) $$ Hv; iintro Hv
  iapply (wp_load 𝒱₀ (c : Thread nD τ) none Set.univ (m := kM) (Finset.subset_univ _)) $$ Hkk; iintro Hkk
  iapply (wp_load 𝒱₀ (c : Thread nD τ) none Set.univ (m := vM) (Finset.subset_univ _)) $$ Hv; iintro Hv
  iapply (wp_load 𝒱₀ (c : Thread nD τ) none Set.univ (m := kM) (Finset.subset_univ _)) $$ Hkk; iintro Hkk
  iapply (wp_load 𝒱₀ (c : Thread nD τ) none Set.univ (m := vM) (Finset.subset_univ _)) $$ Hv; iintro Hv
  iapply (wp_load 𝒱₀ (c : Thread nD τ) none Set.univ (m := kM) (Finset.subset_univ _)) $$ Hkk; iintro Hkk
  iapply (wp_load 𝒱₀ (c : Thread nD τ) none Set.univ (m := vM) (Finset.subset_univ _)) $$ Hv; iintro Hv
  iapply (wp_load 𝒱₀ (c : Thread nD τ) none Set.univ (m := kM) (Finset.subset_univ _)) $$ Hkk; iintro Hkk
  iapply (wp_load 𝒱₀ (c : Thread nD τ) none Set.univ (m := vM) (Finset.subset_univ _)) $$ Hv; iintro Hv
  iapply (wp_load 𝒱₀ (c : Thread nD τ) none Set.univ (m := kM) (Finset.subset_univ _)) $$ Hkk; iintro Hkk
  iapply (wp_load 𝒱₀ (c : Thread nD τ) none Set.univ (m := vM) (Finset.subset_univ _)) $$ Hv; iintro Hv
  iapply (wp_load 𝒱₀ (c : Thread nD τ) none Set.univ (m := kM) (Finset.subset_univ _)) $$ Hkk; iintro Hkk
  iapply (wp_load 𝒱₀ (c : Thread nD τ) none Set.univ (m := vM) (Finset.subset_univ _)) $$ Hv; iintro Hv
  iapply (wp_load 𝒱₀ (c : Thread nD τ) none Set.univ (m := kM) (Finset.subset_univ _)) $$ Hkk; iintro Hkk
  iapply (wp_load 𝒱₀ (c : Thread nD τ) none Set.univ (m := vM) (Finset.subset_univ _)) $$ Hv; iintro Hv
  iapply (ctx_wp m c k Q _ (congrArg₂ (ctxOf (xM.view.readAt (Elt F) rX.toLoadRect (xC m c)) (qM.view.readAt (Elt F) rQ.toLoadRect (wqC m c)))
    (funext fun b => funext fun i => by revert b i; exact fun | 0, 0 => rfl | 0, 1 => rfl | 0, 2 => rfl | 0, 3 => rfl | 1, 0 => rfl | 1, 1 => rfl | 1, 2 => rfl | 1, 3 => rfl)
    (funext fun b => funext fun i => by revert b i; exact fun | 0, 0 => rfl | 0, 1 => rfl | 0, 2 => rfl | 0, 3 => rfl | 1, 0 => rfl | 1, 1 => rfl | 1, 2 => rfl | 1, 3 => rfl)))
  iapply Hk
  isplitl [HO]; · iexact HO
  isplitl [Hq Hwq Hz]
  · isplitl [Hq]; · iexact Hq
    isplitl [Hwq]; · iexact Hwq
    iexact Hz
  isplitl [Hx]; · iexact Hx
  isplitl [Hkk]; · iexact Hkk
  iexact Hv

omit [FloatOps F] in
theorem stored_all (f : (cc0_scratch2 : Ref sig .tc).ty.Contents (Elt F)) (w : FVec F S512x512 .bf16) :
    (aM.access rAll : View sig .tc _ _ _).write (Elt F) f w Finset.univ = w :=
  Memref.write_access_unit_zero_univ (Elt F) cc0_scratch2 hz2 _ f w
omit [FloatOps F] in
theorem stored_out (f : (cc0_stg3_0 : Ref sig .tc).ty.Contents (Elt F)) (w : Vec F S2x256x512 .f32) :
    (oM.access (Rect.unit (s := S2x256x512) ![0, 0, 0] S2x256x512.size inb_S2x256x512_S2x256x512_0_0_0) : View sig .tc _ _ _).write (Elt F) f w Finset.univ = w :=
  Memref.write_access_unit_zero_univ (Elt F) cc0_stg3_0 hz3 _ f w

/-- The own piece after its store. -/
theorem own_stored (c : Dev nD) (f : (cc0_scratch3 : Ref sig .tc).ty.Contents (Elt F)) :
    ((rM.access rOwn : View sig .tc _ _ _).loc (c : Thread nD τ) ↦[ownSet]{fullShare} ((rM.access rOwn : View sig .tc _ _ _).write (Elt F) f (k0_pay24 (aM.view.readAt (Elt F)
      (Rect.unit (s := S512x512) (k0_off3 c) S16x512.size (k0_off3_inb c)).toLoadRect (k0_pay23 (ctxC m c) (pM.view.readAt (Elt F) rP.toLoadRect (woC m c))))) Finset.univ))
      ⊢ iprop(rPts c 0 0 (rcvC m c) ∗ rPts c 0 1 (rcvC m c)) := by
  refine (rOwn_split c ((rM.access rOwn : View sig .tc _ _ _).write (Elt F) f (k0_pay24 (aM.view.readAt (Elt F)
      (Rect.unit (s := S512x512) (k0_off3 c) S16x512.size (k0_off3_inb c)).toLoadRect (prtC m c))) Finset.univ)).trans ?_
  rw [rPts_set, rPts_set, rPts_set, rPts_set]
  exact Idealize.SL.BI.sep_mono (Entails.of_eq (pointsTo_congr (own_written m c f 0))) (Entails.of_eq (pointsTo_congr (own_written m c f 1)))

/-- The partial product, its own piece, and the partners' arrival. -/
theorem ph_product (c : Dev nD) (O : CellTallies nD τ sig Unit) (hO : Above 1 O) (f0) (g0) (k : PP F) (Q : PUnit → sProp 𝕄) :
    iprop(recs m K ∗ (ow c O ∗ crd c (.inl 2) Np ∗ at0 c (.inl 2)) ∗ (crd c (.inl 0) 31 ∗ at0 c (.inl 0)) ∗ aAllPts c f0 ∗ rOwnPts c g0)
      ⊢ iprop((iprop(ow c O ∗ (pPts c (woC m c) ∗ woPts m c ∗ zer c (.inl 2)) ∗ (bigSep Finset.univ (barPay c) ∗ zer c (.inl 0)) ∗ aAllPts c (prtC m c)
          ∗ (rPts c 0 0 (rcvC m c) ∗ rPts c 0 1 (rcvC m c))) -∗ WP c k Q)
        -∗ WP c (product c (ctxC m c) k) Q) := by
  have hbar := wp_wait_cell m K c (.inl 0) 31 (by rw [expect_cell]; rfl) O hO (w := .semWait barS 31) (wpE_semWait_eq 𝒱₀ (c : Thread nD τ) none Set.univ) (fun _ => k) Q
  simp only [product, Prog.lift, Prog.bind_op, Prog.bind_ret, Prog.pure_eq_ret]
  iintro ⟨#Hrec, Hw, ⟨Hcb, Hab⟩, Ha, Hr⟩ Hk
  iapply (loc_wait m K c (.inl 2) rfl Np rfl (locS 1) rfl iprop(pPts c (woC m c) ∗ woPts m c) rfl O (hO.mono (by decide)) (wpE_waitDma2_eq 𝒱₀ (c : Thread nD τ) none Set.univ) _ Q) $$ [Hw]
  · isplitr; · iexact Hrec
    iexact Hw
  iintro ⟨HO, ⟨Hp, Hwo⟩, Hz⟩
  unfold pPts aAllPts
  iapply (wp_load 𝒱₀ (c : Thread nD τ) none Set.univ (m := pM) (by rw [View.set_whole]; exact Finset.subset_univ _)) $$ Hp; iintro Hp
  iapply (wp_load 𝒱₀ (c : Thread nD τ) none Set.univ (m := aM) (Finset.subset_univ _)) $$ Ha; iintro Ha
  iapply (wp_store 𝒱₀ (c : Thread nD τ) none Set.univ (m := aM) (r := rAll) (Mk := Finset.univ) (Finset.subset_univ _)) $$ Ha; iintro Ha
  rw [stored_all]
  iapply (wp_load 𝒱₀ (c : Thread nD τ) none Set.univ (m := aM) (Finset.subset_univ _)) $$ Ha; iintro Ha
  unfold rOwnPts
  iapply (wp_load 𝒱₀ (c : Thread nD τ) none Set.univ (m := rM) setOn_rOwn) $$ Hr; iintro Hr
  iapply (wp_store 𝒱₀ (c : Thread nD τ) none Set.univ (m := rM) (r := rOwn) (Mk := Finset.univ) access_rOwn) $$ Hr; iintro Hr
  ihave Hr := (own_stored m c g0) $$ Hr
  iapply hbar $$ [HO Hcb Hab]
  · isplitr; · iexact Hrec
    isplitl [HO]; · iexact HO
    isplitl [Hcb] <;> iassumption
  iintro ⟨HO, Hb, Hzb⟩
  iapply Hk
  isplitl [HO]; · iexact HO
  isplitl [Hp Hwo Hz]
  · isplitl [Hp]; · iexact Hp
    isplitl [Hwo] <;> iassumption
  isplitl [Hb Hzb]
  · isplitl [Hb]; · iexact Hb
    iexact Hzb
  isplitl [Ha]; · iexact Ha
  iexact Hr

/-! ## Row groups of the gathered buffer, in shares -/

/-- The shares of a row group that go along with the sends. -/
def gRest (c : Dev nD) (o : Fin 32) (h : Fin 2) (f : (cc0_scratch4 : Ref sig .tc).ty.Contents (Elt F)) : sProp 𝕄 :=
  bigSep Finset.univ fun r : Fin 31 => gPts c o h (part (slot r)) f

omit [FloatOps F] in
theorem pts_parts {ℓ : Loc nD τ sig} (I : Finset (Idx ℓ)) (f : Buf (Elt F) ℓ) :
    (ℓ ↦[I]{fullShare} f : sProp 𝕄) = bigSep Finset.univ fun i : Fin 32 => (ℓ ↦[I]{part i} f) := ShareLeaves.pointsTo_leaves I f 5 fullShare
omit [FloatOps F] in
theorem gPts_shares (c : Dev nD) (o : Fin 32) (h : Fin 2) (f) : gPts (F := F) c o h fullShare f = iprop(gPts c o h (part 0) f ∗ gRest c o h f) := by
  have h1 : gPts (F := F) c o h fullShare f = bigSep Finset.univ fun i : Fin 32 => gPts c o h (part i) f := by
    unfold gPts
    exact pts_parts (ℓ := (slotV gM o h).view.loc (c : Thread nD τ)) (slotV gM o h).view.set f
  exact h1.trans (bigSep_around 0 slot slot_inj slot_ne _)

/-- The own row group and the received ones: everywhere the share kept. -/
theorem gather_half (c : Dev nD) (h : Fin 2) (f) :
    iprop(gPts (F := F) c (grp c) h (part 0) f ∗ bigSep Finset.univ fun r : Fin 31 => gPts c (grp (bwd c r)) h fullShare f)
      ⊢ iprop((bigSep Finset.univ fun o : Fin 32 => gPts c o h (part 0) f) ∗ bigSep Finset.univ fun r : Fin 31 => gRest c (grp (bwd c r)) h f) := by
  rw [bigSep_around (grp c) (fun r => grp (bwd c r)) (bwd_inj c) (grp_bwd_ne c) (fun o => gPts c o h (part 0) f),
    bigSep_congr (s := Finset.univ) (fun (r : Fin 31) _ => gPts_shares c (grp (bwd c r)) h f), bigSep_sep']
  iintro ⟨Ha, Hb, Hc⟩
  isplitr [Hc]
  · isplitl [Ha] <;> iassumption
  iexact Hc

/-- The whole half again. -/
theorem ungather_half (c : Dev nD) (h : Fin 2) (f) :
    iprop((bigSep Finset.univ fun o : Fin 32 => gPts (F := F) c o h (part 0) f) ∗ gRest c (grp c) h f ∗ bigSep Finset.univ fun r : Fin 31 => gRest c (grp (bwd c r)) h f)
      ⊢ (bigSep Finset.univ fun o : Fin 32 => gPts c o h fullShare f : sProp 𝕄) := by
  rw [bigSep_congr (s := Finset.univ) (fun (o : Fin 32) _ => gPts_shares c o h f), bigSep_sep',
    bigSep_around (grp c) (fun r => grp (bwd c r)) (bwd_inj c) (grp_bwd_ne c) (fun o => gRest c o h f)]

/-- The reduced rows after their store. -/
theorem red_stored (c : Dev nD) (h : Fin 2) (f : (cc0_scratch4 : Ref sig .tc).ty.Contents (Elt F)) :
    ((gM.access (gR c h) : View sig .tc _ _ _).loc (c : Thread nD τ) ↦[slotSet (grp c) h]{fullShare}
      ((gM.access (gR c h) : View sig .tc _ _ _).write (Elt F) f (redOf h (rM.view.readAt (Elt F) (hR h).toLoadRect (rcvC m c))) Finset.univ))
      ⊢ iprop(gPts c (grp c) h (part 0) (gatC m) ∗ gRest c (grp c) h (gatC m)) := by
  rw [← gPts_shares, gPts_set]
  exact Entails.of_eq (pointsTo_congr (gat_stored m c h f))

/-- One half: its pieces received, reduced, and the reduced rows sent. -/
theorem ph_reduce (c : Dev nD) (h : Fin 2) (O : CellTallies nD τ sig Unit) (hO : Above 2 (rem (xOwe c 3 h) O offs)) (g0) (k : PP F) (Q : PUnit → sProp 𝕄) :
    iprop(recs m K ∗ ow c (rem (xOwe c 3 h) O offs) ∗ (bigSep Finset.univ fun r : Fin 31 => iprop(crd c (.inr (1, h, r)) N ∗ at0 c (.inr (1, h, r))))
        ∗ rPts c 0 h (rcvC m c) ∗ gPts c (grp c) h fullShare g0
        ∗ bigSep Finset.univ fun r : Fin 31 => iprop((∃ f, gPts (fwd c r) (grp c) h fullShare f) ∗ tok c (.inr (2, h, r)) 0 ∗ tok (fwd c r) (.inr (3, h, r)) 0))
      ⊢ iprop((iprop(ow c O ∗ rHalfPts c h (rcvC m c) ∗ gPts c (grp c) h (part 0) (gatC m)
          ∗ (bigSep Finset.univ fun r : Fin 31 => zer c (.inr (1, h, r))) ∗ bigSep Finset.univ fun r : Fin 31 => crd c (.inr (2, h, r)) N) -∗ WP c k Q)
        -∗ WP c (reduceHalf c h k) Q) := by
  have h1 := fun k => wp_offs (F := F) c (recv1Step h) (fun _ => iprop(recs m K ∗ ow c (rem (xOwe c 3 h) O offs)))
    (fun r => iprop(crd c (.inr (1, h, r)) N ∗ at0 c (.inr (1, h, r)))) (fun r => iprop(rPts c (slot r) h (rcvC m c) ∗ zer c (.inr (1, h, r))))
    (fun r l k Q => recv1_step m K c h _ hO r k Q) k Q
  have h2 := wp_offs (F := F) c (send2Step c h) (fun l => iprop(recs m K ∗ ow c (rem (xOwe c 3 h) O l)))
    (fun r => iprop(gPts c (grp c) h (part (slot r)) (gatC m) ∗ (∃ f, gPts (fwd c r) (grp c) h fullShare f) ∗ tok c (.inr (2, h, r)) 0 ∗ tok (fwd c r) (.inr (3, h, r)) 0))
    (fun r => crd c (.inr (2, h, r)) N)
    (fun r l k Q => send2_step m K c h O r l k Q) k Q
  rw [bigSep_sep'] at h2
  unfold reduceHalf
  iintro ⟨#Hrec, HO, Hc, Hr0, Hg, Hs⟩ Hk
  iapply (h1 _) $$ [HO Hc]
  · isplitl [HO]
    · isplitr; · iexact Hrec
      iexact HO
    iexact Hc
  iintro ⟨⟨-, HO⟩, Hp⟩
  ihave Hp := (Entails.of_eq (bigSep_sep' (s := (Finset.univ : Finset (Fin 31))) (fun r : Fin 31 => rPts c (slot r) h (rcvC m c)) (fun r => zer c (.inr (1, h, r))))) $$ Hp
  icases Hp with ⟨Hp, Hz⟩
  ihave Hr := (Entails.of_eq ((rHalf_split c h (rcvC m c)).trans (bigSep_around 0 slot slot_inj slot_ne fun o => rPts c o h (rcvC m c))).symm) $$ [Hr0 Hp]
  · isplitl [Hr0] <;> iassumption
  unfold rHalfPts
  simp only [Prog.lift, Prog.bind_op, Prog.bind_ret, Prog.pure_eq_ret]
  ihave Hg := (Entails.of_eq (gPts_set c (grp c) h fullShare g0)) $$ Hg
  iapply (wp_load 𝒱₀ (c : Thread nD τ) none Set.univ (m := rM) (setOn_hR h)) $$ Hr; iintro Hr
  iapply (wp_load 𝒱₀ (c : Thread nD τ) none Set.univ (m := gM) (setOn_gR c h)) $$ Hg; iintro Hg
  iapply (wp_store 𝒱₀ (c : Thread nD τ) none Set.univ (m := gM) (r := gR c h) (Mk := Finset.univ) (access_gR c h)) $$ Hg; iintro Hg
  ihave Hg := (red_stored m c h g0) $$ Hg
  icases Hg with ⟨Hg0, Hgs⟩
  iapply h2 $$ [HO Hgs Hs]
  · isplitl [HO]
    · isplitr; · iexact Hrec
      iexact HO
    isplitl [Hgs]
    · unfold gRest; iexact Hgs
    iexact Hs
  iintro ⟨⟨-, HO⟩, Hc2⟩
  iapply Hk
  isplitl [HO]; · iexact HO
  isplitl [Hr]; · iexact Hr
  isplitl [Hg0]; · iexact Hg0
  isplitl [Hz] <;> iassumption

/-- The output block, written. -/
theorem ph_out (c : Dev nD) (q) (f0) (k : PP F) (Q : PUnit → sProp 𝕄) :
    iprop(gAllPts c q (gatC m) ∗ oPts c f0)
      ⊢ iprop((iprop(gAllPts c q (gatC m) ∗ oPts c (outC m)) -∗ WP c k Q) -∗ WP c (writeOut k) Q) := by
  simp only [writeOut, Prog.lift, Prog.bind_op, Prog.bind_ret, Prog.pure_eq_ret]
  unfold gAllPts oPts
  iintro ⟨Hg, Ho⟩ Hk
  iapply (wp_load 𝒱₀ (c : Thread nD τ) none Set.univ (m := gM) (Finset.subset_univ _)) $$ Hg; iintro Hg
  iapply (wp_load 𝒱₀ (c : Thread nD τ) none Set.univ (m := oM) (Finset.subset_univ _)) $$ Ho; iintro Ho
  iapply (wp_store 𝒱₀ (c : Thread nD τ) none Set.univ (m := oM) (r := Rect.unit (s := S2x256x512) ![0, 0, 0] S2x256x512.size inb_S2x256x512_S2x256x512_0_0_0) (Mk := Finset.univ) (Finset.subset_univ _)) $$ Ho; iintro Ho
  rw [stored_out]
  iapply Hk
  isplitl [Hg]; · iexact Hg
  iexact Ho

end Cert.KernelIdeal.Pf
-- ==== Proof.Body.lean ====
/-
The body of the kernel: from what a device starts with to what it leaves.
-/
module

public import proofs.«01_k».proof.Proof.Phases
public import Idealize.ShloMosaic.Lib.Pipeline.BigSepL

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

variable (K : Dev nD × CI → ℕ)

/-! ## Dealing out and collecting -/

omit [FloatOps F] in
theorem a_deal (c : Dev nD) (f) : aAllPts (F := F) c f = iprop((aGrp c (grp c) 0 f ∗ bigSep Finset.univ fun r : Fin 31 => aPts c 0 r f)
    ∗ (aGrp c (grp c) 1 f ∗ bigSep Finset.univ fun r : Fin 31 => aPts c 1 r f)) := by
  have hh : ∀ h : Fin 2, (bigSep Finset.univ fun g : Fin 32 => aGrp (F := F) c g h f) = iprop(aGrp c (grp c) h f ∗ bigSep Finset.univ fun r : Fin 31 => aPts c h r f) := fun h => by
    rw [bigSep_around (grp c) (fun r => grp (fwd c r)) (fwd_inj c) (grp_fwd_ne c) (fun g => aGrp c g h f)]
    rw [bigSep_congr (s := Finset.univ) (fun (r : Fin 31) _ => aPts_grp c h r f)]
  rw [aAll_split, bigSep_univ_two, hh, hh]

def rvE : Fin 31 ≃ Fin 31 := ⟨rv, rv, rv_rv, rv_rv⟩

omit [FloatOps F] in
theorem r_deal (c : Dev nD) (h : Fin 2) (f) : (bigSep Finset.univ fun o : Fin 32 => rPts (F := F) c o h f)
    = iprop(rPts c 0 h f ∗ bigSep Finset.univ fun r : Fin 31 => rPts c (slot (rv r)) h f) := by
  rw [bigSep_around 0 slot slot_inj slot_ne (fun o => rPts c o h f), bigSep_univ_equiv rvE (fun r : Fin 31 => rPts c (slot r) h f)]
  rfl
omit [FloatOps F] in
theorem g_deal (c : Dev nD) (h : Fin 2) (f) : (bigSep Finset.univ fun o : Fin 32 => gPts (F := F) c o h fullShare f)
    = iprop(gPts c (grp c) h fullShare f ∗ bigSep Finset.univ fun r : Fin 31 => gPts c (grp (fwd c r)) h fullShare f) :=
  bigSep_around (grp c) (fun r => grp (fwd c r)) (fwd_inj c) (grp_fwd_ne c) (fun o => gPts c o h fullShare f)

omit [FloatOps F] in
/-- The receiving and the gathered buffer: what the device keeps, and what its signals hand over. -/
theorem deal_places (c : Dev nD) (f g) : iprop(rAllPts (F := F) c f ∗ gAllPts c fullShare g)
    ⊢ iprop((∃ f, rOwnPts c f) ∗ gPts c (grp c) 0 fullShare g ∗ gPts c (grp c) 1 fullShare g ∗ bigSep Finset.univ (sigPay c)) := by
  rw [rAll_split, gAll_split, bigSep_univ_two, bigSep_univ_two, r_deal, r_deal, g_deal, g_deal]
  have hone : ∀ r : Fin 31, iprop((rPts (F := F) c (slot (rv r)) 0 f ∗ rPts c (slot (rv r)) 1 f) ∗ gPts c (grp (fwd c r)) 0 fullShare g ∗ gPts c (grp (fwd c r)) 1 fullShare g)
      ⊢ sigPay c r := fun r => by
    unfold sigPay
    iintro ⟨⟨Ha, Hb⟩, Hc, Hd⟩
    isplitl [Ha Hb]
    · isplitl [Ha]
      · iexists f; iexact Ha
      iexists f; iexact Hb
    isplitl [Hc]
    · iexists g; iexact Hc
    iexists g; iexact Hd
  have hs : iprop(((bigSep Finset.univ fun r : Fin 31 => rPts (F := F) c (slot (rv r)) 0 f) ∗ bigSep Finset.univ fun r : Fin 31 => rPts c (slot (rv r)) 1 f)
      ∗ ((bigSep Finset.univ fun r : Fin 31 => gPts c (grp (fwd c r)) 0 fullShare g) ∗ bigSep Finset.univ fun r : Fin 31 => gPts c (grp (fwd c r)) 1 fullShare g))
      ⊢ (bigSep Finset.univ (sigPay c) : sProp 𝕄) := by
    rw [← bigSep_sep', ← bigSep_sep', ← bigSep_sep']
    exact bigSep_mono fun r _ => hone r
  have ho := rOwn_join (F := F) c f f
  iintro ⟨⟨⟨Ha, Hb⟩, Hc, Hd⟩, ⟨He, Hf⟩, Hg, Hh⟩
  isplitl [Ha Hc]
  · iapply ho; isplitl [Ha] <;> iassumption
  isplitl [He]; · iexact He
  isplitl [Hg]; · iexact Hg
  iapply hs
  isplitl [Hb Hd]
  · isplitl [Hb] <;> iassumption
  isplitl [Hf] <;> iassumption

omit [FloatOps F] in
/-- What the partners hand over, sorted by the transfers it serves. -/
theorem bar_sorted (c : Dev nD) : (bigSep Finset.univ (barPay (F := F) c) : sProp 𝕄)
    = iprop(((bigSep Finset.univ fun r : Fin 31 => iprop(∃ f, rPts (fwd c r) (slot r) 0 f)) ∗ bigSep Finset.univ fun r : Fin 31 => iprop(∃ f, rPts (fwd c r) (slot r) 1 f))
      ∗ ((bigSep Finset.univ fun r : Fin 31 => iprop(∃ f, gPts (fwd c r) (grp c) 0 fullShare f)) ∗ bigSep Finset.univ fun r : Fin 31 => iprop(∃ f, gPts (fwd c r) (grp c) 1 fullShare f))) := by
  rw [← bigSep_sep', ← bigSep_sep', ← bigSep_sep']
  rfl

/-! ## What a device starts from and ends with -/

/-- The tokens of a half's sends: for each the duty at the own cell and the one at the partner's. -/
def sndRes (c : Dev nD) (k k' : Fin 4) (h : Fin 2) : sProp 𝕄 := bigSep Finset.univ fun r : Fin 31 => iprop(tok c (.inr (k, h, r)) 0 ∗ tok (fwd c r) (.inr (k', h, r)) 0)
/-- The credits and positions of a half's receiving cells. -/
def rcvRes (c : Dev nD) (k : Fin 4) (h : Fin 2) : sProp 𝕄 := bigSep Finset.univ fun r : Fin 31 => iprop(crd c (.inr (k, h, r)) N ∗ at0 c (.inr (k, h, r)))
def atRes (c : Dev nD) (k : Fin 4) (h : Fin 2) : sProp 𝕄 := bigSep Finset.univ fun r : Fin 31 => at0 c (.inr (k, h, r))
def zers (c : Dev nD) (k : Fin 4) (h : Fin 2) : sProp 𝕄 := bigSep Finset.univ fun r : Fin 31 => zer c (.inr (k, h, r))

def ghostC (c : Dev nD) : sProp 𝕄 :=
  iprop((bigSep Finset.univ fun r : Fin 31 => tok (fwd c r) (.inl 0) (rv r)) ∗ (tok c (.inl 1) 0 ∗ tok c (.inl 2) 0)
    ∗ (at0 c (.inl 0) ∗ at0 c (.inl 1) ∗ at0 c (.inl 2)) ∗ crd c (.inl 0) 31
    ∗ (sndRes c 0 1 0 ∗ sndRes c 0 1 1 ∗ sndRes c 2 3 0 ∗ sndRes c 2 3 1)
    ∗ (rcvRes c 1 0 ∗ rcvRes c 1 1 ∗ rcvRes c 3 0 ∗ rcvRes c 3 1)
    ∗ (atRes c 0 0 ∗ atRes c 0 1 ∗ atRes c 2 0 ∗ atRes c 2 1))

/-- The counters of the protocol's cells at zero. -/
def zerC (c : Dev nD) : sProp 𝕄 :=
  iprop((zer c (.inl 0) ∗ zer c (.inl 1) ∗ zer c (.inl 2))
    ∗ (zers c 0 0 ∗ zers c 0 1) ∗ (zers c 1 0 ∗ zers c 1 1) ∗ (zers c 2 0 ∗ zers c 2 1) ∗ (zers c 3 0 ∗ zers c 3 1))

/-- The scratch buffers, whatever they hold. -/
def scrC (c : Dev nD) : sProp 𝕄 :=
  iprop((∃ f, qPts c f) ∗ (∃ f, pPts c f) ∗ (∃ f, aAllPts c f) ∗ (∃ f, rAllPts c f) ∗ (∃ f, gAllPts c fullShare f))

/-! ## The repeated phases -/

theorem ph_sig (c : Dev nD) (k : PP F) (Q : PUnit → sProp 𝕄) :
    iprop(recs m K ∗ ow c (O₀ c) ∗ (bigSep Finset.univ fun r : Fin 31 => tok (fwd c r) (.inl 0) (rv r)) ∗ bigSep Finset.univ (sigPay c))
      ⊢ iprop((ow c (owe10 c) -∗ WP c k Q) -∗ WP c (seqL (sigStep c) offs k) Q) := by
  have h := wp_offs (F := F) c (sigStep c) (fun l => iprop(recs m K ∗ ow c (rem (barOwe c) (owe10 c) l)))
    (fun r => iprop(tok (fwd c r) (.inl 0) (rv r) ∗ sigPay c r)) (fun _ => iprop(emp)) (fun r l k Q => sig_step m K c (owe10 c) r l k Q) k Q
  rw [bigSep_sep'] at h
  iintro ⟨#Hrec, HO, Ht, Hs⟩ Hk
  iapply h $$ [HO Ht Hs]
  · isplitl [HO]
    · isplitr; · iexact Hrec
      iexact HO
    isplitl [Ht] <;> iassumption
  iintro ⟨⟨-, HO⟩, -⟩
  iapply Hk; iexact HO

theorem ph_send1 (c : Dev nD) (h : Fin 2) (O) (k : PP F) (Q : PUnit → sProp 𝕄) :
    iprop(recs m K ∗ ow c (rem (xOwe c 1 h) O offs) ∗ (bigSep Finset.univ fun r : Fin 31 => aPts c h r (prtC m c))
        ∗ (bigSep Finset.univ fun r : Fin 31 => iprop(∃ f, rPts (fwd c r) (slot r) h f)) ∗ sndRes c 0 1 h)
      ⊢ iprop((iprop(ow c O ∗ bigSep Finset.univ fun r : Fin 31 => crd c (.inr (0, h, r)) N) -∗ WP c k Q) -∗ WP c (seqL (send1Step c h) offs k) Q) := by
  have h' := wp_offs (F := F) c (send1Step c h) (fun l => iprop(recs m K ∗ ow c (rem (xOwe c 1 h) O l)))
    (fun r => iprop(aPts c h r (prtC m c) ∗ (∃ f, rPts (fwd c r) (slot r) h f) ∗ tok c (.inr (0, h, r)) 0 ∗ tok (fwd c r) (.inr (1, h, r)) 0))
    (fun r => crd c (.inr (0, h, r)) N) (fun r l k Q => send1_step m K c h O r l k Q) k Q
  rw [bigSep_sep', bigSep_sep'] at h'
  unfold sndRes
  iintro ⟨#Hrec, HO, Ht, Hs⟩ Hk
  iapply h' $$ [HO Ht Hs]
  · isplitl [HO]
    · isplitr; · iexact Hrec
      iexact HO
    isplitl [Ht]; · iexact Ht
    iexact Hs
  iintro ⟨⟨-, HO⟩, Hc⟩
  iapply Hk
  isplitl [HO]; · iexact HO
  iexact Hc

/-- A phase of waits with nothing owed. -/
theorem ph_waits (c : Dev nD) (step : Fin 31 → PP F) (j : Fin 4) (h : Fin 2) (P : Fin 31 → sProp 𝕄)
    (hstep : ∀ r (k : PP F) (Q : PUnit → sProp 𝕄), iprop((recs m K ∗ ow c 0) ∗ (crd c (.inr (j, h, r)) N ∗ at0 c (.inr (j, h, r))))
      ⊢ iprop((iprop((recs m K ∗ ow c 0) ∗ (P r ∗ zer c (.inr (j, h, r)))) -∗ WP c k Q) -∗ WP c (step r >>= fun _ => k) Q)) (k : PP F) (Q : PUnit → sProp 𝕄) :
    iprop(recs m K ∗ ow c 0 ∗ (bigSep Finset.univ fun r : Fin 31 => crd c (.inr (j, h, r)) N) ∗ atRes c j h)
      ⊢ iprop((iprop(ow c 0 ∗ bigSep Finset.univ P ∗ zers c j h) -∗ WP c k Q) -∗ WP c (seqL step offs k) Q) := by
  have h' := wp_offs (F := F) c step (fun _ => iprop(recs m K ∗ ow c 0))
    (fun r => iprop(crd c (.inr (j, h, r)) N ∗ at0 c (.inr (j, h, r)))) (fun r => iprop(P r ∗ zer c (.inr (j, h, r))))
    (fun r l k Q => hstep r k Q) k Q
  rw [bigSep_sep', bigSep_sep'] at h'
  unfold atRes zers
  iintro ⟨#Hrec, HO, Hs⟩ Hk
  iapply h' $$ [HO Hs]
  · isplitl [HO]
    · isplitr; · iexact Hrec
      iexact HO
    iexact Hs
  iintro ⟨⟨-, HO⟩, Hc⟩
  iapply Hk
  isplitl [HO] <;> iassumption

omit [FloatOps F] in
theorem rcvRes_eq (c : Dev nD) (k : Fin 4) (h : Fin 2) :
    rcvRes (F := F) c k h = iprop((bigSep Finset.univ fun r : Fin 31 => crd c (.inr (k, h, r)) N) ∗ atRes c k h) := by
  unfold rcvRes atRes; rw [bigSep_sep']

/-- One half with its tokens and credits as the body holds them. -/
theorem ph_half (c : Dev nD) (h : Fin 2) (O : CellTallies nD τ sig Unit) (hO : Above 2 (rem (xOwe c 3 h) O offs)) (g0) (k : PP F) (Q : PUnit → sProp 𝕄) :
    iprop(recs m K ∗ ow c (rem (xOwe c 3 h) O offs) ∗ rcvRes c 1 h ∗ rPts c 0 h (rcvC m c) ∗ gPts c (grp c) h fullShare g0
        ∗ (bigSep Finset.univ fun r : Fin 31 => iprop(∃ f, gPts (fwd c r) (grp c) h fullShare f)) ∗ sndRes c 2 3 h)
      ⊢ iprop((iprop(ow c O ∗ rHalfPts c h (rcvC m c) ∗ gPts c (grp c) h (part 0) (gatC m)
          ∗ zers c 1 h ∗ bigSep Finset.univ fun r : Fin 31 => crd c (.inr (2, h, r)) N) -∗ WP c k Q)
        -∗ WP c (reduceHalf c h k) Q) := by
  have h' := ph_reduce m K c h O hO g0 k Q
  rw [bigSep_sep' (s := (Finset.univ : Finset (Fin 31))) (fun r : Fin 31 => iprop(∃ f, gPts (fwd c r) (grp c) h fullShare f))] at h'
  exact h'

/-! ## The body -/

theorem body_run (c : Dev nD) (f0) (Q : PUnit → sProp 𝕄) :
    iprop(recs m K ∗ ow c (O₀ c) ∗ ghostC c ∗ scrC c ∗ (wqPts m c ∗ woPts m c) ∗ (xPts m c ∗ kPts m c ∗ vPts m c) ∗ oPts c f0)
      ⊢ iprop((iprop(ow c 0 ∗ zerC c ∗ scrC c ∗ (wqPts m c ∗ woPts m c) ∗ (xPts m c ∗ kPts m c ∗ vPts m c) ∗ oPts c (outC m)) -∗ Q ⟨⟩) -∗ WP c (phases c) Q) := by
  unfold ghostC scrC
  iintro ⟨#Hrec, HO, ⟨Htb, ⟨Ht1, Ht2⟩, ⟨Hab, Ha1, Ha2⟩, Hcb, ⟨Hs10, Hs11, Hs20, Hs21⟩, ⟨Hr10, Hr11, Hr30, Hr31⟩, Ha00, Ha01, Ha20, Ha21⟩,
    ⟨⟨%fq, Hq⟩, ⟨%fp, Hp⟩, ⟨%fa, Ha⟩, ⟨%fr, Hr⟩, ⟨%fg, Hg⟩⟩, ⟨Hwq, Hwo⟩, Hst, Ho⟩ Hk
  unfold phases
  -- the local copies
  iapply (copyq_step m K c fq) $$ [Hq Hwq Ht1]
  · isplitr; · iexact Hrec
    isplitl [Hq]; · iexact Hq
    isplitl [Hwq] <;> iassumption
  iintro Hc1
  iapply (copyp_step m K c fp) $$ [Hp Hwo Ht2]
  · isplitr; · iexact Hrec
    isplitl [Hp]; · iexact Hp
    isplitl [Hwo] <;> iassumption
  iintro Hc2
  -- the signals
  ihave Hd := (deal_places c fr fg) $$ [Hr Hg]
  · isplitl [Hr] <;> iassumption
  icases Hd with ⟨⟨%fo, Hown⟩, Hg0, Hg1, Hsig⟩
  iapply (ph_sig m K c) $$ [HO Htb Hsig]
  · isplitr; · iexact Hrec
    isplitl [HO]; · iexact HO
    isplitl [Htb] <;> iassumption
  iintro HO
  iapply (ph_attend m K c (owe10 c) ((above10 c).mono (by decide))) $$ [HO Hc1 Ha1 Hst]
  · isplitr; · iexact Hrec
    isplitl [HO Hc1 Ha1]
    · isplitl [HO]; · iexact HO
      isplitl [Hc1] <;> iassumption
    iexact Hst
  iintro ⟨HO, ⟨Hq, Hwq, Hz1⟩, Hst⟩
  iapply (ph_product m K c (owe10 c) (above10 c) fa fo) $$ [HO Hc2 Ha2 Hcb Hab Ha Hown]
  · isplitr; · iexact Hrec
    isplitl [HO Hc2 Ha2]
    · isplitl [HO]; · iexact HO
      isplitl [Hc2] <;> iassumption
    isplitl [Hcb Hab]
    · isplitl [Hcb] <;> iassumption
    isplitl [Ha] <;> iassumption
  iintro ⟨HO, ⟨Hp, Hwo, Hz2⟩, ⟨Hbar, Hzb⟩, Ha, Hr00, Hr01⟩
  ihave Hbar := (Entails.of_eq (bar_sorted c)) $$ Hbar
  icases Hbar with ⟨⟨Hp10, Hp11⟩, Hp20, Hp21⟩
  ihave Ha := (Entails.of_eq (a_deal c (prtC m c))) $$ Ha
  icases Ha with ⟨⟨Hx0, Hx00⟩, Hx1, Hx11⟩
  iapply (ph_send1 m K c 0 (owe11 c)) $$ [HO Hx00 Hp10 Hs10]
  · isplitr; · iexact Hrec
    isplitl [HO]; · iexact HO
    isplitl [Hx00]; · iexact Hx00
    isplitl [Hp10] <;> iassumption
  iintro ⟨HO, Hc00⟩
  iapply (ph_send1 m K c 1 (owe30 c)) $$ [HO Hx11 Hp11 Hs11]
  · isplitr; · iexact Hrec
    isplitl [HO]; · iexact HO
    isplitl [Hx11]; · iexact Hx11
    isplitl [Hp11] <;> iassumption
  iintro ⟨HO, Hc01⟩
  iapply (ph_half m K c 0 (owe31 c) (above30 c) fg) $$ [HO Hr10 Hr00 Hg0 Hp20 Hs20]
  · isplitr; · iexact Hrec
    isplitl [HO]; · iexact HO
    isplitl [Hr10]; · iexact Hr10
    isplitl [Hr00]; · iexact Hr00
    isplitl [Hg0]; · iexact Hg0
    isplitl [Hp20] <;> iassumption
  iintro ⟨HO, Hh0, Hg0, Hz10, Hc20⟩
  iapply (ph_half m K c 1 0 (above31 c) fg) $$ [HO Hr11 Hr01 Hg1 Hp21 Hs21]
  · isplitr; · iexact Hrec
    isplitl [HO]; · iexact HO
    isplitl [Hr11]; · iexact Hr11
    isplitl [Hr01]; · iexact Hr01
    isplitl [Hg1]; · iexact Hg1
    isplitl [Hp21] <;> iassumption
  iintro ⟨HO, Hh1, Hg1, Hz11, Hc21⟩
  -- the reduced rows of the others
  ihave Hr30 := (Entails.of_eq (rcvRes_eq c 3 0)) $$ Hr30
  ihave Hr31 := (Entails.of_eq (rcvRes_eq c 3 1)) $$ Hr31
  iapply (ph_waits m K c (recv2Step c 0) 3 0 (fun r => gPts c (grp (bwd c r)) 0 fullShare (gatC m)) (fun r k Q => recv2_step m K c 0 r k Q)) $$ [HO Hr30]
  · isplitr; · iexact Hrec
    isplitl [HO] <;> iassumption
  iintro ⟨HO, Hf0, Hz30⟩
  iapply (ph_waits m K c (recv2Step c 1) 3 1 (fun r => gPts c (grp (bwd c r)) 1 fullShare (gatC m)) (fun r k Q => recv2_step m K c 1 r k Q)) $$ [HO Hr31]
  · isplitr; · iexact Hrec
    isplitl [HO] <;> iassumption
  iintro ⟨HO, Hf1, Hz31⟩
  ihave Hf0 := (gather_half c 0 (gatC m)) $$ [Hg0 Hf0]
  · isplitl [Hg0] <;> iassumption
  ihave Hf1 := (gather_half c 1 (gatC m)) $$ [Hg1 Hf1]
  · isplitl [Hg1] <;> iassumption
  icases Hf0 with ⟨Hg0, Hf0⟩
  icases Hf1 with ⟨Hg1, Hf1⟩
  ihave Hg := (Entails.of_eq ((gAll_split c (part 0) (gatC m)).trans (bigSep_univ_two _)).symm) $$ [Hg0 Hg1]
  · isplitl [Hg0] <;> iassumption
  iapply (ph_out m c (part 0) f0) $$ [Hg Ho]
  · isplitl [Hg] <;> iassumption
  iintro ⟨Hg, Ho⟩
  iapply (ph_waits m K c (done1Step c 0) 0 0 (fun r => aPts c 0 r (prtC m c)) (fun r k Q => done1_step m K c 0 r k Q)) $$ [HO Hc00 Ha00]
  · isplitr; · iexact Hrec
    isplitl [HO]; · iexact HO
    isplitl [Hc00] <;> iassumption
  iintro ⟨HO, Hx00, Hz00⟩
  iapply (ph_waits m K c (done1Step c 1) 0 1 (fun r => aPts c 1 r (prtC m c)) (fun r k Q => done1_step m K c 1 r k Q)) $$ [HO Hc01 Ha01]
  · isplitr; · iexact Hrec
    isplitl [HO]; · iexact HO
    isplitl [Hc01] <;> iassumption
  iintro ⟨HO, Hx11, Hz01⟩
  iapply (ph_waits m K c (done2Step c 0) 2 0 (fun r => gPts c (grp c) 0 (part (slot r)) (gatC m)) (fun r k Q => done2_step m K c 0 r k Q)) $$ [HO Hc20 Ha20]
  · isplitr; · iexact Hrec
    isplitl [HO]; · iexact HO
    isplitl [Hc20] <;> iassumption
  iintro ⟨HO, Hy0, Hz20⟩
  iapply (ph_waits m K c (done2Step c 1) 2 1 (fun r => gPts c (grp c) 1 (part (slot r)) (gatC m)) (fun r k Q => done2_step m K c 1 r k Q)) $$ [HO Hc21 Ha21]
  · isplitr; · iexact Hrec
    isplitl [HO]; · iexact HO
    isplitl [Hc21] <;> iassumption
  iintro ⟨HO, Hy1, Hz21⟩
  -- everything back in one piece
  ihave Ha := (Entails.of_eq (a_deal c (prtC m c)).symm) $$ [Hx0 Hx00 Hx1 Hx11]
  · isplitl [Hx0 Hx00]
    · isplitl [Hx0] <;> iassumption
    isplitl [Hx1] <;> iassumption
  ihave Hh0 := (Entails.of_eq (rHalf_split c 0 (rcvC m c))) $$ Hh0
  ihave Hh1 := (Entails.of_eq (rHalf_split c 1 (rcvC m c))) $$ Hh1
  ihave Hr := (Entails.of_eq ((rAll_split c (rcvC m c)).trans (bigSep_univ_two _)).symm) $$ [Hh0 Hh1]
  · isplitl [Hh0] <;> iassumption
  ihave Hg := (Entails.of_eq ((gAll_split c (part 0) (gatC m)).trans (bigSep_univ_two _))) $$ Hg
  icases Hg with ⟨Hg0, Hg1⟩
  ihave Hg0 := (ungather_half c 0 (gatC m)) $$ [Hg0 Hy0 Hf0]
  · isplitl [Hg0]; · iexact Hg0
    isplitl [Hy0]
    · unfold gRest; iexact Hy0
    iexact Hf0
  ihave Hg1 := (ungather_half c 1 (gatC m)) $$ [Hg1 Hy1 Hf1]
  · isplitl [Hg1]; · iexact Hg1
    isplitl [Hy1]
    · unfold gRest; iexact Hy1
    iexact Hf1
  ihave Hg := (Entails.of_eq ((gAll_split c fullShare (gatC m)).trans (bigSep_univ_two _)).symm) $$ [Hg0 Hg1]
  · isplitl [Hg0] <;> iassumption
  rw [show (pure ⟨⟩ : PP F) = .ret ⟨⟩ from rfl]
  unfold WP
  rw [wp_ret]
  imodintro
  iapply Hk
  unfold zerC
  isplitl [HO]; · iexact HO
  isplitl [Hzb Hz1 Hz2 Hz00 Hz01 Hz10 Hz11 Hz20 Hz21 Hz30 Hz31]
  · isplitl [Hzb Hz1 Hz2]
    · isplitl [Hzb]; · iexact Hzb
      isplitl [Hz1] <;> iassumption
    isplitl [Hz00 Hz01]
    · isplitl [Hz00] <;> iassumption
    isplitl [Hz10 Hz11]
    · isplitl [Hz10] <;> iassumption
    isplitl [Hz20 Hz21]
    · isplitl [Hz20] <;> iassumption
    isplitl [Hz30] <;> iassumption
  isplitl [Hq Hp Ha Hr Hg]
  · isplitl [Hq]; · iexists _; iexact Hq
    isplitl [Hp]; · iexists _; iexact Hp
    isplitl [Ha]; · iexists _; iexact Ha
    isplitl [Hr]; · iexists _; iexact Hr
    iexists _; iexact Hg
  isplitl [Hwq Hwo]
  · isplitl [Hwq] <;> iassumption
  isplitl [Hst] <;> iassumption

end Cert.KernelIdeal.Pf
-- ==== Proof.BodyEq.lean ====
/-
The printed body is the program in phases, at the buffers the launch hands it.
-/
module

public import proofs.«01_k».proof.Proof.Steps
public import proofs.«01_k».proof.Proof.Gen.KernelIdeal.Points
import Idealize.ShloMosaic.Lib.Pipeline.Regions

@[expose] public section

noncomputable section

namespace Cert.KernelIdeal.Pf

open Cert.KernelIdeal Cert.KernelIdeal.Gen
open Idealize.ShloMosaic Idealize.ShloMosaic.TcCoe
open Idealize.SL Idealize.SL.Sem

variable {F : FTy → Type} [FloatOps F]

set_option maxRecDepth 65536 in
theorem body_eq (t : Fin cfg0.N) : bodyAt0 (F := F) t = prog := by
  chain_rfl

end Cert.KernelIdeal.Pf
-- ==== Proof.Launch.lean ====
/-
The launch: the resources minted, dealt to the devices, and the run of the whole program.
-/
module

public import proofs.«01_k».proof.Proof.Body
public import proofs.«01_k».proof.Proof.BodyEq
public import Idealize.ShloMosaic.Lib.Pipeline.Launch
public import Idealize.ShloMosaic.Lib.Pipeline.Kit
public import Idealize.ShloMosaic.Lib.Tactic
public import Idealize.ShloMosaic.Lib.Pipeline.BigSepL

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.ValueIdx

variable {F : FTy → Type} [FloatOps F]

local notation "𝕄" => MT nD τ sig Unit (Elt F) ℕ UU ℕ

variable (m : (ℓ : Loc nD τ sig) → Buf (Elt F) ℓ)

/-! ## The kernel's data for the pipeline -/

/-- The cells' invariants and the reached marks, without the levels. -/
def recs0 (K : Dev nD × CI → ℕ) : sProp 𝕄 :=
  bigSep Finset.univ (fun ci : Dev nD × CI => iprop(cellInv ER (Rd m) (K ci) (cell ci.1 ci.2) ∗ reached ER (cell ci.1 ci.2) 0))
instance recs0_persistent (K : Dev nD × CI → ℕ) : BI.Persistent (recs0 (F := F) m K) := by unfold recs0; infer_instance

/-- A half's tokens at the own cells, and at the partners'. -/
def tokO (c : Dev nD) (k : Fin 4) (h : Fin 2) : sProp 𝕄 := bigSep Finset.univ fun r : Fin 31 => tok c (.inr (k, h, r)) 0
def tokP (c : Dev nD) (k : Fin 4) (h : Fin 2) : sProp 𝕄 := bigSep Finset.univ fun r : Fin 31 => tok (fwd c r) (.inr (k, h, r)) 0
def crdR (c : Dev nD) (k : Fin 4) (h : Fin 2) : sProp 𝕄 := bigSep Finset.univ fun r : Fin 31 => crd c (.inr (k, h, r)) N

/-- The tokens a device pays with. -/
def payToks (c : Dev nD) : sProp 𝕄 :=
  iprop((bigSep Finset.univ fun r : Fin 31 => tok (fwd c r) (.inl 0) (rv r)) ∗ (tok c (.inl 1) 0 ∗ tok c (.inl 2) 0)
    ∗ ((tokO c 0 0 ∗ tokO c 0 1) ∗ (tokP c 1 0 ∗ tokP c 1 1) ∗ (tokO c 2 0 ∗ tokO c 2 1) ∗ (tokP c 3 0 ∗ tokP c 3 1)))
/-- The tokens of a device's own cells. -/
def ownToks (c : Dev nD) : sProp 𝕄 :=
  iprop((bigSep Finset.univ fun r : Fin 31 => tok c (.inl 0) r) ∗ (tok c (.inl 1) 0 ∗ tok c (.inl 2) 0)
    ∗ ((tokO c 0 0 ∗ tokO c 0 1) ∗ (tokO c 1 0 ∗ tokO c 1 1) ∗ (tokO c 2 0 ∗ tokO c 2 1) ∗ (tokO c 3 0 ∗ tokO c 3 1)))
/-- A device's positions. -/
def posC (c : Dev nD) : sProp 𝕄 :=
  iprop((at0 c (.inl 0) ∗ at0 c (.inl 1) ∗ at0 c (.inl 2))
    ∗ ((atRes c 0 0 ∗ atRes c 0 1) ∗ (atRes c 1 0 ∗ atRes c 1 1) ∗ (atRes c 2 0 ∗ atRes c 2 1) ∗ (atRes c 3 0 ∗ atRes c 3 1)))
/-- The credits a device waits with that others owe it. -/
def crdC (c : Dev nD) : sProp 𝕄 := iprop(crd c (.inl 0) 31 ∗ (crdR c 1 0 ∗ crdR c 1 1) ∗ (crdR c 3 0 ∗ crdR c 3 1))

omit [FloatOps F] in
theorem sndRes_eq (c : Dev nD) (k k' : Fin 4) (h : Fin 2) : sndRes (F := F) c k k' h = iprop(tokO c k h ∗ tokP c k' h) := by
  unfold sndRes tokO tokP; rw [bigSep_sep']

omit [FloatOps F] in
theorem ghostC_intro (c : Dev nD) : iprop(payToks (F := F) c ∗ posC c ∗ crdC c) ⊢ ghostC c := by
  unfold payToks posC crdC ghostC
  simp only [sndRes_eq, rcvRes_eq]
  unfold crdR
  iintro ⟨⟨Hb, H12, ⟨Ha, Hb'⟩, ⟨Hc, Hd⟩, ⟨He, Hf⟩, Hg, Hh⟩, ⟨Hat, ⟨Hp00, Hp01⟩, ⟨Hp10, Hp11⟩, ⟨Hp20, Hp21⟩, Hp30, Hp31⟩, Hcb, ⟨Hc10, Hc11⟩, Hc30, Hc31⟩
  isplitl [Hb]; · iexact Hb
  isplitl [H12]; · iexact H12
  isplitl [Hat]; · iexact Hat
  isplitl [Hcb]; · iexact Hcb
  isplitl [Ha Hb' Hc Hd He Hf Hg Hh]
  · isplitl [Ha Hc]
    · isplitl [Ha] <;> iassumption
    isplitl [Hb' Hd]
    · isplitl [Hb'] <;> iassumption
    isplitl [He Hg]
    · isplitl [He] <;> iassumption
    isplitl [Hf] <;> iassumption
  isplitl [Hp10 Hp11 Hp30 Hp31 Hc10 Hc11 Hc30 Hc31]
  · isplitl [Hc10 Hp10]
    · isplitl [Hc10] <;> iassumption
    isplitl [Hc11 Hp11]
    · isplitl [Hc11] <;> iassumption
    isplitl [Hc30 Hp30]
    · isplitl [Hc30] <;> iassumption
    isplitl [Hc31] <;> iassumption
  isplitl [Hp00]; · iexact Hp00
  isplitl [Hp01]; · iexact Hp01
  isplitl [Hp20] <;> iassumption

/-- What a device's body starts from, the scratch buffers apart. -/
def start (c : Dev nD) : sProp 𝕄 := iprop((∃ K, recs m K) ∗ ghostC c ∗ (wqPts m c ∗ woPts m c))
def Φ₀ (c : Dev nD) : sProp 𝕄 := iprop(start m c ∗ scrC c)
def Φ₁ (c : Dev nD) : sProp 𝕄 := iprop(zerC c ∗ scrC c ∗ (wqPts m c ∗ woPts m c))

def dats (_ : Fin 1) (c : Dev nD) : Dat τ (Elt F) Unit ℕ UU ℕ cfg0 c where
  A w := m ((cfg0.win w).arr.view.loc (c : Thread nD τ))
  after w _ := match w with
    | ⟨0, _⟩ => xC m c
    | ⟨1, _⟩ => kC m c
    | ⟨2, _⟩ => vC m c
    | ⟨3, _⟩ => outC m
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))
def bodyPost (c : Dev nD) : sProp 𝕄 :=
  iprop(Φ₁ m c ∗ (dats m 0 c).owesAt () t0_0.succ ∗ stg c cc0_stg0_0 (xC m c) ∗ stg c cc0_stg1_0 (kC m c) ∗ stg c cc0_stg2_0 (vC m c) ∗ stg c cc0_stg3_0 (outC m))

theorem body_sound (c : Dev nD) : bodyPre m c ⊢ WP c prog (fun _ => bodyPost m c) := by
  have hrun := fun K f0 => body_run m K c f0 (fun _ => bodyPost m c)
  unfold WP prog
  simp only [Prog.lift, Prog.bind_op, Prog.bind_ret, wp_deviceId]
  unfold bodyPre Φ₀ start
  iintro ⟨⟨⟨⟨%K, #Hrec⟩, Hg, Hw⟩, Hscr⟩, Ho, ⟨%d0, %g0, %hg0, Hx⟩, ⟨%d1, %g1, %hg1, Hkk⟩, ⟨%d2, %g2, %hg2, Hv⟩, ⟨%d3, %g3, %hg3, Hout⟩⟩
  have hx : g0 = xC m c := by rw [hg0]; unfold Dat.before; rw [if_pos (fetch0_0 t0_0)]; rfl
  have hk : g1 = kC m c := by rw [hg1]; unfold Dat.before; rw [if_pos (fetch0_1 t0_0)]; rfl
  have hv : g2 = vC m c := by rw [hg2]; unfold Dat.before; rw [if_pos (fetch0_2 t0_0)]; rfl
  subst hx hk hv
  unfold Dat.owesAt Pipeline.owesWithin
  icases Ho with ⟨%W, %hW, HO⟩
  rw [show (dats m 0 c).owed t0_0.castSucc = O₀ c from rfl]
  have hrun' := hrun K g3
  unfold WP ow xPts kPts vPts oPts at hrun'
  iapply hrun' $$ [HO Hg Hw Hscr Hx Hkk Hv Hout]
  · isplitr; · iexact Hrec
    isplitl [HO]; · iexists W; iexact HO
    isplitl [Hg]; · iexact Hg
    isplitl [Hscr]; · iexact Hscr
    isplitl [Hw]; · iexact Hw
    isplitl [Hx Hkk Hv]
    · isplitl [Hx]; · iexact Hx
      isplitl [Hkk] <;> iassumption
    iexact Hout
  iintro ⟨⟨%W', HO⟩, Hz, Hscr, Hw, ⟨Hx, Hkk, Hv⟩, Hout⟩
  unfold bodyPost Φ₁ Dat.owesAt Pipeline.owesWithin
  rw [show (dats m 0 c).owed t0_0.succ = 0 from rfl]
  isplitl [Hz Hscr Hw]
  · isplitl [Hz]; · iexact Hz
    isplitl [Hscr] <;> iassumption
  isplitl [HO]
  · iexists W'
    isplitr; · ipureintro; exact fun _ _ => Or.inl trivial
    iexact HO
  isplitl [Hx]
  · iexists _; isplitr; · (ipureintro; rfl)
    iexact Hx
  isplitl [Hkk]
  · iexists _; isplitr; · (ipureintro; rfl)
    iexact Hkk
  isplitl [Hv]
  · iexists _; isplitr; · (ipureintro; rfl)
    iexact Hv
  iexists _; isplitr; · (ipureintro; rfl)
  iexact Hout

theorem defs_row (t : Fin cfg0.N) : defs₀ (F := F) .tc 0 (t, cfg0.slots t) = bodyAt0 (F := F) t := by
  unfold defs₀ bodyAt0 Defs.onTc; rfl

theorem body_obligation (c : Dev nD) : BodyObligation (dats (F := F) m 0 c) (defs₀ (F := F)) 𝒱₀ () Set.univ := fun t => by
  rw [show t = t0_0 from fin_N0 t]
  rw [bigSep_W0, bigSep_W0]
  simp only [owns_whole]
  rw [defs_row, body_eq]
  have hs := body_sound m c
  unfold WP at hs
  generalize prog (F := F) = p at hs ⊢
  have h1 : bodyPre m c = iprop((dats m 0 c).Φ t0_0.castSucc ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d))) := rfl
  have h2 : bodyPost m c = iprop((dats m 0 c).Φ t0_0.succ ∗ (dats m 0 c).owesAt () t0_0.succ
    ∗ stg c cc0_stg0_0 ((dats m 0 c).after (0 : Fin 4) t0_0) ∗ stg c cc0_stg1_0 ((dats m 0 c).after (1 : Fin 4) t0_0)
    ∗ stg c cc0_stg2_0 ((dats m 0 c).after (2 : Fin 4) t0_0) ∗ stg c cc0_stg3_0 ((dats m 0 c).after (3 : Fin 4) t0_0)) := rfl
  rw [h1, h2] at hs
  exact hs

end Cert.KernelIdeal.Pf
-- ==== Proof.Deal.lean ====
/-
Minting the protocol's resources at launch, and dealing them to the devices: to each its positions, the tokens of the
duties it pays, and the credits of the debts others have to it.
-/
module

public import proofs.«01_k».proof.Proof.Launch
public import Idealize.ShloMosaic.Lib.Pipeline.Launch
public import Idealize.ShloMosaic.Lib.Pipeline.Kit
public import Idealize.ShloMosaic.Lib.Tactic
public import Idealize.ShloMosaic.Lib.Pipeline.BigSepL

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.ValueIdx

variable {F : FTy → Type} [FloatOps F]

variable {F : FTy → Type} [FloatOps F]

local notation "𝕄" => MT nD τ sig Unit (Elt F) ℕ UU ℕ

variable (m : (ℓ : Loc nD τ sig) → Buf (Elt F) ℓ)

/-! ## Sets of cells and of tokens -/

theorem cell_inj : Function.Injective (fun ci : Dev nD × CI => cell ci.1 ci.2) := by
  rintro ⟨c, i⟩ ⟨c', i'⟩ h
  have h1 : c = c' := congrArg (fun g : GSem nD τ sig => g.1.1) h
  have h2 : i = i' := csem_inj (congrArg Prod.snd h)
  rw [h1, h2]
def theCells : Finset (GSem nD τ sig) := Finset.univ.map ⟨_, cell_inj⟩

/-- A device's tokens: one per partner at the barrier, one at every other cell. -/
abbrev TI : Type := Fin 31 ⊕ (Fin 2 ⊕ (Fin 4 × Fin 2 × Fin 31))
abbrev tCI : TI → CI × Fin 31
  | .inl r => (.inl 0, r)
  | .inr (.inl j) => (.inl j.succ, 0)
  | .inr (.inr x) => (.inr x, 0)
theorem tCI_inj : Function.Injective tCI := by
  rintro (r | j | x) (r' | j' | x') h
  · rw [(Prod.mk.inj h).2]
  · exact absurd (Sum.inl.inj (Prod.mk.inj h).1).symm (Fin.succ_ne_zero j')
  · exact absurd (Prod.mk.inj h).1 (fun h => by cases h)
  · exact absurd (Sum.inl.inj (Prod.mk.inj h).1) (Fin.succ_ne_zero j)
  · rw [Fin.succ_injective _ (Sum.inl.inj (Prod.mk.inj h).1)]
  · exact absurd (Prod.mk.inj h).1 (fun h => by cases h)
  · exact absurd (Prod.mk.inj h).1 (fun h => by cases h)
  · exact absurd (Prod.mk.inj h).1 (fun h => by cases h)
  · rw [Sum.inr.inj (Prod.mk.inj h).1]
abbrev tokOf (ct : Dev nD × TI) : GSem nD τ sig × ℕ × Fin 31 := (cell ct.1 (tCI ct.2).1, 0, (tCI ct.2).2)
theorem tokOf_inj : Function.Injective tokOf := by
  rintro ⟨c, t⟩ ⟨c', t'⟩ h
  have h1 : (c, (tCI t).1) = (c', (tCI t').1) := cell_inj (congrArg Prod.fst h)
  have h2 : (tCI t).2 = (tCI t').2 := congrArg (fun x : GSem nD τ sig × ℕ × Fin 31 => x.2.2) h
  have h3 : t = t' := tCI_inj (Prod.ext (Prod.mk.inj h1).2 h2)
  rw [(Prod.mk.inj h1).1, h3]
def theToks : Finset (GSem nD τ sig × ℕ × Fin 31) := Finset.univ.map ⟨tokOf, tokOf_inj⟩

def u₀ : UU := (initOf (Pipeline.cells cfgs cellOf_inj) (Pipeline.launchToks cfgs cellOf_inj), initOf theCells theToks)

/-! ## Products over a device's cells -/

section Products
omit [FloatOps F]

theorem sep_two (Φ : Fin 2 → sProp 𝕄) : bigSep Finset.univ Φ = iprop(Φ 0 ∗ Φ 1) :=
  bigSep_univ_eq_bigSepL [0, 1] (by decide) (by decide) Φ
theorem sep_three (Φ : Fin 3 → sProp 𝕄) : bigSep Finset.univ Φ = iprop(Φ 0 ∗ Φ 1 ∗ Φ 2) :=
  bigSep_univ_eq_bigSepL [0, 1, 2] (by decide) (by decide) Φ
theorem sep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem sep_transfers (Ψ : Fin 4 × Fin 2 × Fin 31 → sProp 𝕄) :
    bigSep Finset.univ Ψ = iprop(
      ((bigSep Finset.univ fun r => Ψ (0, 0, r)) ∗ (bigSep Finset.univ fun r => Ψ (0, 1, r)))
      ∗ ((bigSep Finset.univ fun r => Ψ (1, 0, r)) ∗ (bigSep Finset.univ fun r => Ψ (1, 1, r)))
      ∗ ((bigSep Finset.univ fun r => Ψ (2, 0, r)) ∗ (bigSep Finset.univ fun r => Ψ (2, 1, r)))
      ∗ ((bigSep Finset.univ fun r => Ψ (3, 0, r)) ∗ (bigSep Finset.univ fun r => Ψ (3, 1, r)))) := by
  have h : ∀ k : Fin 4, (bigSep Finset.univ fun x : Fin 2 × Fin 31 => Ψ (k, x))
      = iprop((bigSep Finset.univ fun r => Ψ (k, 0, r)) ∗ (bigSep Finset.univ fun r => Ψ (k, 1, r))) := fun k => by
    rw [bigSep_univ_prod, sep_two]
  rw [bigSep_univ_prod, sep_four, h, h, h, h]

theorem sep_cells (Φ : CI → sProp 𝕄) :
    bigSep Finset.univ Φ = iprop((Φ (.inl 0) ∗ Φ (.inl 1) ∗ Φ (.inl 2)) ∗ bigSep Finset.univ fun x => Φ (.inr x)) := by
  rw [bigSep_univ_sum, sep_three]; rfl

theorem zerC_eq (c : Dev nD) : zerC (F := F) c = bigSep Finset.univ (zer c) := by
  rw [sep_cells, sep_transfers]; rfl
theorem posC_eq (c : Dev nD) : posC (F := F) c = bigSep Finset.univ (at0 c) := by
  rw [sep_cells, sep_transfers]; rfl
theorem ownToks_eq (c : Dev nD) :
    ownToks (F := F) c = bigSep Finset.univ fun t : TI => dutyTok ER (tokOf (c, t)).1 (tokOf (c, t)).2.1 (tokOf (c, t)).2.2 := by
  rw [bigSep_univ_sum, bigSep_univ_sum, sep_two, sep_transfers]; rfl

end Products

/-! ## The kernel's own semaphores -/

abbrev OI : Type := Fin 2 ⊕ (Fin 4 × Fin 2 × Fin 31)
abbrev oCI : OI → CI
  | .inl j => .inl j.succ
  | .inr x => .inr x
theorem oCI_inj : Function.Injective oCI := by
  rintro (j | x) (j' | x') h
  · rw [Fin.succ_injective _ (Sum.inl.inj h)]
  · cases h
  · cases h
  · rw [Sum.inr.inj h]
abbrev osem (j : OI) : SemLoc sig := csem (oCI j)

theorem oStage : ∀ w s, cellIx (.dma ((cfg0.spec w).sem s)) = none := by decide +kernel

theorem ownSemFacts : Pipeline.OwnSemFacts cfg0.spec osem := by
  refine ⟨?_, ?_, ?_⟩
  · rintro (j | ⟨k, h, r⟩)
    · revert j; decide +kernel
    · revert k h r; decide +kernel
  · exact fun a b h => oCI_inj (csem_inj h)
  · intro k w s h
    have h1 := oStage w s
    rw [← h, cellIx_csem] at h1
    cases h1

abbrev own0 (c : Dev nD) : sProp 𝕄 := Pipeline.ownSems0 (Ix := Unit) (Name := ℕ) (U := UU) (Lvl := ℕ) (Val := Elt F) (τ := τ) osem c

omit [FloatOps F] in
/-- The barrier semaphore is the one semaphore outside the kernel. -/
theorem unscoped_eq (c : Dev nD) : (unscopedSems0 c : sProp 𝕄) = zer c (.inl 0) := by
  unfold unscopedSems0; rw [bigSep_eq_bigSepL_of_eq [SemLoc.reg barS] (by decide +kernel) (by decide)]; rfl

omit [FloatOps F] in
theorem zer_all (c : Dev nD) : zerC (F := F) c = iprop(zer c (.inl 0) ∗ bigSep Finset.univ fun j : OI => zer c (oCI j)) := by
  have e : (bigSep Finset.univ fun j : OI => (zer (F := F) c (oCI j)))
      = iprop((zer c (.inl 1) ∗ zer c (.inl 2)) ∗ bigSep Finset.univ fun x => zer c (.inr x)) := by
    rw [bigSep_univ_sum, sep_two]; rfl
  rw [zerC_eq, sep_cells, e]
  refine Entails.antisymm ?_ ?_
  · show (iprop((zer c (.inl 0) ∗ zer c (.inl 1) ∗ zer c (.inl 2)) ∗ bigSep Finset.univ fun x => zer c (.inr x)) : sProp 𝕄)
      ⊢ iprop(zer c (.inl 0) ∗ (zer c (.inl 1) ∗ zer c (.inl 2)) ∗ bigSep Finset.univ fun x => zer c (.inr x))
    iintro ⟨⟨H0, H1, H2⟩, H⟩
    isplitl [H0]; · iexact H0
    isplitl [H1 H2]
    · isplitl [H1] <;> iassumption
    iexact H
  · show (iprop(zer c (.inl 0) ∗ (zer c (.inl 1) ∗ zer c (.inl 2)) ∗ bigSep Finset.univ fun x => zer c (.inr x)) : sProp 𝕄)
      ⊢ iprop((zer c (.inl 0) ∗ zer c (.inl 1) ∗ zer c (.inl 2)) ∗ bigSep Finset.univ fun x => zer c (.inr x))
    iintro ⟨H0, ⟨H1, H2⟩, H⟩
    isplitl [H0 H1 H2]
    · isplitl [H0]; · iexact H0
      isplitl [H1] <;> iassumption
    iexact H

omit [FloatOps F] in
theorem sems_eq (c : Dev nD) : zerC (F := F) c = iprop(unscopedSems0 c ∗ own0 c) := by
  rw [zer_all, unscoped_eq]; rfl

/-! ## The launch element -/

/-- What a device is dealt first: its cells' states and positions and its own cells' tokens. -/
def G (c : Dev nD) : sProp 𝕄 :=
  iprop((bigSep Finset.univ fun i : CI => roundState ER (Rd m) (cell c i) 0) ∗ posC c
    ∗ (bigSep Finset.univ fun i : CI => reached ER (cell c i) 0) ∗ ownToks c)
/-- What it holds when the cells are set up and the tokens have gone to their payers. -/
def G' (c : Dev nD) : sProp 𝕄 := iprop((∃ K, recs0 m K) ∗ payToks c ∗ posC c)

theorem fund_all : BI.own (ER (initOf theCells theToks)) ⊢ (|==> bigSep Finset.univ (G m) : sProp 𝕄) := by
  have hX (Φ : GSem nD τ sig → sProp 𝕄) : bigSep theCells Φ = bigSep Finset.univ fun c : Dev nD => bigSep Finset.univ fun i : CI => Φ (cell c i) := by
    unfold theCells; rw [bigSep_map, bigSep_univ_prod]; rfl
  have hT : bigSep theToks (fun x => (dutyTok ER x.1 x.2.1 x.2.2 : sProp 𝕄)) = bigSep Finset.univ fun c : Dev nD => ownToks c := by
    unfold theToks; rw [bigSep_map, bigSep_univ_prod]
    exact bigSep_congr fun c _ => (ownToks_eq c).symm
  have hP : (bigSep Finset.univ fun c : Dev nD => bigSep Finset.univ fun i : CI => (atPos ER (cell c i) 0 ∅ 0 : sProp 𝕄))
      = bigSep Finset.univ fun c : Dev nD => posC c := bigSep_congr fun c _ => (posC_eq c).symm
  iintro HX
  imod (Rounds.fund ER (Rd m) theCells theToks) $$ HX with ⟨Hst, Hr, Hat, Htok⟩
  imodintro
  ihave Hst' := (Entails.of_eq (hX fun g => roundState ER (Rd m) g 0)) $$ Hst
  ihave Hat' := (Entails.of_eq ((hX fun g => atPos ER g 0 ∅ 0).trans hP)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

/-- A device's cells set up. -/
def setUp (c : Dev nD) : sProp 𝕄 :=
  iprop((bigSep Finset.univ fun i : CI => iprop(∃ κ : ℕ, cellInv ER (Rd m) κ (cell c i))) ∗ posC c
    ∗ (bigSep Finset.univ fun i : CI => reached ER (cell c i) 0) ∗ ownToks c)

theorem set_up (c : Dev nD) : iprop(own0 (F := F) c ∗ unscopedSems0 c ∗ G m c) ⊢ |={Set.univ}=> setUp m c := by
  have hal : iprop((bigSep Finset.univ fun i : CI => (zer (F := F) c i)) ∗ bigSep Finset.univ fun i : CI => roundState ER (Rd m) (cell c i) 0)
      ⊢ (|={Set.univ}=> bigSep Finset.univ fun i : CI => iprop(∃ κ : ℕ, cellInv ER (Rd m) κ (cell c i)) : sProp 𝕄) := by
    rw [← bigSep_sep']
    exact (bigSep_mono fun i _ => (Rounds.body_intro ER (Rd m) (cell c i)).trans inv_alloc).trans (bigSep_fupd _ _)
  unfold G setUp
  iintro ⟨Hos, Hus, Hst, Hat, Hr, Htok⟩
  ihave Hv := (Entails.of_eq ((sems_eq (F := F) c).symm.trans (zerC_eq c))) $$ [Hos Hus]
  · isplitl [Hus] <;> iassumption
  imod hal $$ [Hv Hst] with Hinv
  · isplitl [Hv] <;> iassumption
  imodintro
  isplitl [Hinv]; · iexact Hinv
  isplitl [Hat]; · iexact Hat
  isplitl [Hr]; · iexact Hr
  iexact Htok

/-! ## The tokens to their payers -/

section Around
omit [FloatOps F]

theorem around_eq {Φ : Dev nD → Fin 31 → sProp 𝕄} (e : Dev nD × Fin 31 ≃ Dev nD × Fin 31) :
    (bigSep Finset.univ fun c => bigSep Finset.univ fun r => Φ c r)
      = bigSep Finset.univ fun c => bigSep Finset.univ fun r => Φ (e (c, r)).1 (e (c, r)).2 := by
  rw [← bigSep_univ_prod (fun x : Dev nD × Fin 31 => Φ x.1 x.2), bigSep_univ_equiv e, bigSep_univ_prod]

def barE : Dev nD × Fin 31 ≃ Dev nD × Fin 31 where
  toFun x := (fwd x.1 x.2, rv x.2)
  invFun x := (fwd x.1 x.2, rv x.2)
  left_inv := fun ⟨c, r⟩ => by simp only [fwd_rv, rv_rv]
  right_inv := fun ⟨c, r⟩ => by simp only [fwd_rv, rv_rv]
def fwdE : Dev nD × Fin 31 ≃ Dev nD × Fin 31 where
  toFun x := (fwd x.1 x.2, x.2)
  invFun x := (bwd x.1 x.2, x.2)
  left_inv := fun ⟨c, r⟩ => by simp only [bwd_fwd]
  right_inv := fun ⟨c, r⟩ => by simp only [fwd_bwd]

theorem around_tok (k : Fin 4) (h : Fin 2) :
    (bigSep Finset.univ fun c : Dev nD => tokO (F := F) c k h) = bigSep Finset.univ fun c : Dev nD => tokP c k h :=
  around_eq (Φ := fun c r => tok c (.inr (k, h, r)) 0) fwdE
theorem around_bar :
    (bigSep Finset.univ fun c : Dev nD => bigSep Finset.univ fun r : Fin 31 => tok (F := F) c (.inl 0) r)
      = bigSep Finset.univ fun c : Dev nD => bigSep Finset.univ fun r : Fin 31 => tok (fwd c r) (.inl 0) (rv r) :=
  around_eq (Φ := fun c r => tok c (.inl 0) r) barE

theorem toks_around : (bigSep Finset.univ fun c : Dev nD => ownToks (F := F) c) = bigSep Finset.univ fun c : Dev nD => payToks c := by
  unfold ownToks payToks
  simp only [bigSep_sep']
  rw [around_bar, around_tok 1 0, around_tok 1 1, around_tok 3 0, around_tok 3 1]

end Around

theorem regroup : (bigSep Finset.univ fun c : Dev nD => setUp (F := F) m c) ⊢ bigSep Finset.univ (G' m) := by
  unfold setUp
  rw [bigSep_sep', bigSep_sep', bigSep_sep', toks_around,
    ← bigSep_univ_prod (fun ci : Dev nD × CI => (iprop(∃ κ : ℕ, cellInv ER (Rd (F := F) m) κ (cell ci.1 ci.2)) : sProp 𝕄)),
    ← bigSep_univ_prod (fun ci : Dev nD × CI => (reached ER (cell ci.1 ci.2) 0 : sProp 𝕄))]
  have hpt : ∀ K (c : Dev nD), iprop(recs0 m K ∗ payToks (F := F) c ∗ posC c) ⊢ G' m c := fun K c => by
    unfold G'
    iintro ⟨Hr, Ht⟩
    isplitl [Hr]; · iexists K; iexact Hr
    iexact Ht
  have hdeal : ∀ K, iprop(recs0 m K ∗ bigSep Finset.univ fun c : Dev nD => iprop(payToks (F := F) c ∗ posC c)) ⊢ bigSep Finset.univ (G' m) := fun K => by
    refine (sep_mono_left (BI.bigSep_of_persistent (Finset.univ : Finset (Dev nD)) (recs0 m K))).trans ?_
    rw [← bigSep_sep']
    exact bigSep_mono fun c _ => hpt K c
  iintro ⟨HI, Hat, #HR, Htok⟩
  ihave HK := (BI.bigSep_exists_pi Finset.univ (fun (ci : Dev nD × CI) (κ : ℕ) => (cellInv ER (Rd (F := F) m) κ (cell ci.1 ci.2) : sProp 𝕄))) $$ HI
  icases HK with ⟨%K, #HI⟩
  iapply (hdeal K)
  isplitr
  · unfold recs0; rw [bigSep_sep']; isplitl; · iexact HI
    iexact HR
  · rw [bigSep_sep']
    isplitl [Htok] <;> iassumption

/-- All devices' semaphores set up at once. -/
theorem glob : (bigSep Finset.univ fun c => iprop(own0 (F := F) c ∗ unscopedSems0 c ∗ G m c)) ⊢ |={Set.univ}=> bigSep Finset.univ (G' m) :=
  ((bigSep_mono fun c _ => set_up m c).trans (bigSep_fupd _ _)).trans (BI.fupd_mono (regroup m))

/-! ## The credits at launch -/

section Credits
omit [FloatOps F]

theorem cred_rem (f : Dev nD → Fin 31 → CellTallies nD τ sig Unit) (O : Dev nD → CellTallies nD τ sig Unit) (c : Dev nD)
    (Φ : Fin 31 → sProp 𝕄) (h : ∀ r, (Pipeline.launchCred (fun d => f d r) c : sProp 𝕄) ⊢ Φ r) :
    ∀ l, (Pipeline.launchCred (fun d => rem (f d) (O d) l) c : sProp 𝕄) ⊢ iprop(Pipeline.launchCred O c ∗ bigSepL l Φ)
  | [] => by
    rw [bigSepL_nil]
    show (Pipeline.launchCred O c : sProp 𝕄) ⊢ iprop(Pipeline.launchCred O c ∗ emp)
    iintro H
    isplitl [H]; · iexact H
    iempintro
  | r :: l => by
    have e : (Pipeline.launchCred (fun d => rem (f d) (O d) l + f d r) c : sProp 𝕄) = _ :=
      Pipeline.launchCred_add (fun d => rem (f d) (O d) l) (fun d => f d r) c
    have ih := cred_rem f O c Φ h l
    rw [bigSepL_cons']
    show (Pipeline.launchCred (fun d => rem (f d) (O d) l + f d r) c : sProp 𝕄) ⊢ iprop(Pipeline.launchCred O c ∗ Φ r ∗ bigSepL l Φ)
    rw [e]
    iintro ⟨H, Hr⟩
    ihave H' := ih $$ H
    icases H' with ⟨HO, Hl⟩
    ihave Hr' := (h r) $$ Hr
    isplitl [HO]; · iexact HO
    isplitl [Hr'] <;> iassumption

theorem cred_units (g : GSem nD τ sig) : ∀ l : List (Fin 31), bigSepL l (fun _ => (cred (tallyAt g () 1) : sProp 𝕄)) ⊢ cred (tallyAt g () l.length)
  | [] => by rw [bigSepL_nil]; show (iprop(emp) : sProp 𝕄) ⊢ cred (tallyAt g () 0); rw [tallyAt_zero, cred_zero]
  | r :: l => by
    rw [bigSepL_cons', show (r :: l).length = l.length + 1 from rfl, ← tallyAt_add]
    have e : (cred (tallyAt g () l.length + tallyAt g () 1) : sProp 𝕄) = iprop(cred (tallyAt g () l.length) ∗ cred (tallyAt g () 1)) :=
      BI.Entails.antisymm (cred_add _ _).1 (cred_add _ _).2
    rw [e]
    show (iprop(cred (tallyAt g () 1) ∗ bigSepL l (fun _ => (cred (tallyAt g () 1) : sProp 𝕄))) : sProp 𝕄) ⊢ iprop(cred (tallyAt g () l.length) ∗ cred (tallyAt g () 1))
    iintro ⟨H1, Hl⟩
    ihave Hl' := (cred_units g l) $$ Hl
    isplitl [Hl'] <;> iassumption

theorem offs_all (Φ : Fin 31 → sProp 𝕄) : bigSepL offs Φ = bigSep Finset.univ Φ :=
  (bigSep_univ_eq_bigSepL offs (by decide) (by decide) Φ).symm

theorem cred_x (O : Dev nD → CellTallies nD τ sig Unit) (c : Dev nD) (k : Fin 4) (h : Fin 2) :
    (Pipeline.launchCred (fun d => rem (xOwe d k h) (O d) offs) c : sProp 𝕄) ⊢ iprop(Pipeline.launchCred O c ∗ crdR c k h) := by
  have e := cred_rem (F := F) (fun d => xOwe d k h) O c (fun r => crd c (.inr (k, h, r)) N)
    (fun r => Pipeline.launchCred_tallyAt (csem (.inr (k, h, r))) (fun d => fwd d r) (fun d => bwd d r) (fun d => fwd_bwd d r) (fun d => bwd_fwd d r) () N c) offs
  rw [offs_all] at e
  exact e

theorem cred_bar (c : Dev nD) : (Pipeline.launchCred O₀ c : sProp 𝕄) ⊢ iprop(Pipeline.launchCred owe10 c ∗ crd c (.inl 0) 31) := by
  have e := cred_rem (F := F) barOwe owe10 c (fun r => cred (tallyAt (barCell c) () 1))
    (fun r => Pipeline.launchCred_tallyAt (csem (.inl 0)) (fun d => fwd d r) (fun d => bwd d r) (fun d => fwd_bwd d r) (fun d => bwd_fwd d r) () 1 c) offs
  refine Entails.trans e (sep_mono_right ?_)
  exact cred_units (barCell c) offs

theorem creds (c : Dev nD) : (Pipeline.launchCred O₀ c : sProp 𝕄) ⊢ crdC c := by
  have h1 : (Pipeline.launchCred owe10 c : sProp 𝕄) ⊢ iprop(Pipeline.launchCred owe11 c ∗ crdR c 1 0) := cred_x owe11 c 1 0
  have h2 : (Pipeline.launchCred owe11 c : sProp 𝕄) ⊢ iprop(Pipeline.launchCred owe30 c ∗ crdR c 1 1) := cred_x owe30 c 1 1
  have h3 : (Pipeline.launchCred owe30 c : sProp 𝕄) ⊢ iprop(Pipeline.launchCred owe31 c ∗ crdR c 3 0) := cred_x owe31 c 3 0
  have h4 : (Pipeline.launchCred owe31 c : sProp 𝕄) ⊢ iprop(Pipeline.launchCred (fun _ => 0) c ∗ crdR c 3 1) := cred_x (fun _ => 0) c 3 1
  rw [Pipeline.launchCred_zero] at h4
  unfold crdC
  iintro H
  ihave H := (cred_bar (F := F) c) $$ H
  icases H with ⟨H, Hb⟩
  ihave H := h1 $$ H
  icases H with ⟨H, H10⟩
  ihave H := h2 $$ H
  icases H with ⟨H, H11⟩
  ihave H := h3 $$ H
  icases H with ⟨H, H30⟩
  ihave H := h4 $$ H
  icases H with ⟨-, H31⟩
  isplitl [Hb]; · iexact Hb
  isplitl [H10 H11]
  · isplitl [H10] <;> iassumption
  isplitl [H30] <;> iassumption

end Credits

end Cert.KernelIdeal.Pf
-- ==== Proof.Run.lean ====
/-
The run of the whole program: the arguments lent to the body and put together again, and every run of the program ending
with what the pipeline's windows hold at the end, with the weights in place, and with every semaphore at zero.
-/
module

public import proofs.«01_k».proof.Proof.Deal
public import Idealize.ShloMosaic.Lib.Pipeline.Launch
public import Idealize.ShloMosaic.Lib.Pipeline.Kit
public import Idealize.ShloMosaic.Lib.Pipeline.CollectiveSegs
public import Idealize.ShloMosaic.Lib.Tactic
public import Idealize.ShloMosaic.Lib.Pipeline.BigSepL

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.ValueIdx

variable {F : FTy → Type} [FloatOps F]

variable {F : FTy → Type} [FloatOps F]

local notation "𝕄" => MT nD τ sig Unit (Elt F) ℕ UU ℕ

variable (m : (ℓ : Loc nD τ sig) → Buf (Elt F) ℓ) (ρ : Dev nD → Idealize.ShloMosaic.PrngReg)

/-! ## The weights, lent in part -/

def wqRest (c : Dev nD) : sProp 𝕄 := (wqV c).view.loc (c : Thread nD τ) ↦[Finset.univ \ (wqV c).view.set]{fullShare} (m ((c : Thread nD τ).loc main_arg1))
def woRest (c : Dev nD) : sProp 𝕄 := (woV c).view.loc (c : Thread nD τ) ↦[Finset.univ \ (woV c).view.set]{fullShare} (m ((c : Thread nD τ).loc main_arg4))

/-- The two weight matrices of a device. -/
abbrev wLoc (c : Dev nD) : Fin 2 → Loc nD τ sig
  | 0 => (c : Thread nD τ).loc main_arg1
  | 1 => (c : Thread nD τ).loc main_arg4

omit [FloatOps F] in
theorem wq_whole (c : Dev nD) :
    ((((c : Thread nD τ).loc main_arg1) ↦{fullShare} m ((c : Thread nD τ).loc main_arg1)) : sProp 𝕄) = iprop(wqPts m c ∗ wqRest m c) :=
  BI.Entails.antisymm (pointsTo_split_subset (Finset.subset_univ (wqV c).view.set)).1 (pointsTo_split_subset (Finset.subset_univ (wqV c).view.set)).2
omit [FloatOps F] in
theorem wo_whole (c : Dev nD) :
    ((((c : Thread nD τ).loc main_arg4) ↦{fullShare} m ((c : Thread nD τ).loc main_arg4)) : sProp 𝕄) = iprop(woPts m c ∗ woRest m c) :=
  BI.Entails.antisymm (pointsTo_split_subset (Finset.subset_univ (woV c).view.set)).1 (pointsTo_split_subset (Finset.subset_univ (woV c).view.set)).2

/-! ## Around the body -/

def rests (c : Dev nD) : sProp 𝕄 := iprop(wqRest m c ∗ woRest m c)
def ends (c : Dev nD) : sProp 𝕄 := iprop(unscopedSems0 c ∗ (wqPts m c ∗ woPts m c))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ rests m c) := by
  rw [Pipeline.unscopedRestP_none, unscopedRest0_eq, wq_whole, wo_whole]
  unfold G' start rests
  iintro ⟨⟨⟨Hq, Hqr⟩, Hw, Hwr⟩, Hlev, Hcr, -, ⟨%K, HK⟩, Ht, Hp⟩
  ihave Hc := (creds (F := F) c) $$ Hcr
  ihave Hg := (ghostC_intro (F := F) c) $$ [Hc Ht Hp]
  · isplitl [Ht]; · iexact Ht
    isplitl [Hp] <;> iassumption
  imodintro
  isplitl [Hq Hw HK Hlev Hg]
  · isplitl [HK Hlev]
    · iexists K; unfold recs recs0
      isplitl [HK] <;> iassumption
    isplitl [Hg]; · iexact Hg
    isplitl [Hq] <;> iassumption
  isplitl [Hqr] <;> iassumption

omit [FloatOps F] in
theorem q_whole (c : Dev nD) (f) : qPts (F := F) c f = (((c : Thread nD τ).loc cc0_scratch0) ↦{fullShare} f) := by
  unfold qPts; simp only [Memref.view_whole, View.set_whole]
omit [FloatOps F] in
theorem p_whole (c : Dev nD) (f) : pPts (F := F) c f = (((c : Thread nD τ).loc cc0_scratch1) ↦{fullShare} f) := by
  unfold pPts; simp only [Memref.view_whole, View.set_whole]
omit [FloatOps F] in
theorem scr_eq (c : Dev nD) : (Pipeline.scopedRest cfg0.spec c : sProp 𝕄) = scrC c := by
  rw [scopedRest0_eq]; unfold scrC aAllPts rAllPts gAllPts; simp only [q_whole, p_whole]

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scr_eq]
  unfold Φ₀
  iintro ⟨Hs, -, Hr⟩
  isplitl [Hs] <;> iassumption

theorem phi1_exit (c : Dev nD) :
    (dats m 0 c).Φ (Fin.last cfg0.N) ⊢ iprop(ends m c ∗ own0 c ∗ Pipeline.scopedRest cfg0.spec c) := by
  rw [show (dats m 0 c).Φ (Fin.last cfg0.N) = Φ₁ m c from rfl, scr_eq]
  unfold Φ₁ ends
  rw [sems_eq]
  iintro ⟨⟨Hu, Ho⟩, Hs, Hw⟩
  isplitl [Hu Hw]
  · isplitl [Hu] <;> iassumption
  isplitl [Ho] <;> iassumption

theorem share_eq (c : Dev nD) (w : Fin cfg0.W) : (dats m 0 c).share w = fullShare := by unfold Dat.share; split <;> rfl

theorem waits (c : Dev nD) : (levAts L lv : sProp 𝕄) ⊢ Pipeline.cellsWaits cfgs (dats m) () 0 c :=
  Pipeline.cellsWaits_intro cfgs (dats m) () 0 c fun w s t => by
    have h0 : Above 0 ((dats m 0 c).owed t) := by
      rcases t with ⟨_ | _, ht⟩
      · exact above0 c
      · exact above_zero 0
    refine mayWait c _ 0 ?_ h0
    have h1 := oStage w s
    show lvI (cellIx (.dma ((cfg0.spec w).sem s))) ≤ 0
    rw [h1]; exact Nat.le_refl 0

/-! ## The run -/

def finalA (c : Dev nD) (w : Fin cfg0.W) : Buf (Elt F) ((cfg0.win w).arr.view.loc (c : Thread nD τ)) := (dats m 0 c).arrAt w cfg0.N

def ended : PUnit × MemSt nD τ sig (Elt F) → Prop := fun r =>
  ∀ c : Dev nD, (∀ w : Fin cfg0.W, r.2.mem ((cfg0.win w).arr.view.loc (c : Thread nD τ)) = finalA m c w)
    ∧ ∀ i : Fin 2, r.2.mem (wLoc c i) = m (wLoc c i)

/-- A device's semaphores outside the kernel, and its weights, read at the end. -/
theorem read_end (c : Dev nD) (s' : Phys nD τ sig (Elt F)) :
    iprop(ends m c ∗ rests m c ∗ SI s')
      ⊢ (|={Set.univ}=> iprop(⌜(∀ sm : SemLoc sig, sm.isScoped .tc = false → s'.mem.sem ((c.tc : Thread nD τ), sm) = 0)
          ∧ ∀ i : Fin 2, s'.mem.mem (wLoc c i) = m (wLoc c i)⌝ ∗ SI s') : sProp 𝕄) := by
  have hw := pointsTo_read_all (Val := Elt F) (Ix := Unit) (Name := ℕ) (U := UU) (Lvl := ℕ) Finset.univ (wLoc c) (fun i => m (wLoc c i)) s'
  have hs := Pipeline.unscopedSems0_read (X := (unscopedSems0 c : sProp 𝕄)) (c := c) fupd_intro s'
  have he : (bigSep Finset.univ fun i : Fin 2 => ((wLoc c i) ↦{fullShare} m (wLoc c i) : sProp 𝕄))
      = iprop((wqPts m c ∗ wqRest m c) ∗ (woPts m c ∗ woRest m c)) := by
    rw [sep_two, ← wq_whole, ← wo_whole]
  rw [he] at hw
  unfold ends rests
  iintro ⟨⟨Hu, Hq, Hw⟩, ⟨Hqr, Hwr⟩, HSI⟩
  ihave H := hw $$ [Hq Hqr Hw Hwr HSI]
  · isplitr [HSI]
    · isplitl [Hq Hqr]
      · isplitl [Hq] <;> iassumption
      isplitl [Hw] <;> iassumption
    iexact HSI
  icases H with ⟨%h, HSI⟩
  imod hs $$ [Hu HSI] with ⟨%h', HSI⟩
  · isplitl [Hu] <;> iassumption
  imodintro
  isplitr
  · ipureintro; exact ⟨h', fun i => h i (Finset.mem_univ _)⟩
  iexact HSI

def s₀ : MemSt nD τ sig (Elt F) := ⟨m, fun _ => 0, ρ⟩

set_option maxRecDepth 65536 in
theorem run_main : θ_run defs (onTc (τ := τ) (main (F := F))) (s₀ m ρ) (fun r => ended m r ∧ r.2.sem = fun _ => 0) :=
  Pipeline.θ_run_region_owing_glob_pf (fun p => (cfgs p).toPCfg) (fun p => (cfgs p).toPCfg_adm) (dats m) () cellOf_inj (0 : Fin 1) winFacts0.to₀ ownSemFacts (Pipeline.PreFacts.none _)
    EP defs₀ 𝒱₀ m ρ main (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := ends m) (Z := rests m)
    (hX := start_intro m ρ) (hin := phi0_intro m) (hout := phi1_exit m)
    (QY := fun c s => (∀ sm : SemLoc sig, sm.isScoped .tc = false → s.sem ((c.tc : Thread nD τ), sm) = 0)
      ∧ ∀ i : Fin 2, s.mem (wLoc c i) = m (wLoc c i))
    (hY := fun c s' => read_end m c s')
    (hQ := fun _ h hs => ⟨fun c => ⟨(h c).1, (h c).2.2.2⟩, sem_eq_zero hs fun c => (h c).2.2.1⟩)

end Cert.KernelIdeal.Pf
-- ==== Proof.Frames.lean ====
/-
The three programs run and leave their arguments in place. The kernel is run once, for any float values: as printed and
idealized it is the same text.
-/
module

public import proofs.«01_k».proof.Defs
public import proofs.«01_k».proof.Proof.Run
public import proofs.«01_k».proof.Proof.Gen.Kernel
public import proofs.«01_k».proof.Proof.Gen.ReferenceIdeal
public import proofs.«01_k».proof.Proof.Gen.ReferenceIdeal.Run

@[expose] public section

noncomputable section

namespace Cert.KernelIdeal.Pf

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ)

/-- A device's arguments are what they were. -/
theorem args_end {r : PUnit × MemSt nD τ sig (Elt F)} (h : ended m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨((h c).1 0).trans ((dats m 0 c).arrAt_in 0 rfl _), (h c).2 0, ((h c).1 1).trans ((dats m 0 c).arrAt_in 1 rfl _),
    ((h c).1 2).trans ((dats m 0 c).arrAt_in 2 rfl _), (h c).2 1⟩

end Cert.KernelIdeal.Pf

namespace Cert.Proof

open Idealize.ShloMosaic Idealize.ShloMosaic.TcCoe Idealize.SL.Sem

/-- The frame of the idealized program's text, at the machine's own floats. -/
def textFrame : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

theorem text_frame : textFrame := fun m ρ _ =>
  (θ_run Cert.KernelIdeal.defs _ _).mono (fun _ h => ⟨fun c => Cert.KernelIdeal.Pf.args_end m h.1 c, h.2⟩)
    (Cert.KernelIdeal.Pf.run_main (F := Bits) m ρ)

set_option maxRecDepth 65536 in
theorem text_same : Cert.quiescent_Kernel = textFrame := by
  chain_rfl

theorem frame_kernel : Cert.quiescent_Kernel := text_same.mpr text_frame

theorem frame_ideal : Cert.quiescent_KernelIdeal := fun m ρ _ =>
  (θ_run Cert.KernelIdeal.defs _ _).mono (fun _ h => ⟨fun c => Cert.KernelIdeal.Pf.args_end m h.1 c, h.2⟩)
    (Cert.KernelIdeal.Pf.run_main (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof
-- ==== Proof.Attn.lean ====
/-
Causal-block attention over the extended reals, as the kernel and the reference both come to it.

A query may attend the keys of its own block of 64 positions and of earlier blocks; the other scores are replaced by a
large negative constant. The weights of a query are the exponentials of its scores less their maximum, divided by their sum.
-/
module

public import Idealize.ShloMosaic.Lib.Pointwise

@[expose] public section

noncomputable section

namespace Cert.Attn

open Idealize.ShloMosaic
open scoped BigOperators

/-- The largest of a query's scores. -/
def peak (L : Fin 256 → EReal) : EReal := (Finset.univ : Finset (Fin 256)).fold max (Ideal.ofBits .f32 0xFF800000#32) L

/-- The weight of one key. -/
def wgt (L : Fin 256 → EReal) (j : Fin 256) : EReal :=
  Ideal.div (Ideal.exp (L j - peak L)) (∑ t : Fin 256, Ideal.exp (L t - peak L))

/-- A query's scores with the keys of later blocks masked out. -/
def masked (s : Fin 256 → EReal) (i j : Fin 256) : EReal :=
  if j.val / 64 ≤ i.val / 64 then s j else Ideal.ofBits .f32 0xCE6E6B28#32

/-- One entry of a head's context: the values at one channel, weighted. -/
def head (s : Fin 256 → EReal) (v : Fin 256 → EReal) (i : Fin 256) : EReal :=
  ∑ j : Fin 256, wgt (masked s i) j * v j

/-- The word one eighth. -/
theorem ofBits_eighth : Ideal.ofBits .f32 0x3E000000#32 = (((1 : ℝ) / 8 : ℝ) : EReal) := by
  simp [Ideal.ofBits, Ideal.ieee, -EReal.coe_mul]; norm_num

/-- A finite nonnegative factor moves through a finite sum of extended reals. -/
theorem sum_mul_coe {ι : Type} [Fintype ι] (f : ι → EReal) (r : ℝ) (hr : 0 ≤ r) :
    (∑ i, f i) * (r : EReal) = ∑ i, f i * (r : EReal) := by
  classical
  induction (Finset.univ : Finset ι) using Finset.induction_on with
  | empty => simp
  | insert a s ha ih =>
    rw [Finset.sum_insert ha, Finset.sum_insert ha, ← ih]
    exact EReal.right_distrib_of_nonneg_of_ne_top (EReal.coe_nonneg.mpr hr) (EReal.coe_ne_top r) _ _

/-- Scaling the queries and scaling the scores is the same. -/
theorem scale_scores (q k : Fin 64 → EReal) :
    ∑ e, (q e * Ideal.ofBits .f32 0x3E000000#32) * k e = (∑ e, q e * k e) * Ideal.ofBits .f32 0x3E000000#32 := by
  rw [ofBits_eighth, sum_mul_coe _ _ (by norm_num)]
  exact Finset.sum_congr rfl fun e _ => mul_right_comm _ _ _

/-! ## The whole computation -/

/-- The token array, the projections and the cached keys and values. -/
abbrev Tok : Type := (⟨3, ![2, 256, 512]⟩ : Shape).Idx → EReal
abbrev Proj : Type := (⟨2, ![512, 8192]⟩ : Shape).Idx → EReal
abbrev Cache : Type := (⟨4, ![2, 256, 128, 64]⟩ : Shape).Idx → EReal
abbrev Back : Type := (⟨2, ![8192, 512]⟩ : Shape).Idx → EReal

/-- The scaled scores of one query of head `h` against every key. -/
def scores (x : Tok) (wq : Proj) (k : Cache) (b : Fin 2) (i : Fin 256) (h : Fin 128) (j : Fin 256) : EReal :=
  (∑ e : Fin 64, (∑ t : Fin 512, x (ix3 b i t) * wq (ix2 t ⟨64 * h.val + e.val, by omega⟩)) * k (ix4 b j h e)) * Ideal.ofBits .f32 0x3E000000#32

/-- One entry of the context of head `h`. -/
def context (x : Tok) (wq : Proj) (k v : Cache) (b : Fin 2) (i : Fin 256) (h : Fin 128) (d : Fin 64) : EReal :=
  head (scores x wq k b i h) (fun j => v (ix4 b j h d)) i

/-- One entry of the result: the contexts of all heads through the output projection. -/
def result (x : Tok) (wq : Proj) (k v : Cache) (wo : Back) (b : Fin 2) (i : Fin 256) (c : Fin 512) : EReal :=
  ∑ h : Fin 128, ∑ d : Fin 64, context x wq k v b i h d * wo (ix2 ⟨64 * h.val + d.val, by omega⟩ c)

/-- A sum over `m * n` places, by groups of `n`. -/
theorem sum_groups (m n N : ℕ) (hN : m * n = N) (f : Fin N → EReal) :
    ∑ t, f t = ∑ h : Fin m, ∑ d : Fin n, f ⟨n * h.val + d.val, by
      subst hN
      have h1 := h.isLt
      have h2 := d.isLt
      calc n * h.val + d.val < n * h.val + n := by omega
        _ = (h.val + 1) * n := by ring
        _ ≤ m * n := Nat.mul_le_mul_right _ h1⟩ := by
  subst hN
  rw [← Equiv.sum_comp finProdFinEquiv f, Fintype.sum_prod_type]
  refine Finset.sum_congr rfl fun h _ => Finset.sum_congr rfl fun d _ => congrArg f (Fin.ext ?_)
  show d.val + n * h.val = n * h.val + d.val
  exact Nat.add_comm _ _

end Cert.Attn

end
-- ==== Proof.Context.lean ====
/-
The context rows of one device over the extended reals: each of its eight blocks, one per batch and head, is the
attention of that head over the device's queries.
-/
module

public import proofs.«01_k».proof.Proof.Attn
public import proofs.«01_k».proof.Proof.Steps
public import Idealize.ShloMosaic.Lib.Pointwise
public import Idealize.ShloMosaic.Lib.Pipeline.Regions

@[expose] public section

noncomputable section

namespace Cert.KernelIdeal.Pf

open Cert.KernelIdeal Cert.KernelIdeal.Gen
open Idealize.ShloMosaic Idealize.ShloMosaic.TcCoe
open scoped BigOperators

/-! ## The mask -/

/-- A position's block, in words: the quotient by 64 rounded down. -/
def blockWord (x : BitVec 32) : BitVec 32 :=
  Scalar.select
    (IntOp.andi
      (IntOp.cmpi .ne (IntOp.subi ((IntOp.cmpi .sgt x 0#32).setWidth 32) ((IntOp.cmpi .slt x 0#32).setWidth 32)) 1#32)
      (IntOp.cmpi .ne (IntOp.remsi .vector x 64#32) 0#32))
    (IntOp.subi (IntOp.divsi .vector x 64#32) 1#32) (IntOp.divsi .vector x 64#32)

theorem blockWord_ofNat (i : Fin 256) : blockWord (BitVec.ofNat 32 i.val) = BitVec.ofNat 32 (i.val / 64) := by
  revert i; decide +kernel

theorem sle_block : ∀ a b : Fin 4, IntOp.cmpi .sle (BitVec.ofNat 32 a.val) (BitVec.ofNat 32 b.val) = if a.val ≤ b.val then 1#1 else 0#1 := by
  decide

/-- The mask the kernel builds. -/
def maskK : IVec S256x256 1 :=
  k0_pay6 (iota .tc S256x256 32 [0] iota_S256x256_d0_w32) k0_pay3 64#32 k0_pay4 k0_pay5
    (Scalar.extui (Scalar.cmpi .sgt 64#32 0#32)) (Scalar.extui (Scalar.cmpi .slt 64#32 0#32))

theorem maskK_words (i j : Fin 256) :
    maskK (ix2 i j) = IntOp.cmpi .sle (blockWord (BitVec.ofNat 32 j.val)) (blockWord (BitVec.ofNat 32 i.val)) := by
  have h1 : Scalar.subi (Scalar.extui (Scalar.cmpi .sgt 64#32 0#32)) (Scalar.extui (Scalar.cmpi .slt 64#32 0#32)) = (1#32 : BitVec 32) := by
    decide
  unfold maskK k0_pay6 k0_pay3 k0_pay4 k0_pay5 blockWord
  pointwise
  rw [h1]

theorem maskK_apply (i j : Fin 256) : maskK (ix2 i j) = if j.val / 64 ≤ i.val / 64 then 1#1 else 0#1 := by
  rw [maskK_words, blockWord_ofNat, blockWord_ofNat]
  exact sle_block ⟨j.val / 64, by omega⟩ ⟨i.val / 64, by omega⟩

/-! ## One head -/

section
variable {F : FTy → Type} [FloatOps F]

/-- The scores of one head, masked. -/
def scoresK (q k : FVec F S256x64 .bf16) : FVec F S256x256 .f32 :=
  select maskK (matmul dot_S256x64_S256x64_S256x256_1_1_0_0_n_n none q k (constant S256x256 .f32 0x00000000#32))
    (broadcast S256x256 (Scalar.ofBits .f32 0xCE6E6B28#32))

/-- The exponentials of the scores less their maximum. -/
def expsK (s : FVec F S256x256 .f32) : FVec F S256x256 .f32 :=
  exp (subf s (broadcastTo S256x256 (shapeCast S256x1 (multiReduction .maximumf [1] S256 s 0xFF800000#32 reduces_S256x256_S256 (.inl rfl) rfl) shapeCasts_S256_S256x1) broadcasts_S256x1_S256x256))

/-- The context of one head. -/
def mixK (e : FVec F S256x256 .f32) (v : FVec F S256x64 .bf16) : FVec F S256x64 .f32 :=
  matmul dot_S256x256_S256x64_S256x64_1_0_0_1_n_n none
    (truncf .bf16 (divf e (broadcastTo S256x256 (shapeCast S256x1 (multiReduction .add [1] S256 e 0x00000000#32 reduces_S256x256_S256 (.inl rfl) rfl) shapeCasts_S256_S256x1) broadcasts_S256x1_S256x256)) bitsLt_bf16_f32)
    v (constant S256x64 .f32 0x00000000#32)

/-- A head's rows of keys or values, as the products take them. -/
def rowsK (k : Vec F S1x256x1x64 .f32) : FVec F S256x64 .bf16 :=
  truncf .bf16 (shapeCast S256x64 k shapeCasts_S1x256x1x64_S256x64 : FVec F S256x64 .f32) bitsLt_bf16_f32

/-- Attention of one head over the given queries. -/
def headK (q : FVec F S256x64 .f32) (k v : Vec F S1x256x1x64 .f32) : FVec F S256x64 .f32 :=
  mixK (expsK (scoresK (truncf .bf16 q bitsLt_bf16_f32) (rowsK k))) (rowsK v)

/-- The four heads of one batch side by side. -/
def batchK (a b c d : FVec F S256x64 .f32) : FVec F S256x256 .f32 :=
  concatenate S256x256 1 [⟨S256x64, a⟩, ⟨S256x64, b⟩, ⟨S256x64, c⟩, ⟨S256x64, d⟩] concatenates_S256x64_S256x64_S256x64_S256x64_S256x256_d1

/-- The context rows: both batches, one under the other. -/
def rowsOf (q : FVec F S512x256 .f32) (k v : Fin 2 → Fin 4 → Vec F S1x256x1x64 .f32) : FVec F S512x256 .bf16 :=
  truncf .bf16 (concatenate S512x256 0
    [⟨S256x256, batchK (headK (extractStridedSlice S256x64 ![0, 0] q slices_S512x256_o0_0_S256x64) (k 0 0) (v 0 0))
        (headK (extractStridedSlice S256x64 ![0, 64] q slices_S512x256_o0_64_S256x64) (k 0 1) (v 0 1))
        (headK (extractStridedSlice S256x64 ![0, 128] q slices_S512x256_o0_128_S256x64) (k 0 2) (v 0 2))
        (headK (extractStridedSlice S256x64 ![0, 192] q slices_S512x256_o0_192_S256x64) (k 0 3) (v 0 3))⟩,
     ⟨S256x256, batchK (headK (extractStridedSlice S256x64 ![256, 0] q slices_S512x256_o256_0_S256x64) (k 1 0) (v 1 0))
        (headK (extractStridedSlice S256x64 ![256, 64] q slices_S512x256_o256_64_S256x64) (k 1 1) (v 1 1))
        (headK (extractStridedSlice S256x64 ![256, 128] q slices_S512x256_o256_128_S256x64) (k 1 2) (v 1 2))
        (headK (extractStridedSlice S256x64 ![256, 192] q slices_S512x256_o256_192_S256x64) (k 1 3) (v 1 3))⟩]
    concatenates_S256x256_S256x256_S512x256_d0 : FVec F S512x256 .f32) bitsLt_bf16_f32

set_option maxRecDepth 65536 in
theorem ctxOf_eq (x : Vec F S2x256x512 .f32) (wq : Vec F S512x256 .f32) (k v : Fin 2 → Fin 4 → Vec F S1x256x1x64 .f32) :
    ctxOf x wq k v = rowsOf (k0_pay2 (k0_pay1 x) wq) k v := by
  chain_rfl

end

/-! ## Over the extended reals -/

theorem scoresK_apply (q k : FVec Ideal S256x64 .bf16) (i j : Fin 256) :
    scoresK q k (ix2 i j) = Attn.masked (fun j => ∑ e : Fin 64, q (ix2 i e) * k (ix2 j e)) i j := by
  unfold scoresK Attn.masked
  pointwise [dot_S256x64_S256x64_S256x256_1_1_0_0_n_n]
  rw [maskK_apply]
  split <;> rfl

theorem expsK_apply (s : FVec Ideal S256x256 .f32) (i j : Fin 256) :
    expsK s (ix2 i j) = Ideal.exp (s (ix2 i j) - Attn.peak fun j => s (ix2 i j)) := by
  unfold expsK Attn.peak
  pointwise

theorem mixK_apply (e : FVec Ideal S256x256 .f32) (v : FVec Ideal S256x64 .bf16) (i : Fin 256) (d : Fin 64) :
    mixK e v (ix2 i d) = ∑ j : Fin 256, Ideal.div (e (ix2 i j)) (∑ t : Fin 256, e (ix2 i t)) * v (ix2 j d) := by
  unfold mixK
  pointwise [dot_S256x256_S256x64_S256x64_1_0_0_1_n_n]

theorem rowsK_apply (k : Vec Ideal S1x256x1x64 .f32) (j : Fin 256) (e : Fin 64) :
    rowsK k (ix2 j e) = k (ix4 0 j 0 e) := by
  unfold rowsK
  pointwise

theorem headK_apply (q : FVec Ideal S256x64 .f32) (k v : Vec Ideal S1x256x1x64 .f32) (i : Fin 256) (d : Fin 64) :
    headK q k v (ix2 i d)
      = Attn.head (fun j => ∑ e : Fin 64, q (ix2 i e) * k (ix4 0 j 0 e)) (fun j => v (ix4 0 j 0 d)) i := by
  unfold headK Attn.head Attn.wgt
  simp only [mixK_apply, expsK_apply, scoresK_apply, rowsK_apply]
  rfl

theorem batchK_apply (f : Fin 4 → FVec Ideal S256x64 .f32) (i : Fin 256) (h : Fin 4) (d : Fin 64) :
    batchK (f 0) (f 1) (f 2) (f 3) (ix2 i ⟨64 * h.val + d.val, by omega⟩) = f h (ix2 i d) := by
  unfold batchK
  have hd : d.val < 64 := d.isLt
  fin_cases h
  all_goals pointwise (disch := omega)
  all_goals split_ifs <;> first | omega | exact congrArg (fun z => f _ (ix2 i z)) (Fin.ext (by show _ = d.val; simp only []; omega))

/-- One entry of the device's context rows: batch `b`, position `i`, head `h`, channel `d`. -/
theorem rowsOf_apply (q : FVec Ideal S512x256 .f32) (k v : Fin 2 → Fin 4 → Vec Ideal S1x256x1x64 .f32)
    (b : Fin 2) (i : Fin 256) (h : Fin 4) (d : Fin 64) :
    rowsOf q k v (ix2 ⟨256 * b.val + i.val, by omega⟩ ⟨64 * h.val + d.val, by omega⟩)
      = Attn.head (fun j => ∑ e : Fin 64, q (ix2 ⟨256 * b.val + i.val, by omega⟩ ⟨64 * h.val + e.val, by omega⟩) * k b h (ix4 0 j 0 e))
          (fun j => v b h (ix4 0 j 0 d)) i := by
  have hi : i.val < 256 := i.isLt
  have hd : d.val < 64 := d.isLt
  let f (b : Fin 2) : Fin 4 → FVec Ideal S256x64 .f32 := match b with
    | 0 => fun h => match h with
      | 0 => headK (extractStridedSlice S256x64 ![0, 0] q slices_S512x256_o0_0_S256x64) (k 0 0) (v 0 0)
      | 1 => headK (extractStridedSlice S256x64 ![0, 64] q slices_S512x256_o0_64_S256x64) (k 0 1) (v 0 1)
      | 2 => headK (extractStridedSlice S256x64 ![0, 128] q slices_S512x256_o0_128_S256x64) (k 0 2) (v 0 2)
      | 3 => headK (extractStridedSlice S256x64 ![0, 192] q slices_S512x256_o0_192_S256x64) (k 0 3) (v 0 3)
    | 1 => fun h => match h with
      | 0 => headK (extractStridedSlice S256x64 ![256, 0] q slices_S512x256_o256_0_S256x64) (k 1 0) (v 1 0)
      | 1 => headK (extractStridedSlice S256x64 ![256, 64] q slices_S512x256_o256_64_S256x64) (k 1 1) (v 1 1)
      | 2 => headK (extractStridedSlice S256x64 ![256, 128] q slices_S512x256_o256_128_S256x64) (k 1 2) (v 1 2)
      | 3 => headK (extractStridedSlice S256x64 ![256, 192] q slices_S512x256_o256_192_S256x64) (k 1 3) (v 1 3)
  have hrows : rowsOf q k v (ix2 ⟨256 * b.val + i.val, by omega⟩ ⟨64 * h.val + d.val, by omega⟩)
      = batchK (f b 0) (f b 1) (f b 2) (f b 3) (ix2 i ⟨64 * h.val + d.val, by omega⟩) := by
    unfold rowsOf
    fin_cases b
    · pointwise
      rfl
    · pointwise
      rfl
  rw [hrows, batchK_apply (f b)]
  fin_cases b <;> fin_cases h <;> (show headK _ _ _ _ = _; rw [headK_apply]; pointwise)

/-! ## The queries -/

/-- The scaled queries: the device's columns of the projection of the tokens, times one eighth. -/
theorem queries_apply (x : Vec Ideal S2x256x512 .f32) (wq : Vec Ideal S512x256 .f32) (b : Fin 2) (i : Fin 256) (c : Fin 256) :
    k0_pay2 (k0_pay1 x) wq (ix2 ⟨256 * b.val + i.val, by omega⟩ c)
      = (∑ t : Fin 512, x (ix3 b i t) * wq (ix2 t c)) * Ideal.ofBits .f32 0x3E000000#32 := by
  have hi : i.val < 256 := i.isLt
  unfold k0_pay2 k0_pay1
  pointwise [dot_S512x512_S512x256_S512x256_1_0_0_1_n_n]

/-- One entry of a device's context rows, from what it holds. -/
theorem ctxOf_apply (x : Vec Ideal S2x256x512 .f32) (wq : Vec Ideal S512x256 .f32) (k v : Fin 2 → Fin 4 → Vec Ideal S1x256x1x64 .f32)
    (b : Fin 2) (i : Fin 256) (h : Fin 4) (d : Fin 64) :
    ctxOf x wq k v (ix2 ⟨256 * b.val + i.val, by omega⟩ ⟨64 * h.val + d.val, by omega⟩)
      = Attn.head (fun j => (∑ e : Fin 64, (∑ t : Fin 512, x (ix3 b i t) * wq (ix2 t ⟨64 * h.val + e.val, by omega⟩)) * k b h (ix4 0 j 0 e))
            * Ideal.ofBits .f32 0x3E000000#32)
          (fun j => v b h (ix4 0 j 0 d)) i := by
  rw [ctxOf_eq, rowsOf_apply]
  refine congrArg (fun s => Attn.head s (fun j => v b h (ix4 0 j 0 d)) i) (funext fun j => ?_)
  simp only [queries_apply]
  exact Attn.scale_scores _ _

/-! ## The product with the device's rows of the output projection -/

theorem product_apply (ctx : FVec Ideal S512x256 .bf16) (wo : Vec Ideal S256x512 .f32) (r c : Fin 512) :
    k0_pay23 ctx wo (ix2 r c) = ∑ t : Fin 256, ctx (ix2 r t) * wo (ix2 t c) := by
  unfold k0_pay23
  pointwise [dot_S512x256_S256x512_S512x512_1_0_0_1_n_n]

/-! ## The sum over the slots and the result -/

theorem slots_apply (v : Vec Ideal S32x16x256 .bf16) (h : Fin 2) (r : Fin 16) (c : Fin 256) :
    redOf h v (ix3 0 r c) = ∑ o : Fin 32, v (ix3 o r c) := by
  unfold redOf k0_pay25 k0_pay26
  split <;> pointwise

theorem result_apply (v : Vec Ideal S32x16x512 .bf16) (b : Fin 2) (i : Fin 256) (c : Fin 512) :
    k0_pay27 v (ix3 b i c) = v (ix3 ⟨b.val * 16 + i.val / 16, by omega⟩ ⟨i.val % 16, by omega⟩ c) := by
  unfold k0_pay27
  pointwise

end Cert.KernelIdeal.Pf

end
-- ==== Proof.Value.lean ====
/-
What the kernel leaves in its result, over the extended reals: at every device the sum over all devices of their
partial products; and what the loads read of the arguments.
-/
module

public import proofs.«01_k».proof.Proof.Context
public import proofs.«01_k».proof.Proof.Run
public import Idealize.ShloMosaic.Lib.Pipeline.ValueKit.Geometry
public import Idealize.ShloMosaic.Lib.Layout

@[expose] public section

noncomputable section

namespace Cert.KernelIdeal.Pf

open Cert.KernelIdeal Cert.KernelIdeal.Gen
open Idealize.ShloMosaic Idealize.ShloMosaic.TcCoe
open scoped BigOperators

section
variable {F : FTy → Type} [FloatOps F]
variable (m : (ℓ : Loc nD τ sig) → Buf (Elt F) ℓ)

/-! ## The result array -/

theorem finalA_out (c : Dev nD) : finalA m c (3 : Fin 4) = outC m := by
  unfold finalA
  refine (dats m 0 c).arrAt_eq_of_after_last (3 : Fin 4) t0_0 (by unfold Pipeline.Window.WholeAt; decide +kernel) (outC m) (fun j => ?_)
  rfl

/-! ## What the loads read -/

theorem read_x (c : Dev nD) (b : Fin 2) (i : Fin 256) (t : Fin 512) :
    xM.view.readAt (Elt F) rX.toLoadRect (xC m c) (ix3 b i t) = m ((c : Thread nD τ).loc main_arg0) (ix3 b i t) := by
  have h : (xC m c : S2x256x512.Idx → Elt F .f32) = m ((c : Thread nD τ).loc main_arg0) :=
    Memref.read_access_unit_zero (Elt F) main_arg0 (by funext a; fin_cases a <;> rfl) _ _
  exact (congrFun (Memref.readAt_unit_zero (Elt F) cc0_stg0_0 (by funext a; fin_cases a <;> rfl) _ (xC m c)) (ix3 b i t)).trans (congrFun h _)

theorem read_kv (f : S2x256x4x64.Idx → Elt F .f32) (b : Fin 2) (h : Fin 4) (j : Fin 256) (e : Fin 64) :
    kM.view.readAt (Elt F) (kvR b h).toLoadRect f (ix4 0 j 0 e) = f (ix4 b j h e) := by
  show f _ = f _
  refine congrArg f (funext fun a => Fin.ext ?_)
  match a with
  | ⟨0, _⟩ => show b.val + 1 * 0 = b.val; omega
  | ⟨1, _⟩ => show 0 + 1 * j.val = j.val; omega
  | ⟨2, _⟩ => show h.val + 1 * 0 = h.val; omega
  | ⟨3, _⟩ => show 0 + 1 * e.val = e.val; omega

theorem read_k (c : Dev nD) (b : Fin 2) (h : Fin 4) (j : Fin 256) (e : Fin 64) :
    kM.view.readAt (Elt F) (kvR b h).toLoadRect (kC m c) (ix4 0 j 0 e) = m ((c : Thread nD τ).loc main_arg2) (ix4 b j h e) := by
  have hk : (kC m c : S2x256x4x64.Idx → Elt F .f32) = m ((c : Thread nD τ).loc main_arg2) :=
    Memref.read_access_unit_zero (Elt F) main_arg2 (by funext a; fin_cases a <;> rfl) _ _
  exact (read_kv (kC m c) b h j e).trans (congrFun hk _)

theorem read_v (c : Dev nD) (b : Fin 2) (h : Fin 4) (j : Fin 256) (e : Fin 64) :
    vM.view.readAt (Elt F) (kvR b h).toLoadRect (vC m c) (ix4 0 j 0 e) = m ((c : Thread nD τ).loc main_arg3) (ix4 b j h e) := by
  have hv : (vC m c : S2x256x4x64.Idx → Elt F .f32) = m ((c : Thread nD τ).loc main_arg3) :=
    Memref.read_access_unit_zero (Elt F) main_arg3 (by funext a; fin_cases a <;> rfl) _ _
  exact (read_kv (vC m c) b h j e).trans (congrFun hv _)

theorem cols_lt (c : Dev nD) (t : Fin 256) : 256 * c.val + t.val < 8192 := by
  have h : c.val < 32 := c.isLt
  omega

theorem off_cols : ∀ c : Dev nD, k0_off1 c = ![0, 256 * c.val] := by decide +kernel
theorem off_rows : ∀ c : Dev nD, k0_off2 c = ![256 * c.val, 0] := by decide +kernel

theorem read_wq (c : Dev nD) (t : Fin 512) (u : Fin 256) :
    qM.view.readAt (Elt F) rQ.toLoadRect (wqC m c) (ix2 t u)
      = m ((c : Thread nD τ).loc main_arg1) (ix2 t (⟨256 * c.val + u.val, cols_lt c u⟩ : Fin 8192)) := by
  refine (congrFun (Memref.readAt_unit_zero (Elt F) cc0_scratch0 (by funext a; fin_cases a <;> rfl) _ (wqC m c)) (ix2 t u)).trans ?_
  show m ((c : Thread nD τ).loc main_arg1) _ = _
  refine congrArg (m ((c : Thread nD τ).loc main_arg1)) (funext fun a => Fin.ext ?_)
  match a with
  | ⟨0, _⟩ =>
    show k0_off1 c 0 + 1 * t.val = t.val
    rw [off_cols]
    show 0 + 1 * t.val = t.val
    omega
  | ⟨1, _⟩ =>
    show k0_off1 c 1 + 1 * u.val = 256 * c.val + u.val
    rw [off_cols]
    show 256 * c.val + 1 * u.val = 256 * c.val + u.val
    omega

theorem read_wo (c : Dev nD) (t : Fin 256) (u : Fin 512) :
    pM.view.readAt (Elt F) rP.toLoadRect (woC m c) (ix2 t u)
      = m ((c : Thread nD τ).loc main_arg4) (ix2 (⟨256 * c.val + t.val, cols_lt c t⟩ : Fin 8192) u) := by
  refine (congrFun (Memref.readAt_unit_zero (Elt F) cc0_scratch1 (by funext a; fin_cases a <;> rfl) _ (woC m c)) (ix2 t u)).trans ?_
  show m ((c : Thread nD τ).loc main_arg4) _ = _
  refine congrArg (m ((c : Thread nD τ).loc main_arg4)) (funext fun a => Fin.ext ?_)
  match a with
  | ⟨0, _⟩ =>
    show k0_off2 c 0 + 1 * t.val = 256 * c.val + t.val
    rw [off_rows]
    show 256 * c.val + 1 * t.val = 256 * c.val + t.val
    omega
  | ⟨1, _⟩ =>
    show k0_off2 c 1 + 1 * u.val = u.val
    rw [off_rows]
    show 0 + 1 * u.val = u.val
    omega

theorem read_half (f : S32x16x512.Idx → Elt F .bf16) (h : Fin 2) (o : Fin 32) (r : Fin 16) (u : Fin 256) :
    rM.view.readAt (Elt F) (hR h).toLoadRect f (ix3 o r u) = f (ix3 o r ⟨256 * h.val + u.val, by omega⟩) := by
  show f _ = f _
  refine congrArg f (funext fun a => Fin.ext ?_)
  match a with
  | ⟨0, _⟩ => show 0 + 1 * o.val = o.val; omega
  | ⟨1, _⟩ => show 0 + 1 * r.val = r.val; omega
  | ⟨2, _⟩ => show 256 * h.val + 1 * u.val = 256 * h.val + u.val; omega

end

/-! ## The exchange -/

variable (m : (ℓ : Loc nD τ sig) → Buf (Elt Ideal) ℓ)

theorem back_bijective (c : Dev nD) : Function.Bijective (back c) := by
  have h : Function.Injective (back c) := by
    have h' : ∀ (c : Dev nD) (o o' : Fin 32), back c o = back c o' → o = o' := by decide +kernel
    exact fun o o' => h' c o o'
  exact Finite.injective_iff_bijective.mp h

/-- A device's partial product. -/
def prtE (p : Dev nD) : S512x512.Idx → EReal := prtC m p

/-- The gathered rows and the result block. -/
def gatE : S32x16x512.Idx → EReal := gatC m
def outE : S2x256x512.Idx → EReal := outC m

/-- The rows gathered: each the sum over the devices of their partial products' row. -/
theorem gatC_apply (g : Fin 32) (r : Fin 16) (u : Fin 512) :
    gatE m (ix3 g r u) = ∑ p : Dev nD, prtE m p (ix2 (⟨16 * g.val + r.val, by omega⟩ : Fin 512) u) := by
  have hu : 256 * (hOf u).val + (u.val - 256 * (hOf u).val) = u.val := by
    have : (hOf u).val = u.val / 256 := rfl
    omega
  have h1 : gatE m (ix3 g r u) = redOf (hOf u) (rM.view.readAt (Elt Ideal) (hR (hOf u)).toLoadRect (rcvC m g)) (ix3 (0 : Fin 1) r (⟨u.val - 256 * (hOf u).val, hOf_sub u⟩ : Fin 256)) := rfl
  rw [h1, slots_apply]
  refine (Finset.sum_congr rfl fun o _ => ?_ : _ = ∑ o : Fin 32, prtE m (back g o) (ix2 (⟨16 * g.val + r.val, by omega⟩ : Fin 512) u)).trans
    (Function.Bijective.sum_comp (back_bijective g) (fun p => prtE m p (ix2 (⟨16 * g.val + r.val, by omega⟩ : Fin 512) u)))
  refine (read_half (F := Ideal) (rcvC m g) (hOf u) o r ⟨u.val - 256 * (hOf u).val, hOf_sub u⟩).trans ?_
  exact congrArg (fun z => prtE m (back g o) (ix2 (⟨16 * g.val + r.val, by omega⟩ : Fin 512) z)) (Fin.ext hu)

/-- One entry of the result, from the devices' partial products. -/
theorem outC_apply (b : Fin 2) (i : Fin 256) (u : Fin 512) :
    outE m (ix3 b i u) = ∑ p : Dev nD, prtE m p (ix2 (⟨256 * b.val + i.val, by omega⟩ : Fin 512) u) := by
  have hg : gM.view.readAt (Elt Ideal) rG.toLoadRect (gatC m) = gatC m :=
    Memref.readAt_unit_zero (Elt Ideal) cc0_scratch4 (by funext a; fin_cases a <;> rfl) _ _
  show outC m (ix3 b i u) = _
  unfold outC
  rw [hg]
  refine (result_apply (gatC m) b i u).trans ((gatC_apply m _ _ u).trans ?_)
  refine Finset.sum_congr rfl fun p _ => congrArg (fun z => prtE m p (ix2 z u)) (Fin.ext ?_)
  show 16 * (b.val * 16 + i.val / 16) + i.val % 16 = 256 * b.val + i.val
  omega

end Cert.KernelIdeal.Pf

end
-- ==== Proof.Agree.lean ====
/-
The kernel's result block is the attention of the whole arrays: each device's partial product is the share of
its four heads, and the devices' shares add up to all 128.
-/
module

public import proofs.«01_k».proof.Proof.Value
public import Idealize.ShloMosaic.Lib.Layout

@[expose] public section

noncomputable section

namespace Cert.KernelIdeal.Pf

open Cert.KernelIdeal Cert.KernelIdeal.Gen
open Idealize.ShloMosaic Idealize.ShloMosaic.TcCoe
open scoped BigOperators

/-- The arrays that device `c` holds: the tokens and both projections whole, and its block of four heads of the keys and values. -/
structure Holds (m : (ℓ : Loc nD τ sig) → Buf (Elt Ideal) ℓ) (c : Dev nD) (x : Attn.Tok) (wq : Attn.Proj)
    (k v : Attn.Cache) (wo : Attn.Back) : Prop where
  tok : ∀ i : S2x256x512.Idx, (m ((c : Thread nD τ).loc main_arg0) : S2x256x512.Idx → EReal) i = x i
  proj : ∀ i : S512x8192.Idx, (m ((c : Thread nD τ).loc main_arg1) : S512x8192.Idx → EReal) i = wq i
  keys : ∀ (b : Fin 2) (j : Fin 256) (h : Fin 4) (e : Fin 64),
    (m ((c : Thread nD τ).loc main_arg2) : S2x256x4x64.Idx → EReal) (ix4 b j h e)
      = k (ix4 b j ⟨4 * c.val + h.val, by have : c.val < 32 := c.isLt; omega⟩ e)
  vals : ∀ (b : Fin 2) (j : Fin 256) (h : Fin 4) (e : Fin 64),
    (m ((c : Thread nD τ).loc main_arg3) : S2x256x4x64.Idx → EReal) (ix4 b j h e)
      = v (ix4 b j ⟨4 * c.val + h.val, by have : c.val < 32 := c.isLt; omega⟩ e)
  back : ∀ i : S8192x512.Idx, (m ((c : Thread nD τ).loc main_arg4) : S8192x512.Idx → EReal) i = wo i

variable (m : (ℓ : Loc nD τ sig) → Buf (Elt Ideal) ℓ)
variable {x : Attn.Tok} {wq : Attn.Proj} {k v : Attn.Cache} {wo : Attn.Back}

/-- The head that is `h`-th on device `p`. -/
def headOf (p : Dev nD) (h : Fin 4) : Fin 128 := ⟨4 * p.val + h.val, by have : p.val < 32 := p.isLt; omega⟩

theorem ctx_apply (p : Dev nD) (H : Holds m p x wq k v wo) (b : Fin 2) (i : Fin 256) (h : Fin 4) (d : Fin 64) :
    (ctxC m p : S512x256.Idx → EReal) (ix2 ⟨256 * b.val + i.val, by omega⟩ ⟨64 * h.val + d.val, by omega⟩)
      = Attn.context x wq k v b i (headOf p h) d := by
  refine (ctxOf_apply _ _ _ _ b i h d).trans ?_
  unfold Attn.context
  refine congrArg₂ (fun s w => Attn.head s w i) (funext fun j => ?_) (funext fun j => ?_)
  · unfold Attn.scores
    refine congrArg (· * Ideal.ofBits .f32 0x3E000000#32) (Finset.sum_congr rfl fun e _ => ?_)
    refine congrArg₂ (fun a b : EReal => a * b) (Finset.sum_congr rfl fun t _ => congrArg₂ (fun a b : EReal => a * b) ?_ ?_) ?_
    · exact (read_x m p b i t).trans (H.tok _)
    · refine (read_wq m p t ⟨64 * h.val + e.val, by omega⟩).trans ((H.proj _).trans (congrArg (fun z => wq (ix2 t z)) (Fin.ext ?_)))
      show 256 * p.val + (64 * h.val + e.val) = 64 * (4 * p.val + h.val) + e.val
      omega
    · exact (read_k m p b h j e).trans (H.keys b j h e)
  · exact (read_v m p b h j d).trans (H.vals b j h d)

theorem prtE_apply (p : Dev nD) (H : Holds m p x wq k v wo) (b : Fin 2) (i : Fin 256) (u : Fin 512) :
    prtE m p (ix2 ⟨256 * b.val + i.val, by omega⟩ u)
      = ∑ h : Fin 4, ∑ d : Fin 64, Attn.context x wq k v b i (headOf p h) d
          * wo (ix2 ⟨64 * (headOf p h).val + d.val, by omega⟩ u) := by
  refine (product_apply (ctxC m p) _ _ u).trans ?_
  rw [Attn.sum_groups 4 64 256 (by norm_num)]
  refine Finset.sum_congr rfl fun h _ => Finset.sum_congr rfl fun d _ => ?_
  refine congrArg₂ (fun a b : EReal => a * b) (ctx_apply m p H b i h d) ?_
  refine (read_wo m p ⟨64 * h.val + d.val, by omega⟩ u).trans ((H.back _).trans (congrArg (fun z => wo (ix2 z u)) (Fin.ext ?_)))
  show 256 * p.val + (64 * h.val + d.val) = 64 * (4 * p.val + h.val) + d.val
  omega

/-- One entry of the result block is the attention of the whole arrays. -/
theorem outE_eq (H : ∀ p : Dev nD, Holds m p x wq k v wo) (b : Fin 2) (i : Fin 256) (u : Fin 512) :
    outE m (ix3 b i u) = Attn.result x wq k v wo b i u := by
  rw [outC_apply]
  unfold Attn.result
  rw [Attn.sum_groups 32 4 128 (by norm_num)]
  exact Finset.sum_congr rfl fun p _ => prtE_apply m p (H p) b i u

end Cert.KernelIdeal.Pf

end
-- ==== Proof.RefValue.lean ====
module

public import proofs.«01_k».proof.Proof.Attn
public import proofs.«01_k».proof.Proof.Gen.ReferenceIdeal
public import proofs.«01_k».proof.Proof.Gen.ReferenceIdeal.Run
public import Idealize.ShloMosaic.Lib.Pointwise
public import Idealize.ShloMosaic.Lib.Pipeline.Regions

@[expose] public section

/-! The reference's result, read at an index: its term is cut into stages — the blocks of the tokens, the
mask, the scores, the weights, the head outputs, the output product — and each stage is read on its own. -/

noncomputable section

namespace Cert.ReferenceIdeal.Pf

open Cert.ReferenceIdeal Cert.ReferenceIdeal.Gen Cert.ReferenceIdeal.Value Idealize.ShloMosaic
  Idealize.ShloMosaic.TcCoe Idealize.SL.Sem Idealize.ShloMosaic.StableHlo

/-- The block that each token lies in, as the reference writes a floor division. -/
def blockR : IVec S256 32 :=
  select (andi (cmpi .ne (signi (iotaInDim S256 32 0))
        (broadcastInDim S256 ![] bcast_S_S256 (signi (id (constantI S_ 32 64#32)))))
      (cmpi .ne (Host.remsi (iotaInDim S256 32 0) (broadcastInDim S256 ![] bcast_S_S256 (id (constantI S_ 32 64#32))))
        (broadcastInDim S256 ![] bcast_S_S256 (constantI S_ 32 0#32))))
    (subi (Host.divsi (iotaInDim S256 32 0) (broadcastInDim S256 ![] bcast_S_S256 (id (constantI S_ 32 64#32))))
      (broadcastInDim S256 ![] bcast_S_S256 (constantI S_ 32 1#32)))
    (Host.divsi (iotaInDim S256 32 0) (broadcastInDim S256 ![] bcast_S_S256 (id (constantI S_ 32 64#32))))

/-- Which key tokens a query token sees, from the blocks of the tokens. -/
def seesR (blk : IVec S256 32) : IVec S256x256 1 :=
  cmpi .sle
    (broadcastInDim S256x256 ![0, 1] bcast_S1x256_S256x256_0_1 (broadcastInDim S1x256 ![1] bcast_S256_S1x256_1 blk))
    (broadcastInDim S256x256 ![0, 1] bcast_S256x1_S256x256_0_1 (broadcastInDim S256x1 ![0] bcast_S256_S256x1_0 blk))

/-- Which query tokens see some key token. -/
def keepR (mask : IVec S256x256 1) : IVec S256 1 :=
  Host.reduce IntOp.ori mask (constantI S_ 1 0#1) reducesTo_S256x256_S256_d1 h_S_

/-- The masked scores. -/
def scoresR (mask : IVec S256x256 1) (x : FVec Ideal S2x256x512 .f32) (wq : FVec Ideal S512x8192 .f32)
    (k : FVec Ideal S2x256x128x64 .f32) : FVec Ideal S2x128x256x256 .f32 :=
  select (broadcastInDim S2x128x256x256 ![0, 1, 2, 3] bcast_S1x1x256x256_S2x128x256x256_0_1_2_3
      (broadcastInDim S1x1x256x256 ![2, 3] bcast_S256x256_S1x1x256x256_2_3 mask))
    (mulf (Host.dotGeneral dot_S2x256x128x64_S2x256x128x64_S2x128x256x256_3_3_1_1_02_02 none
        (shapeCast _ (Host.dotGeneral dot_S2x256x512_S512x8192_S2x256x8192_2_0_01_1_n_n none x wq)
          shapeCasts_S2x256x8192_S2x256x128x64) k)
      (broadcastInDim S2x128x256x256 ![] bcast_S_S2x128x256x256 (constant S_ .f32 0x3E000000#32)))
    (broadcastInDim S2x128x256x256 ![] bcast_S_S2x128x256x256 (id (constant S_ .f32 0xCE6E6B28#32)))

/-- The exponentials of the scores less their greatest. -/
def expsR (s : FVec Ideal S2x128x256x256 .f32) : FVec Ideal S2x128x256x256 .f32 :=
  Host.exp (subf s (broadcastInDim S2x128x256x256 ![0, 1, 2, 3] bcast_S2x128x256x1_S2x128x256x256_0_1_2_3
    (broadcastInDim S2x128x256x1 ![0, 1, 2] bcast_S2x128x256_S2x128x256x1_0_1_2
      (Host.reduce FloatOps.maximumf s (constant S_ .f32 0xFF800000#32) reducesTo_S2x128x256x256_S2x128x256_d3 h_S_))))

/-- The weights: each exponential over the sum of its row. -/
def probsR (keep : IVec S256 1) (e : FVec Ideal S2x128x256x256 .f32) : FVec Ideal S2x128x256x256 .f32 :=
  Host.divf e (broadcastInDim S2x128x256x256 ![0, 1, 2, 3] bcast_S2x128x256x1_S2x128x256x256_0_1_2_3
    (select (broadcastInDim S2x128x256x1 ![0, 1, 2, 3] bcast_S1x1x256x1_S2x128x256x1_0_1_2_3
        (broadcastInDim S1x1x256x1 ![2] bcast_S256_S1x1x256x1_2 keep))
      (broadcastInDim S2x128x256x1 ![0, 1, 2] bcast_S2x128x256_S2x128x256x1_0_1_2
        (Host.reduceAdd e (constant S_ .f32 0x00000000#32) reducesTo_S2x128x256x256_S2x128x256_d3 h_S_))
      (broadcastInDim S2x128x256x1 ![] bcast_S_S2x128x256x1 (id (constant S_ .f32 0x3F800000#32)))))

/-- The head outputs from the weights and the values. -/
def contextR (keep : IVec S256 1) (p : FVec Ideal S2x128x256x256 .f32) (v : FVec Ideal S2x256x128x64 .f32) :
    FVec Ideal S2x128x64x256 .f32 :=
  Host.dotGeneral dot_S2x256x128x64_S2x128x256x256_S2x128x64x256_1_3_3_2_02_01 none v
    (select (broadcastInDim S2x128x256x256 ![0, 1, 2, 3] bcast_S1x1x256x1_S2x128x256x256_0_1_2_3
        (broadcastInDim S1x1x256x1 ![2] bcast_S256_S1x1x256x1_2 keep)) p
      (broadcastInDim S2x128x256x256 ![] bcast_S_S2x128x256x256 (id (constant S_ .f32 0x00000000#32))))

/-- The output product. -/
def outR (ctx : FVec Ideal S2x128x64x256 .f32) (wo : FVec Ideal S8192x512 .f32) : FVec Ideal S2x256x512 .f32 :=
  Host.dotGeneral dot_S2x256x8192_S8192x512_S2x256x512_2_0_01_1_n_n none
    (shapeCast _ (transpose S2x256x128x64 [0, 3, 1, 2] ctx transposes_S2x128x64x256_S2x256x128x64_0_3_1_2)
      shapeCasts_S2x256x128x64_S2x256x8192) wo

set_option maxRecDepth 65536 in
/-- The reference's result is the stages put together. -/
theorem result_eq (m : (ℓ : Loc nD τ sig) → Buf (Elt Ideal) ℓ) (c : Dev nD) :
    res_main_v33 m c = outR (contextR (keepR (seesR blockR)) (probsR (keepR (seesR blockR))
      (expsR (scoresR (seesR blockR) (m ((c.tc : Thread nD τ).loc main_arg0)) (m ((c.tc : Thread nD τ).loc main_arg1))
        (m ((c.tc : Thread nD τ).loc main_arg2))))) (m ((c.tc : Thread nD τ).loc main_arg3)))
      (m ((c.tc : Thread nD τ).loc main_arg4)) := by
  chain_rfl

theorem blockR_apply (i : Fin 256) : blockR (ix1 i) = BitVec.ofNat 32 (i.val / 64) := by
  revert i
  pointwise [blockR]
  decide +kernel

theorem seesR_apply (blk : IVec S256 32) (i j : Fin 256) :
    seesR blk (ix2 i j) = IntOp.cmpi .sle (blk (ix1 j)) (blk (ix1 i)) := by
  pointwise [seesR]

theorem one_or : ∀ a : BitVec 1, IntOp.ori 1#1 a = 1#1 := by decide

theorem keepR_apply (mask : IVec S256x256 1) (i : Fin 256) (h : mask (ix2 i i) = 1#1) :
    keepR mask (ix1 i) = 1#1 := by
  pointwise [keepR]
  rw [← Finset.insert_erase (Finset.mem_univ i), Finset.fold_insert (Finset.notMem_erase i _), h]
  exact one_or _

theorem scoresR_apply (mask : IVec S256x256 1) (x : FVec Ideal S2x256x512 .f32) (wq : FVec Ideal S512x8192 .f32)
    (k : FVec Ideal S2x256x128x64 .f32) (b : Fin 2) (h : Fin 128) (i j : Fin 256) :
    scoresR mask x wq k (ix4 b h i j) = Scalar.select (mask (ix2 i j))
      (Attn.scores x wq k b i h j) (Ideal.ofBits .f32 0xCE6E6B28#32) := by
  pointwise [scoresR, dot_S2x256x128x64_S2x256x128x64_S2x128x256x256_3_3_1_1_02_02,
    dot_S2x256x512_S512x8192_S2x256x8192_2_0_01_1_n_n]
  refine congrArg (fun z => Scalar.select (mask (ix2 i j)) z (Ideal.ofBits .f32 0xCE6E6B28#32)) ?_
  unfold Attn.scores
  simp only [Nat.mul_comm h.val 64]

theorem expsR_apply (s : FVec Ideal S2x128x256x256 .f32) (b : Fin 2) (h : Fin 128) (i j : Fin 256) :
    expsR s (ix4 b h i j)
      = Ideal.exp (s (ix4 b h i j) - Attn.peak (fun t => s (ix4 b h i t))) := by
  pointwise [expsR]
  rfl

theorem probsR_apply (keep : IVec S256 1) (e : FVec Ideal S2x128x256x256 .f32) (b : Fin 2) (h : Fin 128)
    (i j : Fin 256) (hk : keep (ix1 i) = 1#1) :
    probsR keep e (ix4 b h i j) = Ideal.div (e (ix4 b h i j)) (∑ t : Fin 256, e (ix4 b h i t)) := by
  pointwise [probsR]
  rw [hk]
  rfl

theorem contextR_apply (keep : IVec S256 1) (p : FVec Ideal S2x128x256x256 .f32) (v : FVec Ideal S2x256x128x64 .f32)
    (b : Fin 2) (h : Fin 128) (d : Fin 64) (i : Fin 256) (hk : keep (ix1 i) = 1#1) :
    contextR keep p v (ix4 b h d i) = ∑ j : Fin 256, p (ix4 b h i j) * v (ix4 b j h d) := by
  pointwise [contextR, dot_S2x256x128x64_S2x128x256x256_S2x128x64x256_1_3_3_2_02_01]
  rw [hk]
  exact Finset.sum_congr rfl fun j _ => mul_comm _ _

theorem outR_apply (ctx : FVec Ideal S2x128x64x256 .f32) (wo : FVec Ideal S8192x512 .f32)
    (b : Fin 2) (i : Fin 256) (u : Fin 512) :
    outR ctx wo (ix3 b i u) = ∑ h : Fin 128, ∑ d : Fin 64, ctx (ix4 b h d i) * wo (ix2 ⟨64 * h.val + d.val, by omega⟩ u) := by
  pointwise [outR, dot_S2x256x8192_S8192x512_S2x256x512_2_0_01_1_n_n]
  rw [Attn.sum_groups 128 64 8192 (by norm_num)]
  refine Finset.sum_congr rfl fun h _ => Finset.sum_congr rfl fun d _ => ?_
  refine congrArg₂ (fun p q => ctx (ix4 b p q i) * wo (ix2 ⟨64 * h.val + d.val, by omega⟩ u)) (Fin.ext ?_) (Fin.ext ?_)
  · show (64 * h.val + d.val) / 64 = h.val
    omega
  · show (64 * h.val + d.val) % 64 = d.val
    omega

/-! ## The stages together -/

theorem sle_block : ∀ a b : Fin 4, IntOp.cmpi .sle (BitVec.ofNat 32 a.val) (BitVec.ofNat 32 b.val)
    = if a.val ≤ b.val then 1#1 else 0#1 := by decide +kernel

/-- The mask: a query sees the keys of its own block and of earlier blocks. -/
theorem mask_apply (i j : Fin 256) :
    seesR blockR (ix2 i j) = if j.val / 64 ≤ i.val / 64 then 1#1 else 0#1 := by
  rw [seesR_apply, blockR_apply, blockR_apply]
  exact sle_block ⟨j.val / 64, by omega⟩ ⟨i.val / 64, by omega⟩

/-- Every query sees a key: itself. -/
theorem keep_apply (i : Fin 256) : keepR (seesR blockR) (ix1 i) = 1#1 :=
  keepR_apply _ i (by rw [mask_apply]; simp)

theorem masked_apply (x : FVec Ideal S2x256x512 .f32) (wq : FVec Ideal S512x8192 .f32)
    (k : FVec Ideal S2x256x128x64 .f32) (b : Fin 2) (h : Fin 128) (i j : Fin 256) :
    scoresR (seesR blockR) x wq k (ix4 b h i j) = Attn.masked (Attn.scores x wq k b i h) i j := by
  rw [scoresR_apply, mask_apply]
  unfold Attn.masked
  split_ifs <;> rfl

theorem weights_apply (x : FVec Ideal S2x256x512 .f32) (wq : FVec Ideal S512x8192 .f32)
    (k : FVec Ideal S2x256x128x64 .f32) (b : Fin 2) (h : Fin 128) (i j : Fin 256) :
    probsR (keepR (seesR blockR)) (expsR (scoresR (seesR blockR) x wq k)) (ix4 b h i j)
      = Attn.wgt (Attn.masked (Attn.scores x wq k b i h) i) j := by
  rw [probsR_apply _ _ _ _ _ _ (keep_apply i)]
  simp only [expsR_apply, masked_apply]
  rfl

/-- One entry of the stages put together. -/
theorem stages_apply (x : FVec Ideal S2x256x512 .f32) (wq : FVec Ideal S512x8192 .f32)
    (k v : FVec Ideal S2x256x128x64 .f32) (wo : FVec Ideal S8192x512 .f32) (b : Fin 2) (i : Fin 256) (u : Fin 512) :
    outR (contextR (keepR (seesR blockR)) (probsR (keepR (seesR blockR)) (expsR (scoresR (seesR blockR) x wq k))) v) wo
        (ix3 b i u) = Attn.result x wq k v wo b i u := by
  rw [outR_apply]
  unfold Attn.result
  refine Finset.sum_congr rfl fun h _ => Finset.sum_congr rfl fun d _ => ?_
  rw [contextR_apply _ _ _ _ _ _ _ (keep_apply i)]
  simp only [weights_apply]
  rfl

/-- One entry of the reference's result. -/
theorem result_apply (m : (ℓ : Loc nD τ sig) → Buf (Elt Ideal) ℓ) (c : Dev nD) (b : Fin 2) (i : Fin 256) (u : Fin 512) :
    (res_main_v33 m c : S2x256x512.Idx → EReal) (ix3 b i u)
      = Attn.result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) b i u :=
  (congrFun (result_eq m c) (ix3 b i u)).trans (stages_apply _ _ _ _ _ b i u)

end Cert.ReferenceIdeal.Pf

end
-- ==== Proof.Algebraic.lean ====
/-
The value claim: from arrays that agree, every device's result is the reference's, exactly over the reals.
-/
module

public import proofs.«01_k».proof.Defs
public import proofs.«01_k».proof.Proof.Frames
public import proofs.«01_k».proof.Proof.Agree
public import proofs.«01_k».proof.Proof.RefValue

@[expose] public section

noncomputable section

namespace Cert.KernelIdeal.Pf

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ)

/-- Every device ends with the same result block. -/
theorem result_end {r : PUnit × MemSt nD τ sig (Elt F)} (h : ended m r) (c : Dev nD) :
    r.2.mem ((c.tc : Thread nD τ).loc main_v1) = outC m :=
  ((h c).1 3).trans (finalA_out m c)

end Cert.KernelIdeal.Pf

namespace Cert.Proof

open Idealize.ShloMosaic Idealize.ShloMosaic.TcCoe Idealize.SL.Sem

/-- An index of the result array, by its coordinates. -/
theorem idx3 (a : (⟨3, ![2, 256, 512]⟩ : Shape).Idx) :
    a = ix3 (⟨(a 0).val, (a 0).isLt⟩ : Fin 2) (⟨(a 1).val, (a 1).isLt⟩ : Fin 256) (⟨(a 2).val, (a 2).isLt⟩ : Fin 512) := by
  funext q
  match q with
  | ⟨0, _⟩ => rfl
  | ⟨1, _⟩ => rfl
  | ⟨2, _⟩ => rfl

/-- Device `c`'s block of four heads, read at an index. -/
theorem block_heads (w : Attn.Cache) (c : Fin 32) (b : Fin 2) (j : Fin 256) (h : Fin 4) (e : Fin 64) :
    (Layout.block ⟨4, ![2, 256, 4, 64]⟩ ⟨4, ![2, 256, 128, 64]⟩ 2 32 c w : (⟨4, ![2, 256, 4, 64]⟩ : Shape).Idx → EReal) (ix4 b j h e)
      = w (ix4 b j ⟨4 * c.val + h.val, by omega⟩ e) := by
  rw [Layout.block_apply]
  refine congrArg w (funext fun q => Fin.ext ?_)
  rw [Layout.Tiles.idx_val]
  match q with
  | ⟨0, _⟩ => rfl
  | ⟨1, _⟩ => rfl
  | ⟨2, _⟩ =>
    show c.val * 4 + h.val = 4 * c.val + h.val
    omega
  | ⟨3, _⟩ => rfl

theorem algebraic : Cert.algebraic_KernelIdeal_ReferenceIdeal := by
  intro m g m' g' _ hin
  have H : ∀ p : Dev Cert.KernelIdeal.nD, Cert.KernelIdeal.Pf.Holds m p
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) := fun p =>
    ⟨fun i => congrFun (hin p).1 i, fun i => congrFun (hin p).2.1 i,
      fun b j h e => (congrFun (hin p).2.2.1 (ix4 b j h e)).trans (block_heads _ p b j h e),
      fun b j h e => (congrFun (hin p).2.2.2.1 (ix4 b j h e)).trans (block_heads _ p b j h e),
      fun i => congrFun (hin p).2.2.2.2 i⟩
  have hv : Cert.KernelIdeal.Pf.outE m = Cert.ReferenceIdeal.Value.res_main_v33 m' 0 := by
    funext a
    rw [idx3 a, Cert.KernelIdeal.Pf.outE_eq m H]
    exact (Cert.ReferenceIdeal.Pf.result_apply m' 0 _ _ _).symm
  refine ⟨Cert.ReferenceIdeal.Value.res_main_v33 m' 0, ?_, ?_⟩
  · exact (θ_run Cert.KernelIdeal.defs _ _).mono
      (fun r h c => ⟨(Cert.KernelIdeal.Pf.result_end m h.1 c).trans hv, Cert.KernelIdeal.Pf.args_end m h.1 c⟩)
      (Cert.KernelIdeal.Pf.run_main (F := Ideal) m g)
  · exact (θ_run Cert.ReferenceIdeal.defs _ _).mono (fun r h => h 0)
      (Cert.ReferenceIdeal.Value.run (F := Ideal) m' g')

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Algebraic

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    frame_kernel, frame_ideal, frame_reference, trivial, algebraic⟩

end Cert.Proof

end
